-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨3, ![8, 4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨3, ![4, 4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v25) i = v0 c i)
          ∧ (∀ i : (⟨3, ![8, 4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v26) i = v1 c i)
          ∧ (∀ i : (⟨3, ![4, 4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v22) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v487) = v0 c
          ∧ r.2.mem ((c.tc : Thread Cert.Reference14Ideal.nD Cert.Reference14Ideal.τ).loc Cert.Reference14Ideal.main_v417) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_written.lean ====
abbrev S4096x1024 : Shape := ⟨2, ![4096, 1024]⟩
abbrev S4x4096x512 : Shape := ⟨3, ![4, 4096, 512]⟩
abbrev S8x4096x1024 : Shape := ⟨3, ![8, 4096, 1024]⟩
abbrev S4x512x1024 : Shape := ⟨3, ![4, 512, 1024]⟩
abbrev S1024x1024 : Shape := ⟨2, ![1024, 1024]⟩
abbrev S_ : Shape := ⟨0, ![]⟩
abbrev S4x4096x1024 : Shape := ⟨3, ![4, 4096, 1024]⟩

class Facts : Prop where
  bcast_S_S4x4096x1024 : S_.BroadcastsInDim S4x4096x1024 (![] : Fin 0 → Fin S4x4096x1024.rank)
  bcast_S_S8x4096x1024 : S_.BroadcastsInDim S8x4096x1024 (![] : Fin 0 → Fin S8x4096x1024.rank)
  bcast_S_S4x4096x512 : S_.BroadcastsInDim S4x4096x512 (![] : Fin 0 → Fin S4x4096x512.rank)

variable [Facts]

def fn {F : FTy → Type} [FloatOps F] (main_arg0 : FVec F S4096x1024 .f32) (main_arg1 : FVec F S4x4096x512 .bf16) (main_arg2 : FVec F S8x4096x1024 .f32) (main_arg3 : FVec F S4x512x1024 .bf16) (main_arg4 : FVec F S1024x1024 .bf16) : IVec S4x4096x1024 1 × IVec S8x4096x1024 1 × IVec S4x4096x512 1 :=
  let main_c : IVec S_ 1 := constantI S_ 1 1#1
  let main_v0 : IVec S4x4096x1024 1 := broadcastInDim S4x4096x1024 ![] bcast_S_S4x4096x1024 main_c
  let main_v1 : IVec S8x4096x1024 32 := iotaInDim S8x4096x1024 32 0
  let main_c_0 : IVec S_ 32 := constantI S_ 32 4#32
  let main_v2 : IVec S8x4096x1024 32 := broadcastInDim S8x4096x1024 ![] bcast_S_S8x4096x1024 main_c_0
  let main_v3 : IVec S8x4096x1024 1 := cmpi .sge main_v1 main_v2
  let main_c_1 : IVec S_ 1 := constantI S_ 1 1#1
  let main_v4 : IVec S4x4096x512 1 := broadcastInDim S4x4096x512 ![] bcast_S_S4x4096x512 main_c_1
  (main_v0, main_v3, main_v4)
-- ==== Pre_finite.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩
abbrev S1x4096x2816 : Shape := ⟨3, ![1, 4096, 2816]⟩
abbrev S4096x2816 : Shape := ⟨2, ![4096, 2816]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  slices_S2x4096x2816_S1x4096x2816_1_0_0 : S2x4096x2816.Slices ![1, 0, 0] S1x4096x2816
  shapeCasts_S1x4096x2816_S4096x2816 : S1x4096x2816.ShapeCasts S4096x2816
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S2x4096x2816 .bf16) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S1x4096x2816 .bf16 := (extractStridedSlice S1x4096x2816 ![1, 0, 0] · slices_S2x4096x2816_S1x4096x2816_1_0_0) main_arg2
  let main_v8 : FVec F S4096x2816 .bf16 := shapeCast S4096x2816 main_v7 shapeCasts_S1x4096x2816_S4096x2816
  let main_v9 : FVec F S4096x2816 .f32 := (extf .f32 · bitsLt_bf16_f32) main_v8
  let main_v10 : FVec F S4096x2816 .f32 := Host.absf main_v9
  let main_cst_1 : FVec F S_ .f32 := constant S_ .f32 0x7F800000#32
  let main_v11 : FVec F S4096x2816 .f32 := broadcastInDim S4096x2816 ![] bcast_S_S4096x2816 main_cst_1
  let main_v12 : IVec S4096x2816 1 := cmpf .olt main_v10 main_v11
  (main_v2, main_v6, main_v12)
-- ==== Kernel.lean ====
abbrev S4096x1024 : Shape := ⟨2, ![4096, 1024]⟩
abbrev S4x4096x512 : Shape := ⟨3, ![4, 4096, 512]⟩
abbrev S8x4096x1024 : Shape := ⟨3, ![8, 4096, 1024]⟩
abbrev S4x512x1024 : Shape := ⟨3, ![4, 512, 1024]⟩
abbrev S1024x1024 : Shape := ⟨2, ![1024, 1024]⟩
abbrev S4x4096x1024 : Shape := ⟨3, ![4, 4096, 1024]⟩
abbrev S256x1024 : Shape := ⟨2, ![256, 1024]⟩
abbrev S4x256x512 : Shape := ⟨3, ![4, 256, 512]⟩
abbrev S4x256x1024 : Shape := ⟨3, ![4, 256, 1024]⟩
abbrev S1x256x1024 : Shape := ⟨3, ![1, 256, 1024]⟩
abbrev S1x256x512 : Shape := ⟨3, ![1, 256, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4x4096x512, .bf16⟩
  | .hbm, ⟨2, _⟩ => ⟨S8x4096x1024, .f32⟩
  | .hbm, ⟨3, _⟩ => ⟨S4x512x1024, .bf16⟩
  | .hbm, ⟨4, _⟩ => ⟨S1024x1024, .bf16⟩
  | .hbm, ⟨5, _⟩ => ⟨S4x4096x1024, .bf16⟩
  | .hbm, ⟨6, _⟩ => ⟨S8x4096x1024, .bf16⟩
  | .hbm, ⟨7, _⟩ => ⟨S4x4096x512, .f32⟩
  | .local _ .vmem, ⟨0, _⟩ => ⟨S256x1024, .f32⟩
  | .local _ .vmem, ⟨1, _⟩ => ⟨S256x1024, .f32⟩
  | .local _ .vmem, ⟨2, _⟩ => ⟨S4x256x512, .bf16⟩
  | .local _ .vmem, ⟨3, _⟩ => ⟨S4x256x512, .bf16⟩
  | .local _ .vmem, ⟨4, _⟩ => ⟨S4x256x1024, .f32⟩
  | .local _ .vmem, ⟨5, _⟩ => ⟨S4x256x1024, .f32⟩
  | .local _ .vmem, ⟨6, _⟩ => ⟨S4x512x1024, .bf16⟩
  | .local _ .vmem, ⟨7, _⟩ => ⟨S1024x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S4x256x512, .f32⟩
  | .local _ .vmem, ⟨13, _⟩ => ⟨S4x256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x1024 : Shape := ⟨2, ![4096, 1024]⟩
abbrev S4x4096x512 : Shape := ⟨3, ![4, 4096, 512]⟩
abbrev S8x4096x1024 : Shape := ⟨3, ![8, 4096, 1024]⟩
abbrev S4x512x1024 : Shape := ⟨3, ![4, 512, 1024]⟩
abbrev S1024x1024 : Shape := ⟨2, ![1024, 1024]⟩
abbrev S4x4096x1024 : Shape := ⟨3, ![4, 4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x512, .bf16⟩
  | .hbm, ⟨2, _⟩ => ⟨S8x4096x1024, .f32⟩
  | .hbm, ⟨3, _⟩ => ⟨S4x512x1024, .bf16⟩
  | .hbm, ⟨4, _⟩ => ⟨S1024x1024, .bf16⟩
  | .hbm, ⟨5, _⟩ => ⟨S4x4096x512, .f32⟩
  | .hbm, ⟨6, _⟩ => ⟨S4x512x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S_, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x512, .f32⟩
  | .hbm, ⟨32, _⟩ => ⟨S_, .f32⟩
  | .hbm, ⟨33, _⟩ => ⟨S4x4096x1024, .f32⟩
  | .hbm, ⟨34, _⟩ => ⟨S8x4096x1024, .f32⟩
  | .hbm, ⟨35, _⟩ => ⟨S4x4096x1024, .bf16⟩
  | .hbm, ⟨36, _⟩ => ⟨S8x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel2.lean ====
abbrev S4x4096x512 : Shape := ⟨3, ![4, 4096, 512]⟩
abbrev S4x4096x1024 : Shape := ⟨3, ![4, 4096, 1024]⟩
abbrev S4x512x1024 : Shape := ⟨3, ![4, 512, 1024]⟩
abbrev S1x2048x512 : Shape := ⟨3, ![1, 2048, 512]⟩
abbrev S1x2048x1024 : Shape := ⟨3, ![1, 2048, 1024]⟩
abbrev S1x512x1024 : Shape := ⟨3, ![1, 512, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1024, .bf16⟩
  | .hbm, ⟨2, _⟩ => ⟨S4x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 1, 1, 2], ![false, false, false, false, false]⟩

def k0_cond3 (i : grid0.Coords) : BitVec 1 :=
  let arg4 : BitVec 32 := BitVec.ofNat 32 (i 4).val
  let c1_i32 : BitVec 32 := 1#32
  let v11 : BitVec 1 := Scalar.cmpi .eq arg4 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg1.toNat, arg3.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference2Ideal.lean ====
abbrev S4x4096x512 : Shape := ⟨3, ![4, 4096, 512]⟩
abbrev S4x4096x1024 : Shape := ⟨3, ![4, 4096, 1024]⟩
abbrev S_ : Shape := ⟨0, ![]⟩
abbrev S4x512x1024 : Shape := ⟨3, ![4, 512, 1024]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1024, .bf16⟩
  | .hbm, ⟨2, _⟩ => ⟨S4x4096x512, .f32⟩
  | .hbm, ⟨3, _⟩ => ⟨S4x4096x1024, .f32⟩
  | .hbm, ⟨4, _⟩ => ⟨S_, .f32⟩
  | .hbm, ⟨5, _⟩ => ⟨S4x512x1024, .f32⟩
  | .hbm, ⟨6, _⟩ => ⟨S4x4096x1024, .f32⟩
  | .hbm, ⟨7, _⟩ => ⟨S4x1024x512, .f32⟩
  | .hbm, ⟨8, _⟩ => ⟨S4x512x1024, .f32⟩
  | .hbm, ⟨9, _⟩ => ⟨S4x512x1024, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .f32⟩
  | .hbm, ⟨2, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1024x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨5, ![1, 1, 1, 1, 4], ![false, false, false, false, false]⟩

def k0_cond3 (i : grid0.Coords) : BitVec 1 :=
  let arg4 : BitVec 32 := BitVec.ofNat 32 (i 4).val
  let c3_i32 : BitVec 32 := 3#32
  let v12 : BitVec 1 := Scalar.cmpi .eq arg4 c3_i32
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg1.toNat, arg3.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, true, false]
-- ==== Reference3Ideal.lean ====
abbrev S1x4096x1024 : Shape := ⟨3, ![1, 4096, 1024]⟩
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1x4096x1024, .f32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S2x4096x2816 : Shape := ⟨3, ![2, 4096, 2816]⟩
abbrev S4096x2816 : Shape := ⟨2, ![4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S32x1408 : Shape := ⟨2, ![32, 1408]⟩
abbrev S1x32x1408 : Shape := ⟨3, ![1, 32, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .hbm, ⟨4, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2x4096x2816, .bf16⟩
  | .hbm, ⟨3, _⟩ => ⟨S2816x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S1x4096x2816, .f32⟩
  | .hbm, ⟨38, _⟩ => ⟨S1x4096x2816, .f32⟩
  | .hbm, ⟨39, _⟩ => ⟨S2x4096x2816, .f32⟩
  | .hbm, ⟨40, _⟩ => ⟨S2x4096x2816, .bf16⟩
  | .hbm, ⟨41, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel5.lean ====
abbrev S1x4096x1024 : Shape := ⟨3, ![1, 4096, 1024]⟩
abbrev S8x4096x1024 : Shape := ⟨3, ![8, 4096, 1024]⟩
abbrev S8x1024x1024 : Shape := ⟨3, ![8, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x1024, .bf16⟩
  | .hbm, ⟨1, _⟩ => ⟨S8x4096x1024, .bf16⟩
  | .hbm, ⟨2, _⟩ => ⟨S8x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 1, 8, 1, 2], ![false, false, false, false, false]⟩

def k0_cond3 (i : grid0.Coords) : BitVec 1 :=
  let arg4 : BitVec 32 := BitVec.ofNat 32 (i 4).val
  let c1_i32 : BitVec 32 := 1#32
  let v11 : BitVec 1 := Scalar.cmpi .eq arg4 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg0 c8_i32
  let v1 : BitVec 32 := Scalar.addi v0 arg2
  let c0_i32 : BitVec 32 := 0#32
  ![v1.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg0 c8_i32
  let v1 : BitVec 32 := Scalar.addi v0 arg2
  let c0_i32 : BitVec 32 := 0#32
  ![v1.toNat, arg1.toNat, arg3.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference5Ideal.lean ====
abbrev S1x4096x1024 : Shape := ⟨3, ![1, 4096, 1024]⟩
abbrev S8x4096x1024 : Shape := ⟨3, ![8, 4096, 1024]⟩
abbrev S4096x1024 : Shape := ⟨2, ![4096, 1024]⟩
abbrev S_ : Shape := ⟨0, ![]⟩
abbrev S8x1024x1024 : Shape := ⟨3, ![8, 1024, 1024]⟩
abbrev S8x1024x4096 : Shape := ⟨3, ![8, 1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S8x4096x1024, .bf16⟩
  | .hbm, ⟨2, _⟩ => ⟨S4096x1024, .bf16⟩
  | .hbm, ⟨3, _⟩ => ⟨S4096x1024, .f32⟩
  | .hbm, ⟨4, _⟩ => ⟨S8x4096x1024, .f32⟩
  | .hbm, ⟨5, _⟩ => ⟨S_, .f32⟩
  | .hbm, ⟨6, _⟩ => ⟨S8x1024x1024, .f32⟩
  | .hbm, ⟨7, _⟩ => ⟨S8x1024x4096, .f32⟩
  | .hbm, ⟨8, _⟩ => ⟨S8x4096x1024, .f32⟩
  | .hbm, ⟨9, _⟩ => ⟨S8x1024x4096, .f32⟩
  | .hbm, ⟨10, _⟩ => ⟨S8x1024x1024, .f32⟩
  | .hbm, ⟨11, _⟩ => ⟨S8x1024x1024, .f32⟩
  | .hbm, ⟨12, _⟩ => ⟨S8x1024x1024, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S1x4096x2816 : Shape := ⟨3, ![1, 4096, 2816]⟩
abbrev S1x4096x1024 : Shape := ⟨3, ![1, 4096, 1024]⟩
abbrev S1x2816x1024 : Shape := ⟨3, ![1, 2816, 1024]⟩
abbrev S1x1024x1408 : Shape := ⟨3, ![1, 1024, 1408]⟩
abbrev S1x1024x1024 : Shape := ⟨3, ![1, 1024, 1024]⟩
abbrev S1x1408x1024 : Shape := ⟨3, ![1, 1408, 1024]⟩
abbrev S1408x1024 : Shape := ⟨2, ![1408, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x2816, .bf16⟩
  | .hbm, ⟨1, _⟩ => ⟨S1x4096x1024, .f32⟩
  | .hbm, ⟨2, _⟩ => ⟨S1x2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S1x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 1, 1, 4], ![false, false, false, false, false]⟩

def k0_cond3 (i : grid0.Coords) : BitVec 1 :=
  let arg4 : BitVec 32 := BitVec.ofNat 32 (i 4).val
  let c3_i32 : BitVec 32 := 3#32
  let v12 : BitVec 1 := Scalar.cmpi .eq arg4 c3_i32
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg1.toNat, arg3.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference6Ideal.lean ====
abbrev S1x4096x2816 : Shape := ⟨3, ![1, 4096, 2816]⟩
abbrev S1x4096x1024 : Shape := ⟨3, ![1, 4096, 1024]⟩
abbrev S4096x2816 : Shape := ⟨2, ![4096, 2816]⟩
abbrev S_ : Shape := ⟨0, ![]⟩
abbrev S2816x1024 : Shape := ⟨2, ![2816, 1024]⟩
abbrev S4096x1024 : Shape := ⟨2, ![4096, 1024]⟩
abbrev S1024x2816 : Shape := ⟨2, ![1024, 2816]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x2816, .bf16⟩
  | .hbm, ⟨1, _⟩ => ⟨S1x4096x1024, .f32⟩
  | .hbm, ⟨2, _⟩ => ⟨S4096x2816, .bf16⟩
  | .hbm, ⟨3, _⟩ => ⟨S4096x2816, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | _, _ => ⟨S1x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2x4096x2816 : Shape := ⟨3, ![2, 4096, 2816]⟩
abbrev S1x4096x1024 : Shape := ⟨3, ![1, 4096, 1024]⟩
abbrev S2x2816x1024 : Shape := ⟨3, ![2, 2816, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1x4096x1024, .bf16⟩
  | .hbm, ⟨2, _⟩ => ⟨S2x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 2, 1, 1, 2], ![false, false, false, false, false]⟩

def k0_cond3 (i : grid0.Coords) : BitVec 1 :=
  let arg4 : BitVec 32 := BitVec.ofNat 32 (i 4).val
  let c1_i32 : BitVec 32 := 1#32
  let v11 : BitVec 1 := Scalar.cmpi .eq arg4 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg0 c1_i32
  let v1 : BitVec 32 := Scalar.addi v0 arg2
  let c0_i32 : BitVec 32 := 0#32
  ![v1.toNat, arg1.toNat, arg3.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true, false]
-- ==== Reference7Ideal.lean ====
abbrev S2x4096x2816 : Shape := ⟨3, ![2, 4096, 2816]⟩
abbrev S1x4096x1024 : Shape := ⟨3, ![1, 4096, 1024]⟩
abbrev S4096x1024 : Shape := ⟨2, ![4096, 1024]⟩
abbrev S_ : Shape := ⟨0, ![]⟩
abbrev S2x2816x1024 : Shape := ⟨3, ![2, 2816, 1024]⟩
abbrev S2x2816x4096 : Shape := ⟨3, ![2, 2816, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1x4096x1024, .bf16⟩
  | .hbm, ⟨2, _⟩ => ⟨S2x4096x2816, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S2x2816x1024, .f32⟩
  | .hbm, ⟨7, _⟩ => ⟨S2x2816x4096, .f32⟩
  | .hbm, ⟨8, _⟩ => ⟨S2x4096x2816, .f32⟩
  | .hbm, ⟨9, _⟩ => ⟨S2x2816x4096, .f32⟩
  | .hbm, ⟨10, _⟩ => ⟨S2x2816x1024, .f32⟩
  | .hbm, ⟨11, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8x4096x1024 : Shape := ⟨3, ![8, 4096, 1024]⟩
abbrev S8x1024x1024 : Shape := ⟨3, ![8, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v_true : BitVec 1 := 1#1
  let v10 : BitVec 1 := Scalar.xori v7 v_true
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c7_i32 : BitVec 32 := 7#32
  let v13 : BitVec 1 := Scalar.cmpi .eq arg1 c7_i32
  let arg2 : BitVec 32 := BitVec.ofNat 32 (i 2).val
  let c0_i32_8 : BitVec 32 := 0#32
  let v14 : BitVec 1 := Scalar.cmpi .eq arg2 c0_i32_8
  let v15 : BitVec 1 := Scalar.andi v13 v14
  let v16 : BitVec 32 := Scalar.extui v15
  let c0_i32_9 : BitVec 32 := 0#32
  let v17 : BitVec 1 := Scalar.cmpi .ne v16 c0_i32_9
  v17

def k0_cond4 (i : grid0.Coords) : BitVec 1 :=
  let arg0 : BitVec 32 := BitVec.ofNat 32 (i 0).val
  let c0_i32_71 : BitVec 32 := 0#32
  let v149 : BitVec 1 := Scalar.cmpi .eq arg0 c0_i32_71
  let v150 : BitVec 32 := Scalar.extui v149
  let c0_i32_72 : BitVec 32 := 0#32
  let v151 : BitVec 1 := Scalar.cmpi .ne v150 c0_i32_72
  v151

def k0_cond5 (i : grid0.Coords) : BitVec 1 :=
  let arg0 : BitVec 32 := BitVec.ofNat 32 (i 0).val
  let c0_i32_73 : BitVec 32 := 0#32
  let v152 : BitVec 1 := Scalar.cmpi .sgt arg0 c0_i32_73
  let v153 : BitVec 32 := Scalar.extui v152
  let c0_i32_74 : BitVec 32 := 0#32
  let v154 : BitVec 1 := Scalar.cmpi .ne v153 c0_i32_74
  v154

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S8x4096x1024 : Shape := ⟨3, ![8, 4096, 1024]⟩
abbrev S8x1024x1024 : Shape := ⟨3, ![8, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024x4096 : Shape := ⟨3, ![8, 1024, 4096]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x4096x1024, .f32⟩
  | .hbm, ⟨6, _⟩ => ⟨S8x1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S8x1024x4096, .f32⟩
  | .hbm, ⟨27, _⟩ => ⟨S8x4096x1024, .f32⟩
  | .hbm, ⟨28, _⟩ => ⟨S8x1024x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel9.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1x1024 : Shape := ⟨2, ![1, 1024]⟩
abbrev S1x1024x1408 : Shape := ⟨3, ![1, 1024, 1408]⟩
abbrev S1x1408x1024 : Shape := ⟨3, ![1, 1408, 1024]⟩
abbrev S1024x1024 : Shape := ⟨2, ![1024, 1024]⟩
abbrev S1024x1408 : Shape := ⟨2, ![1024, 1408]⟩
abbrev S1408x1024 : Shape := ⟨2, ![1408, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_5 : BitVec 32 := 0#32
  let v6 : BitVec 1 := Scalar.cmpi .eq arg2 c0_i32_5
  let v7 : BitVec 1 := Scalar.andi v5 v6
  let v_true : BitVec 1 := 1#1
  let v10 : BitVec 1 := Scalar.xori v7 v_true
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let arg2 : BitVec 32 := BitVec.ofNat 32 (i 2).val
  let c1_i32_8 : BitVec 32 := 1#32
  let v14 : BitVec 1 := Scalar.cmpi .eq arg2 c1_i32_8
  let v15 : BitVec 1 := Scalar.andi v13 v14
  let v16 : BitVec 32 := Scalar.extui v15
  let c0_i32_9 : BitVec 32 := 0#32
  let v17 : BitVec 1 := Scalar.cmpi .ne v16 c0_i32_9
  v17

def k0_cond4 (i : grid0.Coords) : BitVec 1 :=
  let arg0 : BitVec 32 := BitVec.ofNat 32 (i 0).val
  let c0_i32_71 : BitVec 32 := 0#32
  let v149 : BitVec 1 := Scalar.cmpi .eq arg0 c0_i32_71
  let v150 : BitVec 32 := Scalar.extui v149
  let c0_i32_72 : BitVec 32 := 0#32
  let v151 : BitVec 1 := Scalar.cmpi .ne v150 c0_i32_72
  v151

def k0_cond5 (i : grid0.Coords) : BitVec 1 :=
  let arg0 : BitVec 32 := BitVec.ofNat 32 (i 0).val
  let c0_i32_73 : BitVec 32 := 0#32
  let v152 : BitVec 1 := Scalar.cmpi .sgt arg0 c0_i32_73
  let v153 : BitVec 32 := Scalar.extui v152
  let c0_i32_74 : BitVec 32 := 0#32
  let v154 : BitVec 1 := Scalar.cmpi .ne v153 c0_i32_74
  v154

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x2816x4096 : Shape := ⟨3, ![2, 2816, 4096]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2x4096x2816, .f32⟩
  | .hbm, ⟨6, _⟩ => ⟨S2x2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2x2816x4096, .f32⟩
  | .hbm, ⟨27, _⟩ => ⟨S2x4096x2816, .f32⟩
  | .hbm, ⟨28, _⟩ => ⟨S2x2816x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel10.lean ====
abbrev S4x4096x512 : Shape := ⟨3, ![4, 4096, 512]⟩
abbrev S8x4096x1024 : Shape := ⟨3, ![8, 4096, 1024]⟩
abbrev S4x512x1024 : Shape := ⟨3, ![4, 512, 1024]⟩
abbrev S1024x1024 : Shape := ⟨2, ![1024, 1024]⟩
abbrev S4096x1024 : Shape := ⟨2, ![4096, 1024]⟩
abbrev S1x1024 : Shape := ⟨2, ![1, 1024]⟩
abbrev S4x512x512 : Shape := ⟨3, ![4, 512, 512]⟩
abbrev S512x1024 : Shape := ⟨2, ![512, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x512, .bf16⟩
  | .hbm, ⟨1, _⟩ => ⟨S8x4096x1024, .f32⟩
  | .hbm, ⟨2, _⟩ => ⟨S4x512x1024, .bf16⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .local _ .vmem, ⟨0, _⟩ => ⟨S4x512x512, .bf16⟩
  | .local _ .vmem, ⟨1, _⟩ => ⟨S4x512x512, .bf16⟩
  | .local _ .vmem, ⟨2, _⟩ => ⟨S4x512x1024, .f32⟩
  | .local _ .vmem, ⟨3, _⟩ => ⟨S4x512x1024, .f32⟩
  | .local _ .vmem, ⟨4, _⟩ => ⟨S4x512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4x4096x512 : Shape := ⟨3, ![4, 4096, 512]⟩
abbrev S8x4096x1024 : Shape := ⟨3, ![8, 4096, 1024]⟩
abbrev S4x512x1024 : Shape := ⟨3, ![4, 512, 1024]⟩
abbrev S1024x1024 : Shape := ⟨2, ![1024, 1024]⟩
abbrev S4096x1024 : Shape := ⟨2, ![4096, 1024]⟩
abbrev S1x1024 : Shape := ⟨2, ![1, 1024]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S8x4096x1024, .f32⟩
  | .hbm, ⟨2, _⟩ => ⟨S4x512x1024, .bf16⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S4x4096x512, .f32⟩
  | .hbm, ⟨7, _⟩ => ⟨S4x512x1024, .f32⟩
  | .hbm, ⟨8, _⟩ => ⟨S1024x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel11.lean ====
abbrev S4096x1024 : Shape := ⟨2, ![4096, 1024]⟩
abbrev S8x1024x1024 : Shape := ⟨3, ![8, 1024, 1024]⟩
abbrev S8x4096x1024 : Shape := ⟨3, ![8, 4096, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S8x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .f32⟩
  | .local _ .vmem, ⟨5, _⟩ => ⟨S1x2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference11Ideal.lean ====
abbrev S4096x1024 : Shape := ⟨2, ![4096, 1024]⟩
abbrev S8x1024x1024 : Shape := ⟨3, ![8, 1024, 1024]⟩
abbrev S8x1024x4096 : Shape := ⟨3, ![8, 1024, 4096]⟩
abbrev S8x4096x1024 : Shape := ⟨3, ![8, 4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x1024, .f32⟩
  | .hbm, ⟨3, _⟩ => ⟨S8x1024x1024, .f32⟩
  | .hbm, ⟨4, _⟩ => ⟨S8x1024x4096, .f32⟩
  | .hbm, ⟨5, _⟩ => ⟨S8x4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S2048x1024 : Shape := ⟨2, ![2048, 1024]⟩
abbrev S1x1408x1024 : Shape := ⟨3, ![1, 1408, 1024]⟩
abbrev S1x2048x1408 : Shape := ⟨3, ![1, 2048, 1408]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S2x4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x2048x1408, .bf16⟩
  | .local _ .vmem, ⟨5, _⟩ => ⟨S1x2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference12Ideal.lean ====
abbrev S4096x1024 : Shape := ⟨2, ![4096, 1024]⟩
abbrev S2x2816x1024 : Shape := ⟨3, ![2, 2816, 1024]⟩
abbrev S2x2816x4096 : Shape := ⟨3, ![2, 2816, 4096]⟩
abbrev S2x4096x2816 : Shape := ⟨3, ![2, 4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S4096x1024, .f32⟩
  | .hbm, ⟨3, _⟩ => ⟨S2x2816x1024, .f32⟩
  | .hbm, ⟨4, _⟩ => ⟨S2x2816x4096, .f32⟩
  | .hbm, ⟨5, _⟩ => ⟨S2x4096x2816, .f32⟩
  | .hbm, ⟨6, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S2x4096x2816 : Shape := ⟨3, ![2, 4096, 2816]⟩
abbrev S2816x1024 : Shape := ⟨2, ![2816, 1024]⟩
abbrev S4096x1024 : Shape := ⟨2, ![4096, 1024]⟩
abbrev S1x1024 : Shape := ⟨2, ![1, 1024]⟩
abbrev S2x512x1408 : Shape := ⟨3, ![2, 512, 1408]⟩
abbrev S1408x1024 : Shape := ⟨2, ![1408, 1024]⟩
abbrev S512x1024 : Shape := ⟨2, ![512, 1024]⟩
abbrev S512x1408 : Shape := ⟨2, ![512, 1408]⟩
abbrev S1x32x1408 : Shape := ⟨3, ![1, 32, 1408]⟩
abbrev S32x1408 : Shape := ⟨2, ![32, 1408]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S2x512x1408, .bf16⟩
  | .local _ .vmem, ⟨1, _⟩ => ⟨S2x512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1408, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v309 : BitVec 1 := Scalar.cmpi .eq arg1 c0_i32
  let v310 : BitVec 32 := Scalar.extui v309
  let c0_i32_164 : BitVec 32 := 0#32
  let v311 : BitVec 1 := Scalar.cmpi .ne v310 c0_i32_164
  v311

def k0_cond2 (i : grid0.Coords) : BitVec 1 :=
  let arg1 : BitVec 32 := BitVec.ofNat 32 (i 1).val
  let c0_i32_165 : BitVec 32 := 0#32
  let v312 : BitVec 1 := Scalar.cmpi .sgt arg1 c0_i32_165
  let v313 : BitVec 32 := Scalar.extui v312
  let c0_i32_166 : BitVec 32 := 0#32
  let v314 : BitVec 1 := Scalar.cmpi .ne v313 c0_i32_166
  v314

def k0_cond3 (i : grid0.Coords) : BitVec 1 :=
  let arg1 : BitVec 32 := BitVec.ofNat 32 (i 1).val
  let c1_i32 : BitVec 32 := 1#32
  let v315 : BitVec 1 := Scalar.cmpi .eq arg1 c1_i32
  let v316 : BitVec 32 := Scalar.extui v315
  let c0_i32_167 : BitVec 32 := 0#32
  let v317 : BitVec 1 := Scalar.cmpi .ne v316 c0_i32_167
  v317

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S2x4096x2816 : Shape := ⟨3, ![2, 4096, 2816]⟩
abbrev S2816x1024 : Shape := ⟨2, ![2816, 1024]⟩
abbrev S4096x1024 : Shape := ⟨2, ![4096, 1024]⟩
abbrev S1x1024 : Shape := ⟨2, ![1, 1024]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S2816x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel14.lean ====
abbrev S8x4096x1024 : Shape := ⟨3, ![8, 4096, 1024]⟩
abbrev S4x128x128 : Shape := ⟨3, ![4, 128, 128]⟩
abbrev S1x512 : Shape := ⟨2, ![1, 512]⟩
abbrev S3x512 : Shape := ⟨2, ![3, 512]⟩
abbrev S31x512 : Shape := ⟨2, ![31, 512]⟩
abbrev S4x128 : Shape := ⟨2, ![4, 128]⟩
abbrev S4x128x1 : Shape := ⟨3, ![4, 128, 1]⟩
abbrev S4x4096x512 : Shape := ⟨3, ![4, 4096, 512]⟩
abbrev S4096x512 : Shape := ⟨2, ![4096, 512]⟩
abbrev S1x256x512 : Shape := ⟨3, ![1, 256, 512]⟩
abbrev S1x32x512 : Shape := ⟨3, ![1, 32, 512]⟩
abbrev S4x256x512 : Shape := ⟨3, ![4, 256, 512]⟩
abbrev S256x512 : Shape := ⟨2, ![256, 512]⟩
abbrev S288x512 : Shape := ⟨2, ![288, 512]⟩
abbrev S8x288x512 : Shape := ⟨3, ![8, 288, 512]⟩
abbrev S256x1 : Shape := ⟨2, ![256, 1]⟩
abbrev S32x512 : Shape := ⟨2, ![32, 512]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S1x256x128 : Shape := ⟨3, ![1, 256, 128]⟩
abbrev S1x280x512 : Shape := ⟨3, ![1, 280, 512]⟩
abbrev S280x512 : Shape := ⟨2, ![280, 512]⟩
abbrev S256 : Shape := ⟨1, ![256]⟩

abbrev nBuf : Space → Nat
  | .hbm => 15
  | .vmem => 43
  | .smem => 0
  | _ => 0

abbrev bufTy : (tb : Table) → Fin (tcTables nBuf tb) → BufTy
  | .hbm, ⟨0, _⟩ => ⟨S8x4096x1024, .f32⟩
  | .hbm, ⟨1, _⟩ => ⟨S4x128x128, .f32⟩
  | .hbm, ⟨2, _⟩ => ⟨S1x512, .f32⟩
  | .hbm, ⟨3, _⟩ => ⟨S3x512, .f32⟩
  | .hbm, ⟨4, _⟩ => ⟨S31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S4x128, .f32⟩
  | .hbm, ⟨11, _⟩ => ⟨S4x128x1, .f32⟩
  | .hbm, ⟨12, _⟩ => ⟨S4x128x128, .f32⟩
  | .hbm, ⟨13, _⟩ => ⟨S4x4096x512, .bf16⟩
  | .hbm, ⟨14, _⟩ => ⟨S4096x512, .f32⟩
  | .local _ .vmem, ⟨0, _⟩ => ⟨S1x256x512, .f32⟩
  | .local _ .vmem, ⟨1, _⟩ => ⟨S1x256x512, .f32⟩
  | .local _ .vmem, ⟨2, _⟩ => ⟨S1x32x512, .f32⟩
  | .local _ .vmem, ⟨3, _⟩ => ⟨S1x32x512, .f32⟩
  | .local _ .vmem, ⟨4, _⟩ => ⟨S1x256x512, .f32⟩
  | .local _ .vmem, ⟨5, _⟩ => ⟨S1x256x512, .f32⟩
  | .local _ .vmem, ⟨6, _⟩ => ⟨S1x32x512, .f32⟩
  | .local _ .vmem, ⟨7, _⟩ => ⟨S1x32x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x32x512, .f32⟩
  | .local _ .vmem, ⟨13, _⟩ => ⟨S1x32x512, .f32⟩
  | .local _ .vmem, ⟨14, _⟩ => ⟨S1x256x512, .f32⟩
  | .local _ .vmem, ⟨15, _⟩ => ⟨S1x256x512, .f32⟩
  | .local _ .vmem, ⟨16, _⟩ => ⟨S1x32x512, .f32⟩
  | .local _ .vmem, ⟨17, _⟩ => ⟨S1x32x512, .f32⟩
  | .local _ .vmem, ⟨18, _⟩ => ⟨S1x256x512, .f32⟩
  | .local _ .vmem, ⟨19, _⟩ => ⟨S1x256x512, .f32⟩
  | .local _ .vmem, ⟨20, _⟩ => ⟨S1x32x512, .f32⟩
  | .local _ .vmem, ⟨21, _⟩ => ⟨S1x32x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S4x128x128, .f32⟩
  | .local _ .vmem, ⟨27, _⟩ => ⟨S1x512, .f32⟩
  | .local _ .vmem, ⟨28, _⟩ => ⟨S3x512, .f32⟩
  | .local _ .vmem, ⟨29, _⟩ => ⟨S31x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S4x128x128, .f32⟩
  | .local _ .vmem, ⟨35, _⟩ => ⟨S4x128x128, .f32⟩
  | .local _ .vmem, ⟨36, _⟩ => ⟨S4x256x512, .bf16⟩
  | .local _ .vmem, ⟨37, _⟩ => ⟨S4x256x512, .bf16⟩
  | .local _ .vmem, ⟨38, _⟩ => ⟨S256x512, .f32⟩
  | .local _ .vmem, ⟨39, _⟩ => ⟨S256x512, .f32⟩
  | .local _ .vmem, ⟨40, _⟩ => ⟨S288x512, .f32⟩
  | .local _ .vmem, ⟨41, _⟩ => ⟨S288x512, .f32⟩
  | .local _ .vmem, ⟨42, _⟩ => ⟨S8x288x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c1_i32_1 : BitVec 32 := 1#32
  let c0_i32_2 : BitVec 32 := 0#32
  ![c0_i32_0.toNat, v2.toNat, c1_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_6 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c1_i32_1 : BitVec 32 := 1#32
  let c0_i32_2 : BitVec 32 := 0#32
  ![c1_i32_0.toNat, v2.toNat, c1_i32_1.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_9 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  ![c2_i32.toNat, arg0.toNat, c1_i32.toNat]

def cc0_transform_10 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c1_i32_0 : BitVec 32 := 1#32
  let c0_i32_1 : BitVec 32 := 0#32
  ![c2_i32.toNat, v2.toNat, c1_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  ![c3_i32.toNat, arg0.toNat, c1_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S31x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S4x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference14Ideal.lean ====
abbrev S8x4096x1024 : Shape := ⟨3, ![8, 4096, 1024]⟩
abbrev S4x128x128 : Shape := ⟨3, ![4, 128, 128]⟩
abbrev S1x512 : Shape := ⟨2, ![1, 512]⟩
abbrev S3x512 : Shape := ⟨2, ![3, 512]⟩
abbrev S31x512 : Shape := ⟨2, ![31, 512]⟩
abbrev S4x128 : Shape := ⟨2, ![4, 128]⟩
abbrev S1x4096x512 : Shape := ⟨3, ![1, 4096, 512]⟩
abbrev S4096x512 : Shape := ⟨2, ![4096, 512]⟩
abbrev S_ : Shape := ⟨0, ![]⟩
abbrev S4096 : Shape := ⟨1, ![4096]⟩
abbrev S4111x512 : Shape := ⟨2, ![4111, 512]⟩
abbrev S4111x128 : Shape := ⟨2, ![4111, 128]⟩
abbrev S4096x1 : Shape := ⟨2, ![4096, 1]⟩
abbrev S4096x128 : Shape := ⟨2, ![4096, 128]⟩
abbrev S1x128x128 : Shape := ⟨3, ![1, 128, 128]⟩
abbrev S128x128 : Shape := ⟨2, ![128, 128]⟩
abbrev S4098x512 : Shape := ⟨2, ![4098, 512]⟩
abbrev S512 : Shape := ⟨1, ![512]⟩
abbrev S4126x512 : Shape := ⟨2, ![4126, 512]⟩
abbrev S32x128x4x128 : Shape := ⟨4, ![32, 128, 4, 128]⟩
abbrev S128 : Shape := ⟨1, ![128]⟩
abbrev S1x128 : Shape := ⟨2, ![1, 128]⟩
abbrev S128x1 : Shape := ⟨2, ![128, 1]⟩
abbrev S4x32x128x128 : Shape := ⟨4, ![4, 32, 128, 128]⟩
abbrev S128x4 : Shape := ⟨2, ![128, 4]⟩
abbrev S1x128x4x1 : Shape := ⟨4, ![1, 128, 4, 1]⟩
abbrev S4x4096x512 : Shape := ⟨3, ![4, 4096, 512]⟩

abbrev nBuf : Space → Nat
  | .hbm => 585
  | .vmem => 0
  | .smem => 0
  | _ => 0

abbrev hbmTy0_0 (i : Nat) : BufTy := match i % 128 with
  | 0 => ⟨S8x4096x1024, .f32⟩
  | 1 => ⟨S4x128x128, .f32⟩
  | 2 => ⟨S1x512, .f32⟩
  | 3 => ⟨S3x512, .f32⟩
  | 4 => ⟨S31x512, .f32⟩
  | 5 => ⟨S1x512, .f32⟩
  | 6 => ⟨S1x512, .f32⟩
  | 7 => ⟨S1x512, .f32⟩
  | 8 => ⟨S1x512, .f32⟩
  | 9 => ⟨S4x128x128, .f32⟩
  | 10 => ⟨S4x128, .f32⟩
  | 11 => ⟨S1x4096x512, .f32⟩
  | 12 => ⟨S4096x512, .f32⟩
  | 13 => ⟨S1x4096x512, .f32⟩
  | 14 => ⟨S4096x512, .f32⟩
  | 15 => ⟨S1x4096x512, .f32⟩
  | 16 => ⟨S4096x512, .f32⟩
  | 17 => ⟨S1x4096x512, .f32⟩
  | 18 => ⟨S4096x512, .f32⟩
  | 19 => ⟨S1x4096x512, .f32⟩
  | 20 => ⟨S4096x512, .f32⟩
  | 21 => ⟨S1x4096x512, .f32⟩
  | 22 => ⟨S4096x512, .f32⟩
  | 23 => ⟨S1x4096x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S1x4096x512, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S4096, .i32⟩
  | 62 => ⟨S_, .i32⟩
  | 63 => ⟨S_, .f32⟩
  | 64 => ⟨S4111x512, .f32⟩
  | 65 => ⟨S4111x128, .f32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .f32⟩
  | 73 => ⟨S4096x1, .f32⟩
  | 74 => ⟨S4096x128, .f32⟩
  | 75 => ⟨S_, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x128, .f32⟩
  | 83 => ⟨S4096x128, .f32⟩
  | 84 => ⟨S1x128x128, .f32⟩
  | 85 => ⟨S128x128, .f32⟩
  | 86 => ⟨S4096x128, .f32⟩
  | 87 => ⟨S4111x128, .f32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096, .f32⟩
  | 95 => ⟨S4096x1, .f32⟩
  | 96 => ⟨S4096x128, .f32⟩
  | 97 => ⟨S_, .f32⟩
  | 98 => ⟨S4096x128, .f32⟩
  | 99 => ⟨S4096x128, .f32⟩
  | 100 => ⟨S4096x128, .f32⟩
  | 101 => ⟨S4096x128, .f32⟩
  | 102 => ⟨S4096x128, .f32⟩
  | 103 => ⟨S4096x128, .f32⟩
  | 104 => ⟨S4096x128, .f32⟩
  | 105 => ⟨S4096x128, .f32⟩
  | 106 => ⟨S4096x128, .f32⟩
  | 107 => ⟨S4096x128, .f32⟩
  | 108 => ⟨S4096x128, .f32⟩
  | 109 => ⟨S4096x128, .f32⟩
  | 110 => ⟨S1x128x128, .f32⟩
  | 111 => ⟨S128x128, .f32⟩
  | 112 => ⟨S4096x128, .f32⟩
  | 113 => ⟨S4111x128, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S4096x1, .f32⟩
  | 122 => ⟨S4096x128, .f32⟩
  | 123 => ⟨S_, .f32⟩
  | 124 => ⟨S4096x128, .f32⟩
  | 125 => ⟨S4096x128, .f32⟩
  | 126 => ⟨S4096x128, .f32⟩
  | 127 => ⟨S4096x128, .f32⟩
  | _ => ⟨S8x4096x1024, .f32⟩

abbrev hbmTy0_1 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S4096x128, .f32⟩
  | 8 => ⟨S4096x128, .f32⟩
  | 9 => ⟨S4096x128, .f32⟩
  | 10 => ⟨S4096x128, .f32⟩
  | 11 => ⟨S4096x128, .f32⟩
  | 12 => ⟨S4096x128, .f32⟩
  | 13 => ⟨S4096x128, .f32⟩
  | 14 => ⟨S4096x128, .f32⟩
  | 15 => ⟨S4096x128, .f32⟩
  | 16 => ⟨S1x128x128, .f32⟩
  | 17 => ⟨S128x128, .f32⟩
  | 18 => ⟨S4096x128, .f32⟩
  | 19 => ⟨S4111x128, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S4096x1, .f32⟩
  | 28 => ⟨S4096x128, .f32⟩
  | 29 => ⟨S_, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S4096x128, .f32⟩
  | 39 => ⟨S4096x128, .f32⟩
  | 40 => ⟨S4096x128, .f32⟩
  | 41 => ⟨S4096x128, .f32⟩
  | 42 => ⟨S4096x128, .f32⟩
  | 43 => ⟨S4096x128, .f32⟩
  | 44 => ⟨S4096x128, .f32⟩
  | 45 => ⟨S4096x128, .f32⟩
  | 46 => ⟨S4096x128, .f32⟩
  | 47 => ⟨S4096x128, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S4096x128, .f32⟩
  | 55 => ⟨S4096x128, .f32⟩
  | 56 => ⟨S4096x128, .f32⟩
  | 57 => ⟨S4096x128, .f32⟩
  | 58 => ⟨S4096x128, .f32⟩
  | 59 => ⟨S4096x128, .f32⟩
  | 60 => ⟨S4096x128, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S1x128x128, .f32⟩
  | 67 => ⟨S128x128, .f32⟩
  | 68 => ⟨S4096x128, .f32⟩
  | 69 => ⟨S4096x512, .f32⟩
  | 70 => ⟨S4096x512, .f32⟩
  | 71 => ⟨S4096x512, .f32⟩
  | 72 => ⟨S4096x512, .f32⟩
  | 73 => ⟨S_, .i32⟩
  | 74 => ⟨S_, .f32⟩
  | 75 => ⟨S4098x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S4096x512, .f32⟩
  | 109 => ⟨S_, .i32⟩
  | 110 => ⟨S_, .f32⟩
  | 111 => ⟨S4126x512, .f32⟩
  | 112 => ⟨S1x512, .f32⟩
  | 113 => ⟨S512, .f32⟩
  | 114 => ⟨S4096x512, .f32⟩
  | 115 => ⟨S1x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S1x512, .f32⟩
  | 122 => ⟨S512, .f32⟩
  | 123 => ⟨S4096x512, .f32⟩
  | 124 => ⟨S1x512, .f32⟩
  | 125 => ⟨S4096x512, .f32⟩
  | 126 => ⟨S4096x512, .f32⟩
  | 127 => ⟨S4096x512, .f32⟩
  | _ => ⟨S8x4096x1024, .f32⟩

abbrev hbmTy0_2 (i : Nat) : BufTy := match i % 128 with
  | 0 => ⟨S1x512, .f32⟩
  | 1 => ⟨S512, .f32⟩
  | 2 => ⟨S4096x512, .f32⟩
  | 3 => ⟨S1x512, .f32⟩
  | 4 => ⟨S4096x512, .f32⟩
  | 5 => ⟨S4096x512, .f32⟩
  | 6 => ⟨S4096x512, .f32⟩
  | 7 => ⟨S1x512, .f32⟩
  | 8 => ⟨S512, .f32⟩
  | 9 => ⟨S4096x512, .f32⟩
  | 10 => ⟨S1x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S4096x512, .f32⟩
  | 17 => ⟨S1x512, .f32⟩
  | 18 => ⟨S4096x512, .f32⟩
  | 19 => ⟨S4096x512, .f32⟩
  | 20 => ⟨S4096x512, .f32⟩
  | 21 => ⟨S1x512, .f32⟩
  | 22 => ⟨S512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S4096x512, .f32⟩
  | 115 => ⟨S1x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S8x4096x1024, .f32⟩

abbrev hbmTy0_3 (i : Nat) : BufTy := match i % 128 with
  | 0 => ⟨S4096x512, .f32⟩
  | 1 => ⟨S1x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S4096x512, .f32⟩
  | 8 => ⟨S1x512, .f32⟩
  | 9 => ⟨S4096x512, .f32⟩
  | 10 => ⟨S4096x512, .f32⟩
  | 11 => ⟨S4096x512, .f32⟩
  | 12 => ⟨S1x512, .f32⟩
  | 13 => ⟨S512, .f32⟩
  | 14 => ⟨S4096x512, .f32⟩
  | 15 => ⟨S1x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S4096x512, .f32⟩
  | 82 => ⟨S4096x512, .f32⟩
  | 83 => ⟨S4096x512, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S4096x512, .f32⟩
  | 91 => ⟨S4096x512, .f32⟩
  | 92 => ⟨S_, .f32⟩
  | 93 => ⟨S4096x1, .f32⟩
  | 94 => ⟨S4096x1, .f32⟩
  | 95 => ⟨S4096x1, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S4096x512, .f32⟩
  | 118 => ⟨S4096x512, .f32⟩
  | 119 => ⟨S4096x512, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x512, .f32⟩
  | 127 => ⟨S4096x512, .f32⟩
  | _ => ⟨S8x4096x1024, .f32⟩

abbrev hbmTy0_4 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S32x128x4x128, .f32⟩
  | 11 => ⟨S128, .i32⟩
  | 12 => ⟨S1x128, .i32⟩
  | 13 => ⟨S_, .i32⟩
  | 14 => ⟨S_, .i32⟩
  | 15 => ⟨S1x128, .i32⟩
  | 16 => ⟨S1x128, .i32⟩
  | 17 => ⟨S1x128, .i32⟩
  | 18 => ⟨S_, .i32⟩
  | 19 => ⟨S1x128, .i32⟩
  | 20 => ⟨S1x128, .i1⟩
  | 21 => ⟨S1x128, .i32⟩
  | 22 => ⟨S1x128, .i32⟩
  | 23 => ⟨S_, .i32⟩
  | 24 => ⟨S1x128, .i32⟩
  | 25 => ⟨S1x128, .i1⟩
  | 26 => ⟨S1x128, .i1⟩
  | 27 => ⟨S_, .i32⟩
  | 28 => ⟨S1x128, .i32⟩
  | 29 => ⟨S1x128, .i32⟩
  | 30 => ⟨S1x128, .i32⟩
  | 31 => ⟨S128x1, .i32⟩
  | 32 => ⟨S_, .i32⟩
  | 33 => ⟨S_, .i32⟩
  | 34 => ⟨S128x1, .i32⟩
  | 35 => ⟨S128x1, .i32⟩
  | 36 => ⟨S128x1, .i32⟩
  | 37 => ⟨S_, .i32⟩
  | 38 => ⟨S128x1, .i32⟩
  | 39 => ⟨S128x1, .i1⟩
  | 40 => ⟨S128x1, .i32⟩
  | 41 => ⟨S128x1, .i32⟩
  | 42 => ⟨S_, .i32⟩
  | 43 => ⟨S128x1, .i32⟩
  | 44 => ⟨S128x1, .i1⟩
  | 45 => ⟨S128x1, .i1⟩
  | 46 => ⟨S_, .i32⟩
  | 47 => ⟨S128x1, .i32⟩
  | 48 => ⟨S128x1, .i32⟩
  | 49 => ⟨S128x1, .i32⟩
  | 50 => ⟨S128x128, .i32⟩
  | 51 => ⟨S128x128, .i32⟩
  | 52 => ⟨S128x128, .i1⟩
  | 53 => ⟨S1x128x128, .i1⟩
  | 54 => ⟨S_, .f32⟩
  | 55 => ⟨S_, .f32⟩
  | 56 => ⟨S4x128x128, .i1⟩
  | 57 => ⟨S4x128x128, .f32⟩
  | 58 => ⟨S4x128x128, .f32⟩
  | 59 => ⟨S4x32x128x128, .f32⟩
  | 60 => ⟨S32x128x4x128, .f32⟩
  | 61 => ⟨S128x4, .f32⟩
  | 62 => ⟨S1x128x4x1, .f32⟩
  | 63 => ⟨S32x128x4x128, .f32⟩
  | 64 => ⟨S32x128x4x128, .f32⟩
  | 65 => ⟨S4096x512, .f32⟩
  | 66 => ⟨S4096x512, .f32⟩
  | 67 => ⟨S1x4096x512, .f32⟩
  | 68 => ⟨S1x4096x512, .f32⟩
  | 69 => ⟨S1x4096x512, .f32⟩
  | 70 => ⟨S1x4096x512, .f32⟩
  | 71 => ⟨S4x4096x512, .f32⟩
  | 72 => ⟨S4x4096x512, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_13 : Ref sig .tc := ⟨.hbm, 114, rfl⟩
abbrev main_v87 : Ref sig .tc := ⟨.hbm, 115, rfl⟩
abbrev main_v88 : Ref sig .tc := ⟨.hbm, 116, rfl⟩
abbrev main_c_14 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_15 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_c_16 : Ref sig .tc := ⟨.hbm, 148, rfl⟩
abbrev main_v118 : Ref sig .tc := ⟨.hbm, 149, rfl⟩
abbrev main_v119 : Ref sig .tc := ⟨.hbm, 150, rfl⟩
abbrev main_c_17 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_18 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_c_19 : Ref sig .tc := ⟨.hbm, 201, rfl⟩
abbrev main_call1_v0 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_20 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_cst_21 : Ref sig .tc := ⟨.hbm, 230, rfl⟩
abbrev main_v194 : Ref sig .tc := ⟨.hbm, 231, rfl⟩
abbrev main_v195 : Ref sig .tc := ⟨.hbm, 232, rfl⟩
abbrev main_cst_22 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_c_23 : Ref sig .tc := ⟨.hbm, 237, rfl⟩
abbrev main_call2_v0 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_cst_24 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_v363 : Ref sig .tc := ⟨.hbm, 404, rfl⟩
abbrev main_v364 : Ref sig .tc := ⟨.hbm, 405, rfl⟩
abbrev main_v365 : Ref sig .tc := ⟨.hbm, 406, rfl⟩
abbrev main_v366 : Ref sig .tc := ⟨.hbm, 407, rfl⟩
abbrev main_v367 : Ref sig .tc := ⟨.hbm, 408, rfl⟩
abbrev main_v368 : Ref sig .tc := ⟨.hbm, 409, rfl⟩
abbrev main_v369 : Ref sig .tc := ⟨.hbm, 410, rfl⟩
abbrev main_v370 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_v374 : Ref sig .tc := ⟨.hbm, 415, rfl⟩
abbrev main_v375 : Ref sig .tc := ⟨.hbm, 416, rfl⟩
abbrev main_v376 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_v383 : Ref sig .tc := ⟨.hbm, 424, rfl⟩
abbrev main_v384 : Ref sig .tc := ⟨.hbm, 425, rfl⟩
abbrev main_v385 : Ref sig .tc := ⟨.hbm, 426, rfl⟩
abbrev main_v386 : Ref sig .tc := ⟨.hbm, 427, rfl⟩
abbrev main_v387 : Ref sig .tc := ⟨.hbm, 428, rfl⟩
abbrev main_v388 : Ref sig .tc := ⟨.hbm, 429, rfl⟩
abbrev main_v389 : Ref sig .tc := ⟨.hbm, 430, rfl⟩
abbrev main_v390 : Ref sig .tc := ⟨.hbm, 431, rfl⟩
abbrev main_v391 : Ref sig .tc := ⟨.hbm, 432, rfl⟩
abbrev main_v392 : Ref sig .tc := ⟨.hbm, 433, rfl⟩
abbrev main_v393 : Ref sig .tc := ⟨.hbm, 434, rfl⟩
abbrev main_v394 : Ref sig .tc := ⟨.hbm, 435, rfl⟩
abbrev main_v395 : Ref sig .tc := ⟨.hbm, 436, rfl⟩
abbrev main_v396 : Ref sig .tc := ⟨.hbm, 437, rfl⟩
abbrev main_v397 : Ref sig .tc := ⟨.hbm, 438, rfl⟩
abbrev main_v398 : Ref sig .tc := ⟨.hbm, 439, rfl⟩
abbrev main_v399 : Ref sig .tc := ⟨.hbm, 440, rfl⟩
abbrev main_v400 : Ref sig .tc := ⟨.hbm, 441, rfl⟩
abbrev main_v401 : Ref sig .tc := ⟨.hbm, 442, rfl⟩
abbrev main_v402 : Ref sig .tc := ⟨.hbm, 443, rfl⟩
abbrev main_v403 : Ref sig .tc := ⟨.hbm, 444, rfl⟩
abbrev main_v404 : Ref sig .tc := ⟨.hbm, 445, rfl⟩
abbrev main_v405 : Ref sig .tc := ⟨.hbm, 446, rfl⟩
abbrev main_v406 : Ref sig .tc := ⟨.hbm, 447, rfl⟩
abbrev main_v407 : Ref sig .tc := ⟨.hbm, 448, rfl⟩
abbrev main_v408 : Ref sig .tc := ⟨.hbm, 449, rfl⟩
abbrev main_v409 : Ref sig .tc := ⟨.hbm, 450, rfl⟩
abbrev main_v410 : Ref sig .tc := ⟨.hbm, 451, rfl⟩
abbrev main_v411 : Ref sig .tc := ⟨.hbm, 452, rfl⟩
abbrev main_v412 : Ref sig .tc := ⟨.hbm, 453, rfl⟩
abbrev main_v413 : Ref sig .tc := ⟨.hbm, 454, rfl⟩
abbrev main_v414 : Ref sig .tc := ⟨.hbm, 455, rfl⟩
abbrev main_v415 : Ref sig .tc := ⟨.hbm, 456, rfl⟩
abbrev main_v416 : Ref sig .tc := ⟨.hbm, 457, rfl⟩
abbrev main_v417 : Ref sig .tc := ⟨.hbm, 458, rfl⟩
abbrev main_cst_25 : Ref sig .tc := ⟨.hbm, 459, rfl⟩
abbrev main_v418 : Ref sig .tc := ⟨.hbm, 460, rfl⟩
abbrev main_v419 : Ref sig .tc := ⟨.hbm, 461, rfl⟩
abbrev main_cst_26 : Ref sig .tc := ⟨.hbm, 462, rfl⟩
abbrev main_v420 : Ref sig .tc := ⟨.hbm, 463, rfl⟩
abbrev main_v421 : Ref sig .tc := ⟨.hbm, 464, rfl⟩
abbrev main_v422 : Ref sig .tc := ⟨.hbm, 465, rfl⟩
abbrev main_v423 : Ref sig .tc := ⟨.hbm, 466, rfl⟩
abbrev main_v424 : Ref sig .tc := ⟨.hbm, 467, rfl⟩
abbrev main_cst_27 : Ref sig .tc := ⟨.hbm, 468, rfl⟩
abbrev main_v425 : Ref sig .tc := ⟨.hbm, 469, rfl⟩
abbrev main_v426 : Ref sig .tc := ⟨.hbm, 470, rfl⟩
abbrev main_cst_28 : Ref sig .tc := ⟨.hbm, 471, rfl⟩
abbrev main_v427 : Ref sig .tc := ⟨.hbm, 472, rfl⟩
abbrev main_v428 : Ref sig .tc := ⟨.hbm, 473, rfl⟩
abbrev main_v429 : Ref sig .tc := ⟨.hbm, 474, rfl⟩
abbrev main_v430 : Ref sig .tc := ⟨.hbm, 475, rfl⟩
abbrev main_cst_29 : Ref sig .tc := ⟨.hbm, 476, rfl⟩
abbrev main_v431 : Ref sig .tc := ⟨.hbm, 477, rfl⟩
abbrev main_v432 : Ref sig .tc := ⟨.hbm, 478, rfl⟩
abbrev main_v433 : Ref sig .tc := ⟨.hbm, 479, rfl⟩
abbrev main_v434 : Ref sig .tc := ⟨.hbm, 480, rfl⟩
abbrev main_v435 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_call3_v0 : Ref sig .tc := ⟨.hbm, 486, rfl⟩
abbrev main_call3_v1 : Ref sig .tc := ⟨.hbm, 487, rfl⟩
abbrev main_call3_cst : Ref sig .tc := ⟨.hbm, 488, rfl⟩
abbrev main_call3_v2 : Ref sig .tc := ⟨.hbm, 489, rfl⟩
abbrev main_call3_v3 : Ref sig .tc := ⟨.hbm, 490, rfl⟩
abbrev main_call3_cst_0 : Ref sig .tc := ⟨.hbm, 491, rfl⟩
abbrev main_call3_v4 : Ref sig .tc := ⟨.hbm, 492, rfl⟩
abbrev main_call3_v5 : Ref sig .tc := ⟨.hbm, 493, rfl⟩
abbrev main_v440 : Ref sig .tc := ⟨.hbm, 494, rfl⟩
abbrev main_cst_30 : Ref sig .tc := ⟨.hbm, 495, rfl⟩
abbrev main_v441 : Ref sig .tc := ⟨.hbm, 496, rfl⟩
abbrev main_v442 : Ref sig .tc := ⟨.hbm, 497, rfl⟩
abbrev main_cst_31 : Ref sig .tc := ⟨.hbm, 498, rfl⟩
abbrev main_v443 : Ref sig .tc := ⟨.hbm, 499, rfl⟩
abbrev main_v444 : Ref sig .tc := ⟨.hbm, 500, rfl⟩
abbrev main_v445 : Ref sig .tc := ⟨.hbm, 501, rfl⟩
abbrev main_v446 : Ref sig .tc := ⟨.hbm, 502, rfl⟩
abbrev main_v447 : Ref sig .tc := ⟨.hbm, 503, rfl⟩
abbrev main_cst_32 : Ref sig .tc := ⟨.hbm, 504, rfl⟩
abbrev main_v448 : Ref sig .tc := ⟨.hbm, 505, rfl⟩
abbrev main_v449 : Ref sig .tc := ⟨.hbm, 506, rfl⟩
abbrev main_cst_33 : Ref sig .tc := ⟨.hbm, 507, rfl⟩
abbrev main_v450 : Ref sig .tc := ⟨.hbm, 508, rfl⟩
abbrev main_v451 : Ref sig .tc := ⟨.hbm, 509, rfl⟩
abbrev main_v452 : Ref sig .tc := ⟨.hbm, 510, rfl⟩
abbrev main_v453 : Ref sig .tc := ⟨.hbm, 511, rfl⟩
abbrev main_cst_34 : Ref sig .tc := ⟨.hbm, 512, rfl⟩
abbrev main_v454 : Ref sig .tc := ⟨.hbm, 513, rfl⟩
abbrev main_v455 : Ref sig .tc := ⟨.hbm, 514, rfl⟩
abbrev main_v456 : Ref sig .tc := ⟨.hbm, 515, rfl⟩
abbrev main_v457 : Ref sig .tc := ⟨.hbm, 516, rfl⟩
abbrev main_v458 : Ref sig .tc := ⟨.hbm, 517, rfl⟩
abbrev main_v459 : Ref sig .tc := ⟨.hbm, 518, rfl⟩
abbrev main_v460 : Ref sig .tc := ⟨.hbm, 519, rfl⟩
abbrev main_v461 : Ref sig .tc := ⟨.hbm, 520, rfl⟩
abbrev main_v462 : Ref sig .tc := ⟨.hbm, 521, rfl⟩
abbrev main_v463 : Ref sig .tc := ⟨.hbm, 522, rfl⟩
abbrev main_v464 : Ref sig .tc := ⟨.hbm, 523, rfl⟩
abbrev main_v465 : Ref sig .tc := ⟨.hbm, 524, rfl⟩
abbrev main_c_35 : Ref sig .tc := ⟨.hbm, 525, rfl⟩
abbrev main_call4_v0 : Ref sig .tc := ⟨.hbm, 526, rfl⟩
abbrev main_call4_v1 : Ref sig .tc := ⟨.hbm, 527, rfl⟩
abbrev main_call4_v2 : Ref sig .tc := ⟨.hbm, 528, rfl⟩
abbrev main_call4_v3 : Ref sig .tc := ⟨.hbm, 529, rfl⟩
abbrev main_call4_v4 : Ref sig .tc := ⟨.hbm, 530, rfl⟩
abbrev main_call4_v5 : Ref sig .tc := ⟨.hbm, 531, rfl⟩
abbrev main_call4_v6 : Ref sig .tc := ⟨.hbm, 532, rfl⟩
abbrev main_call4_v7 : Ref sig .tc := ⟨.hbm, 533, rfl⟩
abbrev main_call4_v8 : Ref sig .tc := ⟨.hbm, 534, rfl⟩
abbrev main_call4_c : Ref sig .tc := ⟨.hbm, 535, rfl⟩
abbrev main_call4_v9 : Ref sig .tc := ⟨.hbm, 536, rfl⟩
abbrev main_call4_v10 : Ref sig .tc := ⟨.hbm, 537, rfl⟩
abbrev main_call4_v11 : Ref sig .tc := ⟨.hbm, 538, rfl⟩
abbrev main_call4_c_0 : Ref sig .tc := ⟨.hbm, 539, rfl⟩
abbrev main_call4_v12 : Ref sig .tc := ⟨.hbm, 540, rfl⟩
abbrev main_call4_v13 : Ref sig .tc := ⟨.hbm, 541, rfl⟩
abbrev main_v466 : Ref sig .tc := ⟨.hbm, 542, rfl⟩
abbrev main_v467 : Ref sig .tc := ⟨.hbm, 543, rfl⟩
abbrev main_c_36 : Ref sig .tc := ⟨.hbm, 544, rfl⟩
abbrev main_call5_v0 : Ref sig .tc := ⟨.hbm, 545, rfl⟩
abbrev main_call5_v1 : Ref sig .tc := ⟨.hbm, 546, rfl⟩
abbrev main_call5_v2 : Ref sig .tc := ⟨.hbm, 547, rfl⟩
abbrev main_call5_v3 : Ref sig .tc := ⟨.hbm, 548, rfl⟩
abbrev main_call5_v4 : Ref sig .tc := ⟨.hbm, 549, rfl⟩
abbrev main_call5_v5 : Ref sig .tc := ⟨.hbm, 550, rfl⟩
abbrev main_call5_v6 : Ref sig .tc := ⟨.hbm, 551, rfl⟩
abbrev main_call5_v7 : Ref sig .tc := ⟨.hbm, 552, rfl⟩
abbrev main_call5_v8 : Ref sig .tc := ⟨.hbm, 553, rfl⟩
abbrev main_call5_c : Ref sig .tc := ⟨.hbm, 554, rfl⟩
abbrev main_call5_v9 : Ref sig .tc := ⟨.hbm, 555, rfl⟩
abbrev main_call5_v10 : Ref sig .tc := ⟨.hbm, 556, rfl⟩
abbrev main_call5_v11 : Ref sig .tc := ⟨.hbm, 557, rfl⟩
abbrev main_call5_c_0 : Ref sig .tc := ⟨.hbm, 558, rfl⟩
abbrev main_call5_v12 : Ref sig .tc := ⟨.hbm, 559, rfl⟩
abbrev main_call5_v13 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_cst_37 : Ref sig .tc := ⟨.hbm, 566, rfl⟩
abbrev main_call6_v0 : Ref sig .tc := ⟨.hbm, 567, rfl⟩
abbrev main_call6_v1 : Ref sig .tc := ⟨.hbm, 568, rfl⟩
abbrev main_call6_v2 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_v479 : Ref sig .tc := ⟨.hbm, 576, rfl⟩
abbrev main_v480 : Ref sig .tc := ⟨.hbm, 577, rfl⟩
abbrev main_v481 : Ref sig .tc := ⟨.hbm, 578, rfl⟩
abbrev main_v482 : Ref sig .tc := ⟨.hbm, 579, rfl⟩
abbrev main_v483 : Ref sig .tc := ⟨.hbm, 580, rfl⟩
abbrev main_v484 : Ref sig .tc := ⟨.hbm, 581, rfl⟩
abbrev main_v485 : Ref sig .tc := ⟨.hbm, 582, rfl⟩
abbrev main_v486 : Ref sig .tc := ⟨.hbm, 583, rfl⟩
abbrev main_v487 : Ref sig .tc := ⟨.hbm, 584, rfl⟩

abbrev nD : Nat := 1
abbrev τ : Topo := Topo.v7x

variable {F : FTy → Type} [FloatOps F]
-- ==== Proof.MergeValue.lean ====
/- The gradient of the gated merge: what the kernel leaves in its three result arrays, index by index. -/
module

public import proofs.«01_k».proof.Proof.Gen.KernelIdeal.Frame
public import proofs.«01_k».proof.Proof.Gen.ReferenceIdeal.Read
public import proofs.«01_k».proof.Proof.Gen.On_written
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Merge
open Cert.KernelIdeal Cert.KernelIdeal.Gen

/-- The sigmoid of an extended real, as both programs spell it. -/
def sg (v : EReal) : EReal := Ideal.div 1 (1 + Ideal.exp (-v))

variable (x0 : Vec Ideal S256x1024 .f32) (x1 : Vec Ideal S4x256x512 .bf16) (x2 : Vec Ideal S4x256x1024 .f32)
  (x3 : Vec Ideal S4x512x1024 .bf16) (x4 : Vec Ideal S1024x1024 .bf16)

/-- What a grid point stores for the gradient of the up projections, at an index of its block. -/
theorem up_block (y : S4x256x1024.Idx) :
    out0_5 x0 x1 x2 x3 x4 y
      = (∑ k : Fin 1024, x0 (ix2 (y 1) k) * x4 (ix2 (y 2) k)) * sg (x2 (ix3 (y 0) (y 1) (y 2))) := by
  unfold_out out0_5
  canon_tiles x h
  all_goals (open_payloads; pointwise [sg, zero_sub]; blk_point [])

/-- What a grid point stores for the gradient of the gates' logits, at an index of its block. -/
theorem gate_block (y : S4x256x1024.Idx) :
    out0_6 x0 x1 x2 x3 x4 y
      = (∑ k : Fin 1024, x0 (ix2 (y 1) k) * x4 (ix2 (y 2) k))
        * (∑ k : Fin 512, x1 (ix3 (y 0) (y 1) k) * x3 (ix3 (y 0) k (y 2)))
        * (sg (x2 (ix3 (y 0) (y 1) (y 2))) * (1 - sg (x2 (ix3 (y 0) (y 1) (y 2))))) := by
  unfold_out out0_6
  canon_tiles x h
  all_goals (open_payloads; pointwise [sg, zero_sub]; blk_point [])

/-- What a grid point stores for the gradient of the mixers' outputs, at an index of its block. -/
theorem y_block (y : S4x256x512.Idx) :
    out0_7 x0 x1 x2 x3 x4 y
      = ∑ d : Fin 1024, (∑ k : Fin 1024, x0 (ix2 (y 1) k) * x4 (ix2 d k)) * sg (x2 (ix3 (y 0) (y 1) d))
          * x3 (ix3 (y 0) (y 2) d) := by
  unfold_out out0_7
  canon_tiles x h
  all_goals (open_payloads; pointwise [sg, zero_sub]; blk_point [])

section
open Cert.ReferenceIdeal.Read

/-- The reference's gradient of the up projections, at an index. -/
theorem up_ref (a0 : FVec Ideal S4096x1024 .f32) (a2 : FVec Ideal S8x4096x1024 .f32) (a4 : FVec Ideal S1024x1024 .bf16)
    (j : S4x4096x1024.Idx) :
    val_main_v25 (F := Ideal) a0 a2 a4 j
      = (∑ k : Fin 1024, a0 (ix2 (j 1) k) * a4 (ix2 (j 2) k)) * sg (a2 (ix3 ⟨4 + (j 0).val, by have : (j 0).val < 4 := (j 0).isLt; omega⟩ (j 1) (j 2))) := by
  rw [mul_comm]
  pointwise [val_main_v25, val_main_v19, val_main_v10, val_main_v9, val_main_v8, val_main_v7, val_main_v6, val_main_v5,
    val_main_v4, val_main_v18, val_main_v17, val_main_v2, val_main_cst, val_main_cst_0, sg]

/-- The reference's gradient of the gates' logits, at an index of its upper half. -/
theorem gate_ref (a0 : FVec Ideal S4096x1024 .f32) (a1 : FVec Ideal S4x4096x512 .bf16) (a2 : FVec Ideal S8x4096x1024 .f32)
    (a3 : FVec Ideal S4x512x1024 .bf16) (a4 : FVec Ideal S1024x1024 .bf16) (g : Fin 4) (r : Fin 4096) (d : Fin 1024) :
    val_main_v26 (F := Ideal) a0 a1 a2 a3 a4 (ix3 ⟨4 + g.val, by omega⟩ r d)
      = (∑ k : Fin 1024, a0 (ix2 r k) * a4 (ix2 d k)) * (∑ k : Fin 512, a1 (ix3 g r k) * a3 (ix3 g k d))
        * (sg (a2 (ix3 ⟨4 + g.val, by omega⟩ r d)) * (1 - sg (a2 (ix3 ⟨4 + g.val, by omega⟩ r d)))) := by
  pointwise [val_main_v26, val_main_v24, val_main_v21, val_main_v20, val_main_v13, val_main_v12, val_main_v11, val_main_v3,
    val_main_v10, val_main_v9, val_main_v8, val_main_v7, val_main_v6, val_main_v5, val_main_v1, val_main_v0, val_main_cst_1,
    val_main_v4, val_main_v18, val_main_v17, val_main_v2, val_main_cst, val_main_cst_0, sg]

/-- The reference's gradient of the mixers' outputs, at an index. -/
theorem y_ref (a0 : FVec Ideal S4096x1024 .f32) (a2 : FVec Ideal S8x4096x1024 .f32)
    (a3 : FVec Ideal S4x512x1024 .bf16) (a4 : FVec Ideal S1024x1024 .bf16) (j : S4x4096x512.Idx) :
    val_main_v22 (F := Ideal) a0 a2 a3 a4 j
      = ∑ d : Fin 1024, (∑ k : Fin 1024, a0 (ix2 (j 1) k) * a4 (ix2 d k))
          * sg (a2 (ix3 ⟨4 + (j 0).val, by have : (j 0).val < 4 := (j 0).isLt; omega⟩ (j 1) d)) * a3 (ix3 (j 0) (j 2) d) := by
  pointwise! [val_main_v22, val_main_v19, val_main_v1,
    val_main_v10, val_main_v9, val_main_v8, val_main_v7, val_main_v6, val_main_v5,
    val_main_v4, val_main_v18, val_main_v17, val_main_v2, val_main_cst, val_main_cst_0, sg]

end

variable (m : (ℓ : Loc nD τ sig) → Buf (Elt Ideal) ℓ)

/-- The windows' block indices at every grid point. -/
theorem idx : ∀ t : Fin cfg0.N, win0_0.index t = ![t.val, 0] ∧ win0_1.index t = ![0, t.val, 0] ∧ win0_2.index t = ![1, t.val, 0]
    ∧ win0_3.index t = ![0, 0, 0] ∧ win0_4.index t = ![0, 0] ∧ win0_5.index t = ![0, t.val, 0] ∧ win0_6.index t = ![1, t.val, 0]
    ∧ win0_7.index t = ![0, t.val, 0] :=
  (by decide +kernel : ∀ t : Fin grid0.N, _)

/-- The array of the up projections' gradient after the run is the reference's. -/
theorem final5 (c : Dev nD) : (dats m 0 c).arrAt 5 (cfgs 0).N
    = Cert.ReferenceIdeal.Read.val_main_v25 (F := Ideal) (m ((c : Thread nD τ).loc main_arg0))
        (m ((c : Thread nD τ).loc main_arg2)) (m ((c : Thread nD τ).loc main_arg4)) := by
  refine (dats m 0 c).arrAt_eq_of_covers 5 _ (by decide +kernel) fun t hf y => ?_
  blk_simp
  rw [after0_5, up_ref]
  refine (up_block _ _ _ _ _ y).trans ?_
  blk_point [iblk, V, idx t]

/-- The array of the mixers' outputs' gradient after the run is the reference's. -/
theorem final7 (c : Dev nD) : (dats m 0 c).arrAt 7 (cfgs 0).N
    = Cert.ReferenceIdeal.Read.val_main_v22 (F := Ideal) (m ((c : Thread nD τ).loc main_arg0))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, y_ref]
  refine (y_block _ _ _ _ _ y).trans ?_
  blk_point [iblk, V, idx t]

/-- The array of the projections' gradient after the run: its upper half is the reference's. -/
theorem final6 (c : Dev nD) : (dats m 0 c).arrAt 6 (cfgs 0).N
    = fun i => if 4 ≤ (i 0).val then Cert.ReferenceIdeal.Read.val_main_v26 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) i else V m c main_v0_1 i := by
  refine (dats m 0 c).arrAt_eq_of_coversWhere 6 _ (fun β => 1 ≤ β 0) (by decide +kernel) (fun t hf y => ?_)
    (fun j => by blk_simp [Pipeline.Window.cell_apply]; omega)
  blk_simp
  rw [after0_6]
  refine (gate_block _ _ _ _ _ y).trans ?_
  have h0 : (y 0).val < 4 := (y 0).isLt
  have h1 : (y 1).val < 256 := (y 1).isLt
  have ht : t.val < 16 := t.isLt
  have e : ix3 (⟨4 + (y 0).val, by omega⟩ : Fin 8) (⟨t.val * 256 + (y 1).val, by omega⟩ : Fin 4096) (y 2)
      = (win0_6.blk t).view.emb y := by blk_ext [idx t]
  rw [← e]
  refine Eq.trans ?_ (gate_ref _ _ _ _ _ (y 0) ⟨t.val * 256 + (y 1).val, by omega⟩ (y 2)).symm
  blk_point [iblk, V, idx t]

/-- Where the mask of the projections' gradient holds, the block index is at least four. -/
theorem written_ge (a0 : FVec Ideal S4096x1024 .f32) (a1 : FVec Ideal S4x4096x512 .bf16) (a2 : FVec Ideal S8x4096x1024 .f32)
    (a3 : FVec Ideal S4x512x1024 .bf16) (a4 : FVec Ideal S1024x1024 .bf16) (i : S8x4096x1024.Idx)
    (h : (Cert.On_written.fn (F := Ideal) a0 a1 a2 a3 a4).2.1 i = 1#1) : 4 ≤ (i 0).val := by
  have hi : (i 0).val < 8 := (i 0).isLt
  have e : (Cert.On_written.fn (F := Ideal) a0 a1 a2 a3 a4).2.1 i
      = BitVec.ofBool ((4#32).sle (BitVec.ofNat 32 (i 0).val)) := rfl
  rw [e] at h
  by_contra hc
  obtain h' | h' | h' | h' : (i 0).val = 0 ∨ (i 0).val = 1 ∨ (i 0).val = 2 ∨ (i 0).val = 3 := by omega
  all_goals (rw [h'] at h; revert h; decide)

end Cert.KernelIdeal.Merge

end
-- ==== Proof.UpValue.lean ====
/- The gradient of the up projections: the two steps over the tokens add up to the whole contraction. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Up
open Cert.Kernel2Ideal Cert.Kernel2Ideal.Gen

variable (m : (ℓ : Loc nD τ sig) → Buf (Elt Ideal) ℓ)

/-- The windows' block indices at every grid point. -/
theorem idx : ∀ t : Fin cfg0.N, win0_0.index t = ![t.val / 2, t.val % 2, 0]
    ∧ win0_1.index t = ![t.val / 2, t.val % 2, 0] ∧ win0_2.index t = ![t.val / 2, 0, 0] :=
  (by decide +kernel : ∀ t : Fin grid0.N, _)

/-- A whole buffer written and read back. -/
theorem reread (h : (Memref.whole cc0_scratch0).IsWhole) (a : Vec Ideal S512x1024 .f32) :
    View.read (Elt Ideal) (View.whole cc0_scratch0) (h.unread a) = a := h.read_unread a

/-- One step's product, at an index. -/
theorem part_at (x : Vec Ideal S1x2048x512 .bf16) (d : Vec Ideal S1x2048x1024 .bf16) (j : S512x1024.Idx) :
    k0_pay2 x d j = 0 + ∑ k : Fin 2048, x (ix3 0 k (j 0)) * d (ix3 0 k (j 1)) := by
  pointwise [k0_pay2, k0_pay1]

/-- A later step adds its product to what the steps before left. -/
theorem step_at (x : Vec Ideal S1x2048x512 .bf16) (d : Vec Ideal S1x2048x1024 .bf16) (a : Vec Ideal S512x1024 .f32)
    (j : S512x1024.Idx) :
    k0_pay3 x d a j = a j + ∑ k : Fin 2048, x (ix3 0 k (j 0)) * d (ix3 0 k (j 1)) := by
  pointwise [k0_pay3, k0_pay1]

/-- The reference's gradient, at an index. -/
theorem ref_at (x : FVec Ideal S4x4096x512 .bf16) (d : FVec Ideal S4x4096x1024 .bf16) (j : S4x512x1024.Idx) :
    Cert.Reference2Ideal.Read.val_main_v6 (F := Ideal) x d j
      = ∑ k : Fin 4096, x (ix3 (j 0) k (j 1)) * d (ix3 (j 0) k (j 2)) := by
  pointwise! [Cert.Reference2Ideal.Read.val_main_v6, Cert.Reference2Ideal.Read.val_main_v5,
    Cert.Reference2Ideal.Read.val_main_v4, Cert.Reference2Ideal.Read.val_main_v0, Cert.Reference2Ideal.Read.val_main_v1]

/-- The accumulator after grid point `t`: the products of its run's steps so far. -/
theorem acc_at (c : Dev nD) (t : Fin cfg0.N) (hr : t.val % 2 = 2 - 1) (j : S512x1024.Idx) :
    (outsAt0 m c t.val t.isLt).2 j
      = 0 + ∑ s : Fin 2, ∑ k : Fin 2048,
          (show Vec Ideal S1x2048x512 .bf16 from iblk m c 0 ⟨2 * (t.val / 2) + s.val, Pipeline.run_point_lt_of_flush t hr s⟩) (ix3 0 k (j 0))
          * (show Vec Ideal S1x2048x1024 .bf16 from iblk m c 1 ⟨2 * (t.val / 2) + s.val, Pipeline.run_point_lt_of_flush t hr s⟩) (ix3 0 k (j 1)) := by
  refine Pipeline.eq_sum_fin_of_reset_step_apply_of_flush (fun n h => (outsAt0 m c n h).2) 2 (fun _ => 0)
    (fun p j => ∑ k : Fin 2048, (show Vec Ideal S1x2048x512 .bf16 from iblk m c 0 p) (ix3 0 k (j 0))
      * (show Vec Ideal S1x2048x1024 .bf16 from iblk m c 1 p) (ix3 0 k (j 1))) (fun t h j => ?_) (fun t h j => ?_) t hr j
  · show (outsAt0 m c t.val t.isLt).2 j = _
    rw [outsAt0_A m c t h (by omega) (by omega)]
    frame_out
    exact part_at _ _ j
  · show (outsAt0 m c t.val t.isLt).2 j = _
    rw [outsAt0_B m c t h (by omega) (by omega)]
    frame_out
    rw [reread]
    exact step_at _ _ _ j

/-- The last step's block is the accumulator with one more axis. -/
theorem out_at (a : Vec Ideal S512x1024 .f32) (y : S1x512x1024.Idx) : k0_pay4 a y = a (ix2 (y 1) (y 2)) := by
  pointwise [k0_pay4]

/-- The array of the up projections' gradient after the run is the reference's. -/
theorem final (c : Dev nD) : (dats m 0 c).arrAt 2 (cfgs 0).N
    = Cert.Reference2Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hr : t.val % 2 = 2 - 1 := (flush0_2 t).mp hf
  have hp : t.val % 2 = 1 := hr
  have h := acc_at m c t hr (ix2 (y 1) (y 2))
  rw [outsAt0_B m c t (by omega) hr hr] at h ⊢
  frame_out at h
  frame_out
  refine (out_at _ y).trans (h.trans ?_)
  rw [ref_at, zero_add]
  refine Fin.sum_mul_add_congr fun s k hl => ?_
  blk_point [iblk, V, idx ⟨_, Pipeline.run_point_lt_of_flush t hr s⟩, idx t]

end Cert.Kernel2Ideal.Up

end
-- ==== Proof.OutValue.lean ====
/- The gradient of the output projection: the four steps over the tokens add up to the whole contraction. -/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Out
open Cert.Kernel3Ideal Cert.Kernel3Ideal.Gen

variable (m : (ℓ : Loc nD τ sig) → Buf (Elt Ideal) ℓ)

/-- The windows' block indices at every grid point. -/
theorem idx : ∀ t : Fin cfg0.N, win0_0.index t = ![0, t.val, 0]
    ∧ win0_1.index t = ![0, t.val, 0] ∧ win0_2.index t = ![0, 0, 0] :=
  (by decide +kernel : ∀ t : Fin grid0.N, _)

/-- A whole buffer written and read back. -/
theorem reread (h : (Memref.whole cc0_scratch0).IsWhole) (a : Vec Ideal S1024x1024 .f32) :
    View.read (Elt Ideal) (View.whole cc0_scratch0) (h.unread a) = a := h.read_unread a

/-- One step's product, at an index. -/
theorem part_at (x : Vec Ideal S1x1024x1024 .bf16) (d : Vec Ideal S1x1024x1024 .f32) (j : S1024x1024.Idx) :
    k0_pay2 x d j = 0 + ∑ k : Fin 1024, x (ix3 0 k (j 0)) * d (ix3 0 k (j 1)) := by
  pointwise [k0_pay2, k0_pay1]

/-- A later step adds its product to what the steps before left. -/
theorem step_at (x : Vec Ideal S1x1024x1024 .bf16) (d : Vec Ideal S1x1024x1024 .f32) (a : Vec Ideal S1024x1024 .f32)
    (j : S1024x1024.Idx) :
    k0_pay3 x d a j = a j + ∑ k : Fin 1024, x (ix3 0 k (j 0)) * d (ix3 0 k (j 1)) := by
  pointwise [k0_pay3, k0_pay1]

/-- The reference's gradient, at an index. -/
theorem ref_at (x : FVec Ideal S1x4096x1024 .bf16) (d : FVec Ideal S1x4096x1024 .f32) (j : S1x1024x1024.Idx) :
    Cert.Reference3Ideal.Read.val_main_v8 (F := Ideal) x d j
      = ∑ k : Fin 4096, x (ix3 0 k (j 1)) * d (ix3 0 k (j 2)) := by
  pointwise! [Cert.Reference3Ideal.Read.val_main_v8, Cert.Reference3Ideal.Read.val_main_v7, Cert.Reference3Ideal.Read.val_main_v6,
    Cert.Reference3Ideal.Read.val_main_v5, Cert.Reference3Ideal.Read.val_main_v4, Cert.Reference3Ideal.Read.val_main_v0, Cert.Reference3Ideal.Read.val_main_v1]

/-- The accumulator after grid point `t`: the products of its run's steps so far. -/
theorem acc_at (c : Dev nD) (t : Fin cfg0.N) (hr : t.val % 4 = 4 - 1) (j : S1024x1024.Idx) :
    (outsAt0 m c t.val t.isLt).2 j
      = 0 + ∑ s : Fin 4, ∑ k : Fin 1024,
          (show Vec Ideal S1x1024x1024 .bf16 from iblk m c 0 ⟨4 * (t.val / 4) + s.val, Pipeline.run_point_lt_of_flush t hr s⟩) (ix3 0 k (j 0))
          * (show Vec Ideal S1x1024x1024 .f32 from iblk m c 1 ⟨4 * (t.val / 4) + s.val, Pipeline.run_point_lt_of_flush t hr s⟩) (ix3 0 k (j 1)) := by
  refine Pipeline.eq_sum_fin_of_reset_step_apply_of_flush (fun n h => (outsAt0 m c n h).2) 4 (fun _ => 0)
    (fun p j => ∑ k : Fin 1024, (show Vec Ideal S1x1024x1024 .bf16 from iblk m c 0 p) (ix3 0 k (j 0))
      * (show Vec Ideal S1x1024x1024 .f32 from iblk m c 1 p) (ix3 0 k (j 1))) (fun t h j => ?_) (fun t h j => ?_) t hr j
  · show (outsAt0 m c t.val t.isLt).2 j = _
    have ht : t.val < 4 := t.isLt
    rw [outsAt0_A m c t h (by omega) (by omega)]
    frame_out
    exact part_at _ _ j
  · show (outsAt0 m c t.val t.isLt).2 j = _
    by_cases hl : t.val % 4 = 3
    · rw [outsAt0_C m c t h (by omega) hl]
      frame_out
      rw [reread]
      exact step_at _ _ _ j
    · rw [outsAt0_B m c t h (by omega) hl]
      frame_out
      rw [reread]
      exact step_at _ _ _ j

/-- The last step's block is the accumulator with one more axis. -/
theorem out_at (a : Vec Ideal S1024x1024 .f32) (y : S1x1024x1024.Idx) : k0_pay4 a y = a (ix2 (y 1) (y 2)) := by
  pointwise [k0_pay4]

/-- The array of the output projection's gradient after the run is the reference's. -/
theorem final (c : Dev nD) : (dats m 0 c).arrAt 2 (cfgs 0).N
    = Cert.Reference3Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hr : t.val % 4 = 4 - 1 := (flush0_2 t).mp hf
  have hp : t.val % 4 = 3 := hr
  have h := acc_at m c t hr (ix2 (y 1) (y 2))
  rw [outsAt0_C m c t (by omega) (by omega) hr] at h ⊢
  frame_out at h
  frame_out
  refine (out_at _ y).trans (h.trans ?_)
  rw [ref_at, zero_add]
  refine Fin.sum_mul_add_congr fun s k hl => ?_
  blk_point [iblk, V, idx ⟨_, Pipeline.run_point_lt_of_flush t hr s⟩, idx t]

end Cert.Kernel3Ideal.Out

end
-- ==== Proof.HiddenValue.lean ====
/- The gradient through the feed-forward layer's second product and its gated hidden values: every point takes one block of the product
   and runs down its rows, writing the hidden values and the gradients of the two factors. -/
module

public import proofs.«01_k».proof.Proof.Gen.Kernel4Ideal.Frame
public import proofs.«01_k».proof.Proof.Gen.Reference4Ideal.Read
public import proofs.«01_k».proof.Proof.Gen.Pre_finite
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Hidden
open Cert.Kernel4Ideal Cert.Kernel4Ideal.Gen

variable (m : (ℓ : Loc nD τ sig) → Buf (Elt Ideal) ℓ)

/-- The windows' block indices at every grid point. -/
theorem idx : ∀ t : Fin cfg0.N, win0_0.index t = ![t.val % 8, 0] ∧ win0_1.index t = ![t.val / 8, 0]
    ∧ win0_2.index t = ![0, t.val % 8, t.val / 8] ∧ win0_3.index t = ![0, t.val % 8, t.val / 8] ∧ win0_4.index t = ![t.val % 8, t.val / 8] :=
  (by decide +kernel : ∀ t : Fin grid0.N, _)

/-- The logistic function. -/
def logistic (a : EReal) : EReal := Ideal.div 1 (1 + Ideal.exp (0 - a))

/-- A row of the incoming gradient times a row of the weight, halved. -/
def down (d : Vec Ideal S512x1024 .f32) (w : Vec Ideal S1408x1024 .bf16) (r : Fin 512) (n : Fin 1408) : EReal :=
  Ideal.ofBits .f32 0x3F000000#32 * ∑ k : Fin 1024, d (ix2 r k) * w (ix2 n k)

/-- The block of the hidden values. -/
def hid (u : Vec Ideal S2x512x1408 .bf16) (y : S512x1408.Idx) : EReal :=
  Ideal.ofBits .f32 0x3F000000#32 * (u (ix3 0 (y 0) (y 1)) * logistic (u (ix3 0 (y 0) (y 1))) * u (ix3 1 (y 0) (y 1)))

/-- The block of the two gradients. -/
def wings (d : Vec Ideal S512x1024 .f32) (w : Vec Ideal S1408x1024 .bf16) (u : Vec Ideal S2x512x1408 .bf16) (y : S2x512x1408.Idx) : EReal :=
  if (y 0).val = 0 then
    down d w (y 1) (y 2) * u (ix3 1 (y 1) (y 2)) * (logistic (u (ix3 0 (y 1) (y 2)))
      * (1 + u (ix3 0 (y 1) (y 2)) * (1 - logistic (u (ix3 0 (y 1) (y 2))))))
  else down d w (y 1) (y 2) * (u (ix3 0 (y 1) (y 2)) * logistic (u (ix3 0 (y 1) (y 2))))

/-- The block of the hidden values after a point. -/
theorem hid_at (c : Dev nD) (t : Fin cfg0.N) (y : S512x1408.Idx) : (outsAt0 m c t).2 y = hid (iblk m c 2 t) y := by
  unfold Gen.outsAt0 hid logistic
  frame_out
  canon_tiles x h
  all_goals
    open_payloads
    pointwise []
    blk_point []

/-- The block of the two gradients after a point. -/
theorem wings_at (c : Dev nD) (t : Fin cfg0.N) (y : S2x512x1408.Idx) : (outsAt0 m c t).1 y = wings (iblk m c 0 t) (iblk m c 1 t) (iblk m c 2 t) y := by
  unfold Gen.outsAt0
  frame_out
  simp (decide := true) only [View.readCov_skip, View.readCov_fill]
  canon_tiles x h
  all_goals
    first
    | rw [wings, if_pos (by omega)]
    | rw [wings, if_neg (by omega)]
    unfold down logistic
    open_payloads
    pointwise []
    blk_point []

/-- The reference's hidden values, at an index. -/
theorem hid_ref (u : FVec Ideal S2x4096x2816 .bf16) (j : S4096x2816.Idx) :
    Cert.Reference4Ideal.Read.val_main_v21 (F := Ideal) u j
      = Ideal.ofBits .f32 0x3F000000#32 * (u (ix3 0 (j 0) (j 1)) * logistic (u (ix3 0 (j 0) (j 1))) * u (ix3 1 (j 0) (j 1))) := by
  unfold logistic
  rw [zero_sub]
  pointwise [Cert.Reference4Ideal.Read.val_main_v21, Cert.Reference4Ideal.Read.val_main_v9, Cert.Reference4Ideal.Read.val_main_v8, Cert.Reference4Ideal.Read.val_main_cst, Cert.Reference4Ideal.Read.val_main_v7, Cert.Reference4Ideal.Read.val_main_v6_0, Cert.Reference4Ideal.Read.val_main_v6_2, Cert.Reference4Ideal.Read.val_main_call0_v4, Cert.Reference4Ideal.Read.val_main_call0_cst_0, Cert.Reference4Ideal.Read.val_main_call0_v3, Cert.Reference4Ideal.Read.val_main_call0_v2, Cert.Reference4Ideal.Read.val_main_call0_cst, Cert.Reference4Ideal.Read.val_main_call0_v1, Cert.Reference4Ideal.Read.val_main_call0_v0, Cert.Reference4Ideal.Read.val_main_v5, Cert.Reference4Ideal.Read.val_main_v4, Cert.Reference4Ideal.Read.val_main_v3, Cert.Reference4Ideal.Read.val_main_v2, Cert.Reference4Ideal.Read.val_main_v1]

/-- The array of the hidden values after the run is the reference's. -/
theorem final4 (c : Dev nD) : (dats m 0 c).arrAt 4 (cfgs 0).N
    = Cert.Reference4Ideal.Read.val_main_v21 (F := Ideal) (m ((c : Thread nD τ).loc main_arg2)) := by
  refine (dats m 0 c).arrAt_eq_of_covers 4 _ (by decide +kernel) fun t hf y => ?_
  blk_simp
  rw [after0_4]
  refine (hid_at m c t y).trans ?_
  rw [hid_ref]
  unfold hid
  blk_point [iblk, V, idx t]

/-- The incoming gradient of a hidden value: the whole product, halved. -/
def full (d : FVec Ideal S4096x1024 .f32) (w : FVec Ideal S2816x1024 .bf16) (i : Fin 4096) (n : Fin 2816) : EReal :=
  Ideal.ofBits .f32 0x3F000000#32 * ∑ k : Fin 1024, d (ix2 i k) * w (ix2 n k)

/-- The block of the two gradients, from the arrays. -/
theorem wings_full (c : Dev nD) (t : Fin cfg0.N) (y : S2x512x1408.Idx) (i : Fin 4096) (n : Fin 2816)
    (hi : i.val = t.val % 8 * 512 + (y 1).val) (hn : n.val = t.val / 8 * 1408 + (y 2).val) :
    wings (iblk m c 0 t) (iblk m c 1 t) (iblk m c 2 t) y
      = if (y 0).val = 0 then
          full (m ((c : Thread nD τ).loc main_arg0)) (m ((c : Thread nD τ).loc main_arg1)) i n
            * (show FVec Ideal S2x4096x2816 .bf16 from m ((c : Thread nD τ).loc main_arg2)) (ix3 1 i n)
            * (logistic (m ((c : Thread nD τ).loc main_arg2) (ix3 0 i n))
              * (1 + (show FVec Ideal S2x4096x2816 .bf16 from m ((c : Thread nD τ).loc main_arg2)) (ix3 0 i n)
                * (1 - logistic (m ((c : Thread nD τ).loc main_arg2) (ix3 0 i n)))))
        else full (m ((c : Thread nD τ).loc main_arg0)) (m ((c : Thread nD τ).loc main_arg1)) i n
          * ((show FVec Ideal S2x4096x2816 .bf16 from m ((c : Thread nD τ).loc main_arg2)) (ix3 0 i n)
            * logistic (m ((c : Thread nD τ).loc main_arg2) (ix3 0 i n))) := by
  have hu : ∀ s : Fin 2, (show Vec Ideal S2x512x1408 .bf16 from iblk m c 2 t) (ix3 s (y 1) (y 2))
      = (show FVec Ideal S2x4096x2816 .bf16 from m ((c : Thread nD τ).loc main_arg2)) (ix3 s i n) := by
    intro s
    blk_point [iblk, V, idx t]
  have hd : down (iblk m c 0 t) (iblk m c 1 t) (y 1) (y 2)
      = full (m ((c : Thread nD τ).loc main_arg0)) (m ((c : Thread nD τ).loc main_arg1)) i n := by
    unfold down full
    blk_point [iblk, V, idx t]
  unfold wings
  rw [hd]
  simp only [hu]

/-- The product rule for the gated value: one pass against the sum of its two parts, for a real incoming gradient. -/
theorem rule (e : ℝ) (a : EReal) :
    (e : EReal) * (logistic a * (1 + a * (1 - logistic a))) = (e : EReal) * logistic a + a * (e : EReal) * (logistic a * (1 - logistic a)) := by
  unfold logistic
  rw [zero_sub]
  induction a using EReal.rec with
  | bot =>
    have hx : Ideal.div 1 (1 + Ideal.exp (-(⊥ : EReal))) = 0 := by
      rw [EReal.neg_bot, show Ideal.exp ⊤ = ⊤ from rfl, EReal.add_top_of_ne_bot (by decide)]
      simp [Ideal.div]
    rw [hx]
    simp
  | top =>
    have hx : Ideal.div 1 (1 + Ideal.exp (-(⊤ : EReal))) = 1 := by
      rw [EReal.neg_top, show Ideal.exp ⊥ = 0 from rfl, add_zero]
      simp [Ideal.div]
    rw [hx]
    simp [show (1 : EReal) - 1 = 0 from by rw [← EReal.coe_one, ← EReal.coe_sub, sub_self, EReal.coe_zero]]
  | coe a =>
    have hp : (0 : ℝ) < 1 + Real.exp (-a) := by positivity
    have hx : Ideal.div 1 (1 + Ideal.exp (-(a : EReal))) = ((1 / (1 + Real.exp (-a)) : ℝ) : EReal) := by
      rw [← EReal.coe_neg, Ideal.exp_coe, ← EReal.coe_one, ← EReal.coe_add, Ideal.div_coe hp.ne', ← EReal.coe_mul, one_mul]
    rw [hx]
    generalize 1 / (1 + Real.exp (-a)) = l
    rw [← EReal.coe_one]
    simp only [← EReal.coe_sub, ← EReal.coe_mul, ← EReal.coe_add]
    congr 1
    ring

/-- A value below the infinite word in magnitude is real. -/
theorem real_of_lt (x : EReal) (h : Ideal.cmp .olt (max x (-x)) (Ideal.ofBits .f32 0x7F800000#32) = 1) : ∃ r : ℝ, x = (r : EReal) := by
  have hw : Ideal.ofBits .f32 0x7F800000#32 = ⊤ := by simp [Ideal.ofBits, Ideal.ieee]
  rw [Ideal.cmp_olt_eq_one, hw] at h
  induction x using EReal.rec with
  | bot => simp at h
  | top => simp at h
  | coe r => exact ⟨r, rfl⟩

/-- What the precondition says of the incoming gradient, of the weight and of the second factor. -/
theorem real0 (d : FVec Ideal S4096x1024 .f32) (w : FVec Ideal S2816x1024 .bf16) (u : FVec Ideal S2x4096x2816 .bf16)
    (h : (Cert.Pre_finite.fn (F := Ideal) d w u).1 = fun _ => 1#1) (i : Fin 4096) (k : Fin 1024) : ∃ r : ℝ, d (ix2 i k) = (r : EReal) :=
  real_of_lt _ (congrFun h (ix2 i k))

theorem real1 (d : FVec Ideal S4096x1024 .f32) (w : FVec Ideal S2816x1024 .bf16) (u : FVec Ideal S2x4096x2816 .bf16)
    (h : (Cert.Pre_finite.fn (F := Ideal) d w u).2.1 = fun _ => 1#1) (n : Fin 2816) (k : Fin 1024) : ∃ r : ℝ, w (ix2 n k) = (r : EReal) :=
  real_of_lt _ (congrFun h (ix2 n k))

theorem real2 (d : FVec Ideal S4096x1024 .f32) (w : FVec Ideal S2816x1024 .bf16) (u : FVec Ideal S2x4096x2816 .bf16)
    (h : (Cert.Pre_finite.fn (F := Ideal) d w u).2.2 = fun _ => 1#1) (i : Fin 4096) (n : Fin 2816) : ∃ r : ℝ, u (ix3 1 i n) = (r : EReal) := by
  refine real_of_lt _ (Eq.trans ?_ (congrFun h (ix2 i n)))
  unfold Cert.Pre_finite.fn
  pointwise []
  rfl

/-- So the gradient that reaches the gate is real. -/
theorem real_full (d : FVec Ideal S4096x1024 .f32) (w : FVec Ideal S2816x1024 .bf16) (i : Fin 4096) (n : Fin 2816)
    (hd : ∀ k : Fin 1024, ∃ r : ℝ, d (ix2 i k) = (r : EReal)) (hw : ∀ k : Fin 1024, ∃ r : ℝ, w (ix2 n k) = (r : EReal)) :
    ∃ r : ℝ, full d w i n = (r : EReal) := by
  have hs : ∃ r : ℝ, ∑ k : Fin 1024, d (ix2 i k) * w (ix2 n k) = (r : EReal) := by
    refine Finset.sum_induction (fun k : Fin 1024 => d (ix2 i k) * w (ix2 n k)) (fun x => ∃ r : ℝ, x = (r : EReal)) ?_ ⟨0, rfl⟩ fun k _ => ?_
    · rintro _ _ ⟨a, rfl⟩ ⟨b, rfl⟩
      exact ⟨a + b, (EReal.coe_add a b).symm⟩
    · obtain ⟨a, ha⟩ := hd k
      obtain ⟨b, hb⟩ := hw k
      exact ⟨a * b, by rw [ha, hb, EReal.coe_mul]⟩
  obtain ⟨r, hr⟩ := hs
  have hh : Ideal.ofBits .f32 0x3F000000#32 = ((1 / 2 : ℝ) : EReal) := by
    simp [Ideal.ofBits, Ideal.ieee, -EReal.coe_mul, -EReal.coe_neg]
    norm_num
  exact ⟨1 / 2 * r, by rw [full, hr, hh, EReal.coe_mul]⟩

/-- The reference's two gradients, at an index. -/
theorem wings_ref (d : FVec Ideal S4096x1024 .f32) (w : FVec Ideal S2816x1024 .bf16) (u : FVec Ideal S2x4096x2816 .bf16)
    (s : Fin 2) (i : Fin 4096) (n : Fin 2816) (h : ∃ r : ℝ, full d w i n * u (ix3 1 i n) = (r : EReal)) :
    Cert.Reference4Ideal.Read.val_main_v20 (F := Ideal) d w u (ix3 s i n)
      = if s.val = 0 then full d w i n * u (ix3 1 i n) * (logistic (u (ix3 0 i n)) * (1 + u (ix3 0 i n) * (1 - logistic (u (ix3 0 i n)))))
        else full d w i n * (u (ix3 0 i n) * logistic (u (ix3 0 i n))) := by
  obtain ⟨r, hr⟩ := h
  have hrule := rule r (u (ix3 0 i n))
  rw [← hr] at hrule
  rw [hrule, mul_comm (full d w i n) (u (ix3 0 i n) * _)]
  clear hrule hr
  unfold full logistic
  rw [zero_sub]
  pointwise [Cert.Reference4Ideal.Read.val_main_v20, Cert.Reference4Ideal.Read.val_main_v19, Cert.Reference4Ideal.Read.val_main_v18, Cert.Reference4Ideal.Read.val_main_v17, Cert.Reference4Ideal.Read.val_main_v16, Cert.Reference4Ideal.Read.val_main_call1_v2, Cert.Reference4Ideal.Read.val_main_call1_v1, Cert.Reference4Ideal.Read.val_main_call1_v0, Cert.Reference4Ideal.Read.val_main_v15, Cert.Reference4Ideal.Read.val_main_v14, Cert.Reference4Ideal.Read.val_main_v13, Cert.Reference4Ideal.Read.val_main_v12, Cert.Reference4Ideal.Read.val_main_cst_0, Cert.Reference4Ideal.Read.val_main_v11, Cert.Reference4Ideal.Read.val_main_v6_1, Cert.Reference4Ideal.Read.val_main_call0_v7, Cert.Reference4Ideal.Read.val_main_call0_v6, Cert.Reference4Ideal.Read.val_main_call0_cst_1, Cert.Reference4Ideal.Read.val_main_v6_0, Cert.Reference4Ideal.Read.val_main_v6_2, Cert.Reference4Ideal.Read.val_main_call0_v4, Cert.Reference4Ideal.Read.val_main_call0_cst_0, Cert.Reference4Ideal.Read.val_main_call0_v3, Cert.Reference4Ideal.Read.val_main_call0_v2, Cert.Reference4Ideal.Read.val_main_call0_cst, Cert.Reference4Ideal.Read.val_main_call0_v1, Cert.Reference4Ideal.Read.val_main_call0_v0, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0]
  simp only [Nat.lt_one_iff, dite_eq_ite]

/-- The array of the two gradients after the run is the reference's, where the incoming gradient, the weight and the second factor
    are finite. -/
theorem final3 (c : Dev nD) (h : ∀ (i : Fin 4096) (n : Fin 2816),
      ∃ r : ℝ, full (m ((c : Thread nD τ).loc main_arg0)) (m ((c : Thread nD τ).loc main_arg1)) i n
        * (show FVec Ideal S2x4096x2816 .bf16 from m ((c : Thread nD τ).loc main_arg2)) (ix3 1 i n) = (r : EReal)) :
    (dats m 0 c).arrAt 3 (cfgs 0).N
      = Cert.Reference4Ideal.Read.val_main_v20 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  have hN : cfg0.N = 16 := by decide +kernel
  have ht : t.val < cfg0.N := t.isLt
  have h1 : (y 1).val < 512 := (y 1).isLt
  have h2 : (y 2).val < 1408 := (y 2).isLt
  have hi : t.val % 8 * 512 + (y 1).val < 4096 := by omega
  have hn : t.val / 8 * 1408 + (y 2).val < 2816 := by omega
  refine (wings_at m c t y).trans ((wings_full m c t y ⟨t.val % 8 * 512 + (y 1).val, hi⟩ ⟨t.val / 8 * 1408 + (y 2).val, hn⟩ rfl rfl).trans
    ((wings_ref _ _ _ (y 0) _ _ (h _ _)).symm.trans ?_))
  blk_point [idx t]

/-- The precondition makes the gradient of the first factor's input real. -/
theorem real_of_pre (d : FVec Ideal S4096x1024 .f32) (w : FVec Ideal S2816x1024 .bf16) (u : FVec Ideal S2x4096x2816 .bf16)
    (h0 : (Cert.Pre_finite.fn (F := Ideal) d w u).1 = fun _ => 1#1) (h1 : (Cert.Pre_finite.fn (F := Ideal) d w u).2.1 = fun _ => 1#1)
    (h2 : (Cert.Pre_finite.fn (F := Ideal) d w u).2.2 = fun _ => 1#1) (i : Fin 4096) (n : Fin 2816) :
    ∃ r : ℝ, full d w i n * u (ix3 1 i n) = (r : EReal) := by
  obtain ⟨a, ha⟩ := real_full d w i n (fun k => real0 d w u h0 i k) (fun k => real1 d w u h1 n k)
  obtain ⟨b, hb⟩ := real2 d w u h2 i n
  exact ⟨a * b, by rw [ha, hb, EReal.coe_mul]⟩

end Cert.Kernel4Ideal.Hidden

end
-- ==== Proof.InValue.lean ====
/- The gradient of the input projection: for every column block the two steps over the tokens add up to the whole contraction. -/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.In
open Cert.Kernel5Ideal Cert.Kernel5Ideal.Gen

variable (m : (ℓ : Loc nD τ sig) → Buf (Elt Ideal) ℓ)

/-- The windows' block indices at every grid point. -/
theorem idx : ∀ t : Fin cfg0.N, win0_0.index t = ![0, t.val % 2, 0]
    ∧ win0_1.index t = ![t.val / 2, t.val % 2, 0] ∧ win0_2.index t = ![t.val / 2, 0, 0] :=
  (by decide +kernel : ∀ t : Fin grid0.N, _)

/-- A whole buffer written and read back. -/
theorem reread (h : (Memref.whole cc0_scratch0).IsWhole) (a : Vec Ideal S1024x1024 .f32) :
    View.read (Elt Ideal) (View.whole cc0_scratch0) (h.unread a) = a := h.read_unread a

/-- One step's product, at an index. -/
theorem part_at (x : Vec Ideal S1x2048x1024 .bf16) (d : Vec Ideal S1x2048x1024 .bf16) (j : S1024x1024.Idx) :
    k0_pay2 x d j = 0 + ∑ k : Fin 2048, x (ix3 0 k (j 0)) * d (ix3 0 k (j 1)) := by
  pointwise [k0_pay2, k0_pay1]

/-- A later step adds its product to what the steps before left. -/
theorem step_at (x : Vec Ideal S1x2048x1024 .bf16) (d : Vec Ideal S1x2048x1024 .bf16) (a : Vec Ideal S1024x1024 .f32)
    (j : S1024x1024.Idx) :
    k0_pay3 x d a j = a j + ∑ k : Fin 2048, x (ix3 0 k (j 0)) * d (ix3 0 k (j 1)) := by
  pointwise [k0_pay3, k0_pay1]

/-- The reference's gradient, at an index. -/
theorem ref_at (x : FVec Ideal S1x4096x1024 .bf16) (d : FVec Ideal S8x4096x1024 .bf16) (j : S8x1024x1024.Idx) :
    Cert.Reference5Ideal.Read.val_main_v9 (F := Ideal) x d j
      = ∑ k : Fin 4096, x (ix3 0 k (j 1)) * d (ix3 (j 0) k (j 2)) := by
  pointwise! [Cert.Reference5Ideal.Read.val_main_v9, Cert.Reference5Ideal.Read.val_main_v8, Cert.Reference5Ideal.Read.val_main_v7, Cert.Reference5Ideal.Read.val_main_v6, Cert.Reference5Ideal.Read.val_main_v2, Cert.Reference5Ideal.Read.val_main_v1, Cert.Reference5Ideal.Read.val_main_v0]

/-- The accumulator after grid point `t`: the products of its run's steps so far. -/
theorem acc_at (c : Dev nD) (t : Fin cfg0.N) (hr : t.val % 2 = 2 - 1) (j : S1024x1024.Idx) :
    (outsAt0 m c t.val t.isLt).2 j
      = 0 + ∑ s : Fin 2, ∑ k : Fin 2048,
          (show Vec Ideal S1x2048x1024 .bf16 from iblk m c 0 ⟨2 * (t.val / 2) + s.val, Pipeline.run_point_lt_of_flush t hr s⟩) (ix3 0 k (j 0))
          * (show Vec Ideal S1x2048x1024 .bf16 from iblk m c 1 ⟨2 * (t.val / 2) + s.val, Pipeline.run_point_lt_of_flush t hr s⟩) (ix3 0 k (j 1)) := by
  refine Pipeline.eq_sum_fin_of_reset_step_apply_of_flush (fun n h => (outsAt0 m c n h).2) 2 (fun _ => 0)
    (fun p j => ∑ k : Fin 2048, (show Vec Ideal S1x2048x1024 .bf16 from iblk m c 0 p) (ix3 0 k (j 0))
      * (show Vec Ideal S1x2048x1024 .bf16 from iblk m c 1 p) (ix3 0 k (j 1))) (fun t h j => ?_) (fun t h j => ?_) t hr j
  · show (outsAt0 m c t.val t.isLt).2 j = _
    rw [outsAt0_A m c t h (by omega) (by omega)]
    frame_out
    exact part_at _ _ j
  · show (outsAt0 m c t.val t.isLt).2 j = _
    rw [outsAt0_B m c t h (by omega) (by omega)]
    frame_out
    rw [reread]
    exact step_at _ _ _ j

/-- The last step's block is the accumulator with one more axis. -/
theorem out_at (a : Vec Ideal S1024x1024 .f32) (y : S1x1024x1024.Idx) : k0_pay4 a y = a (ix2 (y 1) (y 2)) := by
  pointwise [k0_pay4]

/-- The array of the gradient after the run is the reference's. -/
theorem final (c : Dev nD) : (dats m 0 c).arrAt 2 (cfgs 0).N
    = Cert.Reference5Ideal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hr : t.val % 2 = 2 - 1 := (flush0_2 t).mp hf
  have hp : t.val % 2 = 1 := hr
  have h := acc_at m c t hr (ix2 (y 1) (y 2))
  rw [outsAt0_B m c t (by omega) (by omega) hr] at h ⊢
  frame_out at h
  frame_out
  refine (out_at _ y).trans (h.trans ?_)
  rw [ref_at, zero_add]
  refine Fin.sum_mul_add_congr fun s k hl => ?_
  have hs : s.val < 2 := s.isLt
  blk_point [iblk, V, idx ⟨_, Pipeline.run_point_lt_of_flush t hr s⟩, idx t]

end Cert.Kernel5Ideal.In

end
-- ==== Proof.DownValue.lean ====
/- The gradient of the second SwiGLU matrix: for every row block the four steps over the tokens add up to the whole contraction. -/
module

public import proofs.«01_k».proof.Proof.Gen.Kernel6Ideal.Frame
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Down
open Cert.Kernel6Ideal Cert.Kernel6Ideal.Gen

variable (m : (ℓ : Loc nD τ sig) → Buf (Elt Ideal) ℓ)

/-- The windows' block indices at every grid point. -/
theorem idx : ∀ t : Fin cfg0.N, win0_0.index t = ![0, t.val % 4, t.val / 4]
    ∧ win0_1.index t = ![0, t.val % 4, 0] ∧ win0_2.index t = ![0, t.val / 4, 0] :=
  (by decide +kernel : ∀ t : Fin grid0.N, _)

/-- A whole buffer written and read back. -/
theorem reread (h : (Memref.whole cc0_scratch0).IsWhole) (a : Vec Ideal S1408x1024 .f32) :
    View.read (Elt Ideal) (View.whole cc0_scratch0) (h.unread a) = a := h.read_unread a

/-- One step's product, at an index. -/
theorem part_at (x : Vec Ideal S1x1024x1408 .bf16) (d : Vec Ideal S1x1024x1024 .f32) (j : S1408x1024.Idx) :
    k0_pay2 x d j = 0 + ∑ k : Fin 1024, x (ix3 0 k (j 0)) * d (ix3 0 k (j 1)) := by
  pointwise [k0_pay2, k0_pay1]

/-- A later step adds its product to what the steps before left. -/
theorem step_at (x : Vec Ideal S1x1024x1408 .bf16) (d : Vec Ideal S1x1024x1024 .f32) (a : Vec Ideal S1408x1024 .f32)
    (j : S1408x1024.Idx) :
    k0_pay3 x d a j = a j + ∑ k : Fin 1024, x (ix3 0 k (j 0)) * d (ix3 0 k (j 1)) := by
  pointwise [k0_pay3, k0_pay1]

/-- The reference's gradient, at an index. -/
theorem ref_at (x : FVec Ideal S1x4096x2816 .bf16) (d : FVec Ideal S1x4096x1024 .f32) (j : S1x2816x1024.Idx) :
    Cert.Reference6Ideal.Read.val_main_v8 (F := Ideal) x d j
      = ∑ k : Fin 4096, x (ix3 0 k (j 1)) * d (ix3 0 k (j 2)) := by
  pointwise! [Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v1, Cert.Reference6Ideal.Read.val_main_v0]

/-- The accumulator after grid point `t`: the products of its run's steps so far. -/
theorem acc_at (c : Dev nD) (t : Fin cfg0.N) (hr : t.val % 4 = 4 - 1) (j : S1408x1024.Idx) :
    (outsAt0 m c t.val t.isLt).2 j
      = 0 + ∑ s : Fin 4, ∑ k : Fin 1024,
          (show Vec Ideal S1x1024x1408 .bf16 from iblk m c 0 ⟨4 * (t.val / 4) + s.val, Pipeline.run_point_lt_of_flush t hr s⟩) (ix3 0 k (j 0))
          * (show Vec Ideal S1x1024x1024 .f32 from iblk m c 1 ⟨4 * (t.val / 4) + s.val, Pipeline.run_point_lt_of_flush t hr s⟩) (ix3 0 k (j 1)) := by
  refine Pipeline.eq_sum_fin_of_reset_step_apply_of_flush (fun n h => (outsAt0 m c n h).2) 4 (fun _ => 0)
    (fun p j => ∑ k : Fin 1024, (show Vec Ideal S1x1024x1408 .bf16 from iblk m c 0 p) (ix3 0 k (j 0))
      * (show Vec Ideal S1x1024x1024 .f32 from iblk m c 1 p) (ix3 0 k (j 1))) (fun t h j => ?_) (fun t h j => ?_) t hr j
  · show (outsAt0 m c t.val t.isLt).2 j = _
    rw [outsAt0_A m c t h (by omega) (by omega)]
    frame_out
    exact part_at _ _ j
  · show (outsAt0 m c t.val t.isLt).2 j = _
    by_cases hl : t.val % 4 = 3
    · rw [outsAt0_C m c t h (by omega) hl]
      frame_out
      rw [reread]
      exact step_at _ _ _ j
    · rw [outsAt0_B m c t h (by omega) hl]
      frame_out
      rw [reread]
      exact step_at _ _ _ j

/-- The last step's block is the accumulator with one more axis. -/
theorem out_at (a : Vec Ideal S1408x1024 .f32) (y : S1x1408x1024.Idx) : k0_pay4 a y = a (ix2 (y 1) (y 2)) := by
  pointwise [k0_pay4]

/-- The array of the gradient after the run is the reference's. -/
theorem final (c : Dev nD) : (dats m 0 c).arrAt 2 (cfgs 0).N
    = Cert.Reference6Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hr : t.val % 4 = 4 - 1 := (flush0_2 t).mp hf
  have hp : t.val % 4 = 3 := hr
  have h := acc_at m c t hr (ix2 (y 1) (y 2))
  rw [outsAt0_C m c t (by omega) (by omega) hr] at h ⊢
  frame_out at h
  frame_out
  refine (out_at _ y).trans (h.trans ?_)
  rw [ref_at, zero_add]
  refine Fin.sum_mul_add_congr fun s k hl => ?_
  have hs : s.val < 4 := s.isLt
  blk_point [iblk, V, idx ⟨_, Pipeline.run_point_lt_of_flush t hr s⟩, idx t]

end Cert.Kernel6Ideal.Down

end
-- ==== Proof.WideValue.lean ====
/- The gradient of the first SwiGLU matrices: for every half and row block the two steps over the tokens add up to the whole contraction. -/
module

public import proofs.«01_k».proof.Proof.Gen.Kernel7Ideal.Frame
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Wide
open Cert.Kernel7Ideal Cert.Kernel7Ideal.Gen

variable (m : (ℓ : Loc nD τ sig) → Buf (Elt Ideal) ℓ)

/-- The windows' block indices at every grid point. -/
theorem idx : ∀ t : Fin cfg0.N, win0_0.index t = ![t.val / 4, t.val % 2, t.val / 2 % 2]
    ∧ win0_1.index t = ![0, t.val % 2, 0] ∧ win0_2.index t = ![t.val / 4, t.val / 2 % 2, 0] :=
  (by decide +kernel : ∀ t : Fin grid0.N, _)

/-- A whole buffer written and read back. -/
theorem reread (h : (Memref.whole cc0_scratch0).IsWhole) (a : Vec Ideal S1408x1024 .f32) :
    View.read (Elt Ideal) (View.whole cc0_scratch0) (h.unread a) = a := h.read_unread a

/-- One step's product, at an index. -/
theorem part_at (x : Vec Ideal S1x2048x1408 .bf16) (d : Vec Ideal S1x2048x1024 .bf16) (j : S1408x1024.Idx) :
    k0_pay2 x d j = 0 + ∑ k : Fin 2048, x (ix3 0 k (j 0)) * d (ix3 0 k (j 1)) := by
  pointwise [k0_pay2, k0_pay1]

/-- A later step adds its product to what the steps before left. -/
theorem step_at (x : Vec Ideal S1x2048x1408 .bf16) (d : Vec Ideal S1x2048x1024 .bf16) (a : Vec Ideal S1408x1024 .f32)
    (j : S1408x1024.Idx) :
    k0_pay3 x d a j = a j + ∑ k : Fin 2048, x (ix3 0 k (j 0)) * d (ix3 0 k (j 1)) := by
  pointwise [k0_pay3, k0_pay1]

/-- The reference's gradient, at an index. -/
theorem ref_at (x : FVec Ideal S2x4096x2816 .bf16) (d : FVec Ideal S1x4096x1024 .bf16) (j : S2x2816x1024.Idx) :
    Cert.Reference7Ideal.Read.val_main_v8 (F := Ideal) x d j
      = ∑ k : Fin 4096, x (ix3 (j 0) k (j 1)) * d (ix3 0 k (j 2)) := by
  pointwise! [Cert.Reference7Ideal.Read.val_main_v8, Cert.Reference7Ideal.Read.val_main_v7, Cert.Reference7Ideal.Read.val_main_v6, Cert.Reference7Ideal.Read.val_main_v2, Cert.Reference7Ideal.Read.val_main_v1, Cert.Reference7Ideal.Read.val_main_v0]

/-- The accumulator after grid point `t`: the products of its run's steps so far. -/
theorem acc_at (c : Dev nD) (t : Fin cfg0.N) (hr : t.val % 2 = 2 - 1) (j : S1408x1024.Idx) :
    (outsAt0 m c t.val t.isLt).2 j
      = 0 + ∑ s : Fin 2, ∑ k : Fin 2048,
          (show Vec Ideal S1x2048x1408 .bf16 from iblk m c 0 ⟨2 * (t.val / 2) + s.val, Pipeline.run_point_lt_of_flush t hr s⟩) (ix3 0 k (j 0))
          * (show Vec Ideal S1x2048x1024 .bf16 from iblk m c 1 ⟨2 * (t.val / 2) + s.val, Pipeline.run_point_lt_of_flush t hr s⟩) (ix3 0 k (j 1)) := by
  refine Pipeline.eq_sum_fin_of_reset_step_apply_of_flush (fun n h => (outsAt0 m c n h).2) 2 (fun _ => 0)
    (fun p j => ∑ k : Fin 2048, (show Vec Ideal S1x2048x1408 .bf16 from iblk m c 0 p) (ix3 0 k (j 0))
      * (show Vec Ideal S1x2048x1024 .bf16 from iblk m c 1 p) (ix3 0 k (j 1))) (fun t h j => ?_) (fun t h j => ?_) t hr j
  · show (outsAt0 m c t.val t.isLt).2 j = _
    rw [outsAt0_A m c t h (by omega) (by omega)]
    frame_out
    exact part_at _ _ j
  · show (outsAt0 m c t.val t.isLt).2 j = _
    rw [outsAt0_B m c t h (by omega) (by omega)]
    frame_out
    rw [reread]
    exact step_at _ _ _ j

/-- The last step's block is the accumulator with one more axis. -/
theorem out_at (a : Vec Ideal S1408x1024 .f32) (y : S1x1408x1024.Idx) : k0_pay4 a y = a (ix2 (y 1) (y 2)) := by
  pointwise [k0_pay4]

/-- The array of the gradient after the run is the reference's. -/
theorem final (c : Dev nD) : (dats m 0 c).arrAt 2 (cfgs 0).N
    = Cert.Reference7Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hr : t.val % 2 = 2 - 1 := (flush0_2 t).mp hf
  have hp : t.val % 2 = 1 := hr
  have h := acc_at m c t hr (ix2 (y 1) (y 2))
  rw [outsAt0_B m c t (by omega) (by omega) hr] at h ⊢
  frame_out at h
  frame_out
  refine (out_at _ y).trans (h.trans ?_)
  rw [ref_at, zero_add]
  refine Fin.sum_mul_add_congr fun s k hl => ?_
  have hs : s.val < 2 := s.isLt
  blk_point [iblk, V, idx ⟨_, Pipeline.run_point_lt_of_flush t hr s⟩, idx t]

end Cert.Kernel7Ideal.Wide

end
-- ==== Proof.NormBack.lean ====
/- The gradient of the row normalisation `x · r · g`, `r = 1 / √(mean x² + ε)`, on the extended reals: the one-pass form
   `r (d − x r · mean (d · x r))` is what differentiating the product, the root, the mean and the square one by one gives. -/
module

public import Idealize.ShloMosaic.Lib.Pipeline.ValueKit

@[expose] public section

noncomputable section

open Idealize.ShloMosaic

namespace Cert.NormBack

/-- A nonnegative real factor moves out of a sum. -/
theorem sum_mul_real {n : ℕ} (f : Fin n → EReal) (r : ℝ) (hr : 0 ≤ r) :
    ∑ k, f k * (r : EReal) = (∑ k, f k) * (r : EReal) := by
  classical
  refine Finset.induction_on (Finset.univ : Finset (Fin n)) ?_ fun a s ha ih => ?_
  · simp
  · rw [Finset.sum_insert ha, Finset.sum_insert ha, ih,
      EReal.right_distrib_of_nonneg_of_ne_top (EReal.coe_nonneg.mpr hr) (EReal.coe_ne_top r)]

/-- Twice a negative multiple. -/
theorem twice (y : EReal) (κ : ℝ) (hκ : κ < 0) : y * (κ : EReal) + y * (κ : EReal) = y * ((2 * κ : ℝ) : EReal) := by
  have h2 : 2 * κ < 0 := by linarith
  induction y with
  | bot => rw [EReal.bot_mul_coe_of_neg hκ, EReal.bot_mul_coe_of_neg h2]; rfl
  | top => rw [EReal.top_mul_coe_of_neg hκ, EReal.top_mul_coe_of_neg h2]; rfl
  | coe y => norm_cast; ring

/-- A square is not negative, at the infinities either. -/
theorem square_nonneg (y : EReal) : 0 ≤ y * y := by
  induction y with
  | bot => simp
  | top => simp
  | coe y => exact_mod_cast mul_self_nonneg y

/-- A mean of squares plus a positive number is `⊤` or a positive real. -/
theorem spread {n : ℕ} (x : Fin n → EReal) (c e : ℝ) (hc : 0 < c) (he : 0 < e) :
    Ideal.div (∑ k, x k * x k) (c : EReal) + (e : EReal) = ⊤
      ∨ ∃ w : ℝ, 0 < w ∧ Ideal.div (∑ k, x k * x k) (c : EReal) + (e : EReal) = (w : EReal) := by
  have hs : 0 ≤ ∑ k, x k * x k := Finset.sum_nonneg fun k _ => square_nonneg (x k)
  rw [Ideal.div_coe hc.ne']
  have hi : 0 < 1 / c := by positivity
  generalize ∑ k, x k * x k = s at hs ⊢
  induction s with
  | bot => simp at hs
  | top => left; rw [EReal.top_mul_coe_of_pos hi]; rfl
  | coe s =>
    right
    have hs' : 0 ≤ s := EReal.coe_nonneg.mp hs
    refine ⟨s * (1 / c) + e, by positivity, by norm_cast⟩

/-- The two forms of the gradient at one entry of a row. -/
theorem entry {n : ℕ} (x d : Fin n → EReal) (j : Fin n) (v : EReal) (c : ℝ) (hc : 0 < c)
    (hv : v = ⊤ ∨ ∃ w : ℝ, 0 < w ∧ v = (w : EReal)) :
    Ideal.rsqrt v * (d j - x j * Ideal.rsqrt v * Ideal.div (∑ k, d k * (x k * Ideal.rsqrt v)) (c : EReal))
      = d j * Ideal.rsqrt v
        + x j * Ideal.div ((∑ k, x k * d k) * (((-1 / 2 : ℝ) : EReal) * Ideal.div (Ideal.rsqrt v) v)) (c : EReal)
        + Ideal.div ((∑ k, x k * d k) * (((-1 / 2 : ℝ) : EReal) * Ideal.div (Ideal.rsqrt v) v)) (c : EReal) * x j := by
  rw [Ideal.div_coe hc.ne', Ideal.div_coe hc.ne']
  rcases hv with rfl | ⟨w, hw, rfl⟩
  · have h0 : Ideal.div (0 : EReal) ⊤ = 0 := by unfold Ideal.div; simp
    rw [Ideal.rsqrt_top, h0]
    simp
  · have hr : Ideal.rsqrt (w : EReal) = (((Real.sqrt w)⁻¹ : ℝ) : EReal) := by
      rw [Ideal.rsqrt_coe, if_neg (not_lt.mpr hw.le), if_neg hw.ne']
    rw [hr, Ideal.div_coe hw.ne']
    have hρ : 0 < (Real.sqrt w)⁻¹ := inv_pos.mpr (Real.sqrt_pos.mpr hw)
    have hww : 1 / w = (Real.sqrt w)⁻¹ * (Real.sqrt w)⁻¹ := by
      rw [← mul_inv, Real.mul_self_sqrt hw.le, one_div]
    rw [hww]
    generalize (Real.sqrt w)⁻¹ = ρ at hρ
    have hS : ∑ k, d k * (x k * (ρ : EReal)) = (∑ k, x k * d k) * (ρ : EReal) := by
      rw [← sum_mul_real _ ρ hρ.le]
      exact Finset.sum_congr rfl fun k _ => by rw [← mul_assoc, mul_comm (d k) (x k)]
    rw [hS]
    generalize ∑ k, x k * d k = S
    have hi : 0 < 1 / c := by positivity
    have hκ : -1 / 2 * (ρ * (ρ * ρ)) * (1 / c) < 0 := by
      have h3 : 0 < ρ * (ρ * ρ) * (1 / c) := by positivity
      nlinarith
    have hq : S * (((-1 / 2 : ℝ) : EReal) * ((ρ : EReal) * ((ρ * ρ : ℝ) : EReal))) * ((1 / c : ℝ) : EReal)
        = S * ((-1 / 2 * (ρ * (ρ * ρ)) * (1 / c) : ℝ) : EReal) := by
      rw [mul_assoc, ← EReal.coe_mul, ← EReal.coe_mul, ← EReal.coe_mul]
    have hl : (ρ : EReal) * (x j * (ρ : EReal) * (S * (ρ : EReal) * ((1 / c : ℝ) : EReal)))
        = x j * S * ((ρ * (ρ * (ρ * (1 / c))) : ℝ) : EReal) := by
      rw [EReal.coe_mul, EReal.coe_mul, EReal.coe_mul]
      ac_rfl
    rw [hq, mul_comm (S * _) (x j), ← mul_assoc (x j) S, add_assoc, twice _ _ hκ, sub_eq_add_neg,
      EReal.left_distrib_of_nonneg_of_ne_top (EReal.coe_nonneg.mpr hρ.le) (EReal.coe_ne_top ρ), mul_neg, hl,
      mul_comm (ρ : EReal) (d j), ← mul_neg, ← EReal.coe_neg]
    congr 3
    ring

/-- The spread of a row: its mean square plus the small constant. -/
def spreadOf (x : Fin 1024 → EReal) : EReal :=
  Ideal.div (∑ k, x k * x k) (Ideal.ofBits .f32 0x44800000#32) + Ideal.ofBits .f32 0x358637BD#32

/-- The gradient of a row, in the one-pass form. -/
def rowBack (x g h : Fin 1024 → EReal) (j : Fin 1024) : EReal :=
  Ideal.rsqrt (spreadOf x) * (h j * g j
    - x j * Ideal.rsqrt (spreadOf x)
      * Ideal.div (∑ k, h k * g k * (x k * Ideal.rsqrt (spreadOf x))) (Ideal.ofBits .f32 0x44800000#32))

/-- The part of the gradient of a row that comes through the spread, for one of the two factors of the square. -/
def viaSpread (x g h : Fin 1024 → EReal) : EReal :=
  Ideal.div ((∑ k, x k * (h k * g k)) * (Ideal.ofBits .f32 0xBF000000#32 * Ideal.div (Ideal.rsqrt (spreadOf x)) (spreadOf x)))
    (Ideal.ofBits .f32 0x44800000#32)

theorem word_1024 : Ideal.ofBits .f32 0x44800000#32 = ((1024 : ℝ) : EReal) := by
  simp [Ideal.ofBits, Ideal.ieee, -EReal.coe_mul, -EReal.coe_neg]
  norm_num

theorem word_half : Ideal.ofBits .f32 0xBF000000#32 = ((-1 / 2 : ℝ) : EReal) := by
  simp [Ideal.ofBits, Ideal.ieee, -EReal.coe_mul, -EReal.coe_neg]
  norm_num

theorem word_small : ∃ e : ℝ, 0 < e ∧ Ideal.ofBits .f32 0x358637BD#32 = (e : EReal) := by
  refine ⟨_, ?_, by simp [Ideal.ofBits, Ideal.ieee]; rfl⟩
  norm_num

/-- The one-pass form is the sum of the parts. -/
theorem rowBack_eq (x g h : Fin 1024 → EReal) (j : Fin 1024) :
    rowBack x g h j = h j * g j * Ideal.rsqrt (spreadOf x) + x j * viaSpread x g h + viaSpread x g h * x j := by
  obtain ⟨e, he, hw⟩ := word_small
  have hv := spread x 1024 e (by norm_num) he
  have h0 := entry x (fun k => h k * g k) j (spreadOf x) 1024 (by norm_num)
    (by unfold spreadOf; rw [word_1024, hw]; exact hv)
  unfold rowBack viaSpread
  rw [word_1024, word_half]
  exact h0

end Cert.NormBack

end
-- ==== Proof.ProjBack.lean ====
/- The gradient through the input projection and the norm before it: for every tile of rows the eight column blocks add up in the
   result's own buffer, the last of them applies the norm's gradient row by row, and the gain's gradient adds up over the tiles. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel8Ideal.Proj
open Cert.Kernel8Ideal Cert.Kernel8Ideal.Gen Cert.NormBack

variable (m : (ℓ : Loc nD τ sig) → Buf (Elt Ideal) ℓ)

/-- The windows' block indices at every grid point. -/
theorem idx : ∀ t : Fin cfg0.N, win0_0.index t = ![t.val % 8, t.val / 8, 0] ∧ win0_1.index t = ![t.val % 8, 0, 0]
    ∧ win0_2.index t = ![0, 0] ∧ win0_3.index t = ![t.val / 8, 0] ∧ win0_4.index t = ![t.val / 8, 0]
    ∧ win0_5.index t = ![t.val / 8, 0] ∧ win0_6.index t = ![0, 0] :=
  (by decide +kernel : ∀ t : Fin grid0.N, _)

/-- A tile of rows after the last step: the residual gradient plus the norm's gradient of the accumulated rows. -/
def back (a x r : Vec Ideal S1024x1024 .f32) (g : Vec Ideal S1x1024 .f32) : Vec Ideal S1024x1024 .f32 :=
  fun y => r y + rowBack (fun k => x (ix2 (y 0) k)) (fun k => g (ix2 0 k)) (fun k => a (ix2 (y 0) k)) (y 1)

/-- The tile's part of the gradient of the norm's gain. -/
def gain (a x : Vec Ideal S1024x1024 .f32) (j : Fin 1024) : EReal :=
  ∑ q : Fin 1024, a (ix2 q j) * (x (ix2 q j) * Ideal.rsqrt (spreadOf fun k => x (ix2 q k)))

/-- The first product, at an index. -/
theorem first_at (b : Vec Ideal S1x1024x1024 .bf16) (w : Vec Ideal S1x1024x1024 .bf16) (j : S1024x1024.Idx) :
    k0_pay1 b w j = 0 + ∑ k : Fin 1024, b (ix3 0 (j 0) k) * w (ix3 0 (j 1) k) := by
  pointwise [k0_pay1]

/-- A later product adds to what the steps before left. -/
theorem next_at (b : Vec Ideal S1x1024x1024 .bf16) (w : Vec Ideal S1x1024x1024 .bf16) (a : Vec Ideal S1024x1024 .f32) (j : S1024x1024.Idx) :
    k0_pay2 b w a j = a j + ∑ k : Fin 1024, b (ix3 0 (j 0) k) * w (ix3 0 (j 1) k) := by
  pointwise [k0_pay2, k0_pay1]

/-- The gain's part of a tile, as the four groups of rows give it. -/
theorem gain_at (a x : Vec Ideal S1024x1024 .f32) (j : S1x1024.Idx) :
    k0_pay4
      (k0_pay21
        (k0_pay16
          (k0_pay10 (View.ld x (Rect.unit ![0, 0] ![256, 1024] inb_S1024x1024_S256x1024_0_0))
            (View.ld a (Rect.unit ![0, 0] ![256, 1024] inb_S1024x1024_S256x1024_0_0)))
          (View.ld x (Rect.unit ![256, 0] ![256, 1024] inb_S1024x1024_S256x1024_256_0))
          (k0_pay11 (View.ld x (Rect.unit ![256, 0] ![256, 1024] inb_S1024x1024_S256x1024_256_0)))
          (FloatOps.ofBits FTy.f32 0x358637BD#32)
          (View.ld a (Rect.unit ![256, 0] ![256, 1024] inb_S1024x1024_S256x1024_256_0)))
        (k0_pay18 (View.ld x (Rect.unit ![512, 0] ![256, 1024] inb_S1024x1024_S256x1024_512_0)))
        (k0_pay19 (View.ld a (Rect.unit ![512, 0] ![256, 1024] inb_S1024x1024_S256x1024_512_0))))
      (k0_pay23 (View.ld x (Rect.unit ![768, 0] ![256, 1024] inb_S1024x1024_S256x1024_768_0)))
      (k0_pay24 (View.ld a (Rect.unit ![768, 0] ![256, 1024] inb_S1024x1024_S256x1024_768_0))) j
    = gain a x (j 1) := by
  unfold gain spreadOf
  rw [Fin.sum_univ_tiles 4 256 rfl, Fin.sum_univ_four]
  pointwise [k0_pay4, k0_pay21, k0_pay16, k0_pay10, k0_pay8, k0_pay7, k0_pay6, k0_pay11, k0_pay14, k0_pay13, k0_pay12, k0_pay18, k0_pay17, k0_pay19,
    k0_pay23, k0_pay22, k0_pay24]

/-- Adding the tile's part to the gain's gradient so far. -/
theorem more_at (u : FVec Ideal S1x1024 .f32) (v w : FVec Ideal S256x1024 .f32) (p : Vec Ideal S1x1024 .f32) (j : S1x1024.Idx) :
    k0_pay5 u v w p j = p j + k0_pay4 u v w j := by
  pointwise [k0_pay5]

/-- The four groups of rows stored over the accumulated tile leave the norm's gradient everywhere. -/
theorem rows_at (a x r : Vec Ideal S1024x1024 .f32) (g : Vec Ideal S1x1024 .f32) (L : List (View.Piece (Elt Ideal) S1024x1024 .f32)) (y : S1024x1024.Idx) :
    View.canon
      ([⟨Rect.unit ![768, 0] ![256, 1024] inb_S1024x1024_S256x1024_768_0,
          k0_pay3 (k0_pay22 (View.ld x (Rect.unit ![768, 0] ![256, 1024] inb_S1024x1024_S256x1024_768_0)))
            (k0_pay23 (View.ld x (Rect.unit ![768, 0] ![256, 1024] inb_S1024x1024_S256x1024_768_0)))
            (k0_pay25 (View.ld a (Rect.unit ![768, 0] ![256, 1024] inb_S1024x1024_S256x1024_768_0)) g)
            (View.ld r (Rect.unit ![768, 0] ![256, 1024] inb_S1024x1024_S256x1024_768_0))
            (k0_pay26 (View.ld x (Rect.unit ![768, 0] ![256, 1024] inb_S1024x1024_S256x1024_768_0))
              (View.ld a (Rect.unit ![768, 0] ![256, 1024] inb_S1024x1024_S256x1024_768_0)) g)⟩,
        ⟨Rect.unit ![512, 0] ![256, 1024] inb_S1024x1024_S256x1024_512_0,
          k0_pay20 (k0_pay17 (View.ld x (Rect.unit ![512, 0] ![256, 1024] inb_S1024x1024_S256x1024_512_0)))
            (k0_pay18 (View.ld x (Rect.unit ![512, 0] ![256, 1024] inb_S1024x1024_S256x1024_512_0)))
            (k0_pay19 (View.ld a (Rect.unit ![512, 0] ![256, 1024] inb_S1024x1024_S256x1024_512_0))) g
            (View.ld r (Rect.unit ![512, 0] ![256, 1024] inb_S1024x1024_S256x1024_512_0))⟩,
        ⟨Rect.unit ![256, 0] ![256, 1024] inb_S1024x1024_S256x1024_256_0,
          k0_pay15 (View.ld x (Rect.unit ![256, 0] ![256, 1024] inb_S1024x1024_S256x1024_256_0))
            (k0_pay11 (View.ld x (Rect.unit ![256, 0] ![256, 1024] inb_S1024x1024_S256x1024_256_0)))
            (FloatOps.ofBits FTy.f32 0x358637BD#32)
            (View.ld a (Rect.unit ![256, 0] ![256, 1024] inb_S1024x1024_S256x1024_256_0)) g
            (View.ld r (Rect.unit ![256, 0] ![256, 1024] inb_S1024x1024_S256x1024_256_0))⟩,
        ⟨Rect.unit ![0, 0] ![256, 1024] inb_S1024x1024_S256x1024_0_0,
          k0_pay9 (View.ld x (Rect.unit ![0, 0] ![256, 1024] inb_S1024x1024_S256x1024_0_0))
            (View.ld a (Rect.unit ![0, 0] ![256, 1024] inb_S1024x1024_S256x1024_0_0)) g
            (View.ld r (Rect.unit ![0, 0] ![256, 1024] inb_S1024x1024_S256x1024_0_0))⟩] ++ L) y
    = back a x r g y := by
  refine View.canon_append_of_piecesOf (back a x r g) L _ ?_ y (View.cover_of_tiledL _ ![256, 1024] (by sl_kernel_rfl) y)
  refine ⟨fun z => ?_, fun z => ?_, fun z => ?_, fun z => ?_, trivial⟩
  all_goals
    unfold back rowBack spreadOf
    pointwise [k0_pay3, k0_pay22, k0_pay23, k0_pay24, k0_pay25, k0_pay26, k0_pay20, k0_pay17, k0_pay18, k0_pay19, k0_pay15, k0_pay14, k0_pay13, k0_pay12,
      k0_pay11, k0_pay9, k0_pay8, k0_pay7, k0_pay6]
    blk_point []

/-- What the steps up to a point have accumulated of the product: the first step starts anew, a later one adds to what the point before left. -/
def acc (c : Dev nD) (t : Fin cfg0.N) : Vec Ideal S1024x1024 .f32 :=
  if t.val % 8 = 0 then k0_pay1 (iblk m c 0 t) (iblk m c 1 t)
  else k0_pay2 (iblk m c 0 t) (iblk m c 1 t) (outsAt0 m c (t.val - 1) (Nat.lt_of_le_of_lt (Nat.sub_le _ _) t.isLt)).1

/-- Before the last step of a tile the buffer holds just that. -/
theorem keep (c : Dev nD) (t : Fin cfg0.N) (h7 : ¬t.val % 8 = 7) : (outsAt0 m c t.val t.isLt).1 = acc m c t := by
  unfold acc
  by_cases h0 : t.val % 8 = 0
  · rw [if_pos h0, outsAt0_A m c t h0 (by omega) h7]
    frame_out
  · rw [if_neg h0, outsAt0_B m c t h0 (by omega) h7]
    frame_out

/-- Before the last step of a tile the gain's gradient is what it was. -/
theorem idle (c : Dev nD) (n : ℕ) (h : n + 1 < cfg0.N) (h7 : ¬(n + 1) % 8 = 7) :
    (outsAt0 m c (n + 1) h).2 = (outsAt0 m c n (Nat.lt_of_succ_lt h)).2 := by
  by_cases h0 : (n + 1) % 8 = 0
  · refine (congrArg Prod.snd (outsAt0_A m c ⟨n + 1, h⟩ h0 (by dsimp only; omega) h7)).trans ?_
    frame_out
    rfl
  · refine (congrArg Prod.snd (outsAt0_B m c ⟨n + 1, h⟩ h0 (by dsimp only; omega) h7)).trans ?_
    frame_out
    rfl

/-- At the last step of a tile: the whole contraction. -/
theorem acc_at (c : Dev nD) (t : Fin cfg0.N) (hr : t.val % 8 = 8 - 1) (j : S1024x1024.Idx) :
    acc m c t j = 0 + ∑ s : Fin 8, ∑ k : Fin 1024,
      (show Vec Ideal S1x1024x1024 .bf16 from iblk m c 0 ⟨8 * (t.val / 8) + s.val, Pipeline.run_point_lt_of_flush t hr s⟩) (ix3 0 (j 0) k)
      * (show Vec Ideal S1x1024x1024 .bf16 from iblk m c 1 ⟨8 * (t.val / 8) + s.val, Pipeline.run_point_lt_of_flush t hr s⟩) (ix3 0 (j 1) k) := by
  refine Pipeline.eq_sum_fin_of_reset_step_apply_of_flush (fun n h => acc m c ⟨n, h⟩) 8 (fun _ => 0)
    (fun p j => ∑ k : Fin 1024, (show Vec Ideal S1x1024x1024 .bf16 from iblk m c 0 p) (ix3 0 (j 0) k)
      * (show Vec Ideal S1x1024x1024 .bf16 from iblk m c 1 p) (ix3 0 (j 1) k)) (fun t h j => ?_) (fun t h j => ?_) t hr j
  · show acc m c t j = _
    unfold acc
    rw [if_pos h]
    exact first_at _ _ j
  · show acc m c t j = acc m c ⟨t.val - 1, _⟩ j + _
    rw [← keep m c ⟨t.val - 1, _⟩ (by dsimp only; omega)]
    unfold acc
    rw [if_neg h]
    exact next_at _ _ _ j

/-- A finished tile of rows. -/
theorem tile_at (c : Dev nD) (t : Fin cfg0.N) (h7 : t.val % 8 = 7) (y : S1024x1024.Idx) :
    (outsAt0 m c t.val t.isLt).1 y = back (acc m c t) (iblk m c 3 t) (iblk m c 4 t) (iblk m c 2 t) y := by
  have h0 : ¬t.val % 8 = 0 := by omega
  unfold acc
  rw [if_neg h0]
  by_cases h8 : t.val < 8
  · rw [outsAt0_C m c t h0 (by omega) h7 h8 (by omega)]
    frame_out
    simp (decide := true) only [View.readCov_skip, View.readCov_fill]
    exact rows_at _ _ _ _ _ y
  · rw [outsAt0_D m c t h0 (by omega) h7 h8 (by omega)]
    frame_out
    simp (decide := true) only [View.readCov_skip, View.readCov_fill]
    exact rows_at _ _ _ _ _ y

/-- The first tile starts the gain's gradient. -/
theorem gain_first (c : Dev nD) (t : Fin cfg0.N) (h7 : t.val % 8 = 7) (h8 : t.val < 8) (y : S1x1024.Idx) :
    (outsAt0 m c t.val t.isLt).2 y = gain (acc m c t) (iblk m c 3 t) (y 1) := by
  have h0 : ¬t.val % 8 = 0 := by omega
  unfold acc
  rw [if_neg h0, outsAt0_C m c t h0 (by omega) h7 h8 (by omega)]
  frame_out
  simp (decide := true) only [View.readCov_skip, View.readCov_fill]
  exact gain_at _ _ y

/-- A later tile adds to it. -/
theorem gain_next (c : Dev nD) (t : Fin cfg0.N) (h7 : t.val % 8 = 7) (h8 : ¬t.val < 8) (y : S1x1024.Idx) :
    (outsAt0 m c t.val t.isLt).2 y = (outsAt0 m c (t.val - 1) (Nat.lt_of_le_of_lt (Nat.sub_le _ _) t.isLt)).2 y
      + gain (acc m c t) (iblk m c 3 t) (y 1) := by
  have h0 : ¬t.val % 8 = 0 := by omega
  unfold acc
  rw [if_neg h0, outsAt0_D m c t h0 (by omega) h7 h8 (by omega)]
  frame_out
  simp (decide := true) only [View.readCov_skip, View.readCov_fill]
  exact (more_at _ _ _ _ y).trans (congrArg (_ + ·) (gain_at _ _ y))

/-- Through the steps before the last the gain's gradient stays. -/
theorem idle_run (c : Dev nD) (i k : ℕ) (hk : k < 8) (h : 8 * i + 7 + k < cfg0.N) :
    (outsAt0 m c (8 * i + 7 + k) h).2 = (outsAt0 m c (8 * i + 7) (by omega)).2 := by
  induction k with
  | zero => rfl
  | succ k ih => exact (idle m c (8 * i + 7 + k) h (by omega)).trans (ih (by omega) (by omega))

/-- One tile's part of the gain's gradient, by the number of the tile. -/
def part (c : Dev nD) (j : Fin 1024) (i : ℕ) : EReal :=
  if h : 8 * i + 7 < cfg0.N then gain (acc m c ⟨8 * i + 7, h⟩) (iblk m c 3 ⟨8 * i + 7, h⟩) j else 0

theorem part_of (c : Dev nD) (j : Fin 1024) (i : ℕ) (h : 8 * i + 7 < cfg0.N) :
    part m c j i = gain (acc m c ⟨8 * i + 7, h⟩) (iblk m c 3 ⟨8 * i + 7, h⟩) j := dif_pos h

/-- After a tile the gain's gradient is the sum of the parts so far. -/
theorem gain_sum (c : Dev nD) (y : S1x1024.Idx) (i : ℕ) (h : 8 * i + 7 < cfg0.N) :
    (outsAt0 m c (8 * i + 7) h).2 y = ∑ s ∈ Finset.range (i + 1), part m c (y 1) s := by
  induction i with
  | zero =>
    rw [Finset.sum_range_one]
    exact (gain_first m c ⟨8 * 0 + 7, h⟩ (by dsimp only) (by dsimp only; omega) y).trans (part_of m c (y 1) 0 h).symm
  | succ i ih =>
    have hi : 8 * i + 7 < cfg0.N := by omega
    rw [Finset.sum_range_succ, ← ih hi, ← idle_run m c i 7 (by omega) (by omega)]
    exact (gain_next m c ⟨8 * (i + 1) + 7, h⟩ (by dsimp only; omega) (by dsimp only; omega) y).trans
      (congrArg (_ + ·) (part_of m c (y 1) (i + 1) h).symm)

/-- The product of the reference that reaches the norm, at an index. -/
def prod (b : FVec Ideal S8x4096x1024 .bf16) (w : FVec Ideal S8x1024x1024 .bf16) (i : Fin 4096) (k : Fin 1024) : EReal :=
  ∑ n : Fin 8, ∑ q : Fin 1024, b (ix3 n i q) * w (ix3 n k q)

/-- The accumulated tile holds the rows of that product. -/
theorem acc_prod (c : Dev nD) (t : Fin cfg0.N) (hr : t.val % 8 = 8 - 1) (j : S1024x1024.Idx) (i : Fin 4096) (hi : i.val = t.val / 8 * 1024 + (j 0).val) :
    acc m c t j = prod (m ((c : Thread nD τ).loc main_arg0)) (m ((c : Thread nD τ).loc main_arg1)) i (j 1) := by
  rw [acc_at m c t hr, zero_add]
  unfold prod
  refine Finset.sum_congr rfl fun s _ => Finset.sum_congr rfl fun k _ => ?_
  have hs : s.val < 8 := s.isLt
  have hd : (8 * (t.val / 8) + s.val) / 8 = t.val / 8 := by omega
  have hm : (8 * (t.val / 8) + s.val) % 8 = s.val := by omega
  blk_point [iblk, V, idx ⟨_, Pipeline.run_point_lt_of_flush t hr s⟩]

/-- The rows of a tile. -/
theorem row_at (c : Dev nD) (t : Fin cfg0.N) (q k : Fin 1024) (i : Fin 4096) (hi : i.val = t.val / 8 * 1024 + q.val) :
    (show Vec Ideal S1024x1024 .f32 from iblk m c 3 t) (ix2 q k) = m ((c : Thread nD τ).loc main_arg2) (ix2 i k) := by
  blk_point [iblk, V, idx t]

/-- A finished tile, from the arrays. -/
theorem tile_prod (c : Dev nD) (t : Fin cfg0.N) (hr : t.val % 8 = 8 - 1) (y : S1024x1024.Idx) (i : Fin 4096) (hi : i.val = t.val / 8 * 1024 + (y 0).val) :
    (outsAt0 m c t.val t.isLt).1 y
      = (show FVec Ideal S4096x1024 .f32 from m ((c : Thread nD τ).loc main_arg4)) (ix2 i (y 1))
        + rowBack (fun k => m ((c : Thread nD τ).loc main_arg2) (ix2 i k)) (fun k => m ((c : Thread nD τ).loc main_arg3) (ix2 0 k))
            (fun k => prod (m ((c : Thread nD τ).loc main_arg0)) (m ((c : Thread nD τ).loc main_arg1)) i k) (y 1) := by
  have hd : (show Vec Ideal S1024x1024 .f32 from iblk m c 4 t) y = m ((c : Thread nD τ).loc main_arg4) (ix2 i (y 1)) := by
    blk_point [iblk, V, idx t]
  have hg : ∀ k : Fin 1024, (show Vec Ideal S1x1024 .f32 from iblk m c 2 t) (ix2 0 k) = m ((c : Thread nD τ).loc main_arg3) (ix2 0 k) := by
    intro k
    blk_point [iblk, V, idx t]
  rw [tile_at m c t hr]
  exact congr (congrArg HAdd.hAdd hd) (congrFun (congr (congr (congrArg rowBack (funext fun k => row_at m c t (y 0) k i hi)) (funext hg))
    (funext fun k => acc_prod m c t hr (ix2 (y 0) k) i hi)) (y 1))

/-- The reference's gradient of the rows, at an index. -/
theorem rows_ref (b : FVec Ideal S8x4096x1024 .bf16) (w : FVec Ideal S8x1024x1024 .bf16) (x r : FVec Ideal S4096x1024 .f32)
    (g : FVec Ideal S1x1024 .f32) (j : S4096x1024.Idx) :
    Cert.Reference8Ideal.Read.val_main_v40 (F := Ideal) b w x g r j
      = r j + rowBack (fun k => x (ix2 (j 0) k)) (fun k => g (ix2 0 k)) (fun k => prod b w (j 0) k) (j 1) := by
  refine Eq.trans ?_ (congrArg (r j + ·) (rowBack_eq _ _ _ _).symm)
  unfold prod viaSpread spreadOf
  pointwise [Cert.Reference8Ideal.Read.val_main_v40, Cert.Reference8Ideal.Read.val_main_v39, Cert.Reference8Ideal.Read.val_main_v38, Cert.Reference8Ideal.Read.val_main_v37, Cert.Reference8Ideal.Read.val_main_v36, Cert.Reference8Ideal.Read.val_main_v35, Cert.Reference8Ideal.Read.val_main_v34, Cert.Reference8Ideal.Read.val_main_v33, Cert.Reference8Ideal.Read.val_main_v32, Cert.Reference8Ideal.Read.val_main_v31, Cert.Reference8Ideal.Read.val_main_v30, Cert.Reference8Ideal.Read.val_main_v29, Cert.Reference8Ideal.Read.val_main_v28, Cert.Reference8Ideal.Read.val_main_v27, Cert.Reference8Ideal.Read.val_main_v26, Cert.Reference8Ideal.Read.val_main_v25, Cert.Reference8Ideal.Read.val_main_v24, Cert.Reference8Ideal.Read.val_main_v20, Cert.Reference8Ideal.Read.val_main_v19, Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst, Cert.Reference8Ideal.Read.val_main_cst_0, Cert.Reference8Ideal.Read.val_main_cst_1, Cert.Reference8Ideal.Read.val_main_cst_2, Cert.Reference8Ideal.Read.val_main_cst_3, Cert.Reference8Ideal.Read.val_main_cst_4, Cert.Reference8Ideal.Read.val_main_cst_5, Cert.Reference8Ideal.Read.val_main_cst_6]
  simp only [Finset.univ_unique, Finset.sum_singleton]

/-- The reference's gradient of the gain, at an index. -/
theorem gain_ref (b : FVec Ideal S8x4096x1024 .bf16) (w : FVec Ideal S8x1024x1024 .bf16) (x : FVec Ideal S4096x1024 .f32) (j : S1x1024.Idx) :
    Cert.Reference8Ideal.Read.val_main_v23 (F := Ideal) b w x j
      = ∑ s : Fin 4096, x (ix2 s (j 1)) * Ideal.rsqrt (spreadOf fun k => x (ix2 s k)) * prod b w s (j 1) := by
  unfold prod spreadOf
  pointwise! [Cert.Reference8Ideal.Read.val_main_v23, Cert.Reference8Ideal.Read.val_main_v22, Cert.Reference8Ideal.Read.val_main_v21, Cert.Reference8Ideal.Read.val_main_v14, Cert.Reference8Ideal.Read.val_main_v13, Cert.Reference8Ideal.Read.val_main_v20, Cert.Reference8Ideal.Read.val_main_v19, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst, Cert.Reference8Ideal.Read.val_main_cst_0, Cert.Reference8Ideal.Read.val_main_cst_1, Cert.Reference8Ideal.Read.val_main_cst_3]

/-- The array of the gradient of the rows after the run is the reference's. -/
theorem final5 (c : Dev nD) : (dats m 0 c).arrAt 5 (cfgs 0).N
    = Cert.Reference8Ideal.Read.val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hr : t.val % 8 = 8 - 1 := (flush0_5 t).mp hf
  have hN : cfg0.N = 32 := by decide +kernel
  have ht : t.val < cfg0.N := t.isLt
  have h0 : (y 0).val < 1024 := (y 0).isLt
  have hi : t.val / 8 * 1024 + (y 0).val < 4096 := by omega
  refine (tile_prod m c t hr y ⟨t.val / 8 * 1024 + (y 0).val, hi⟩ rfl).trans
    ((rows_ref _ _ _ _ _ (ix2 ⟨t.val / 8 * 1024 + (y 0).val, hi⟩ (y 1))).symm.trans ?_)
  blk_point [idx t]

/-- The array of the gradient of the gain after the run is the reference's. -/
theorem final6 (c : Dev nD) : (dats m 0 c).arrAt 6 (cfgs 0).N
    = Cert.Reference8Ideal.Read.val_main_v23 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6]
  have hr : t.val % 32 = 31 := (flush0_6 t).mp hf
  have hN : cfg0.N = 32 := by decide +kernel
  have ht : t.val < cfg0.N := t.isLt
  have same : ∀ (n : ℕ) (hn : n < cfg0.N), n = t.val → (outsAt0 m c t.val t.isLt).2 = (outsAt0 m c n hn).2 := by
    rintro _ _ rfl
    rfl
  have hl : ∀ s : Fin 4, 8 * s.val + 7 < cfg0.N := fun s => by have := s.isLt; omega
  have hq : ∀ (s : Fin 4) (q : Fin 1024), s.val * 1024 + q.val < 4096 := fun s q => by have := s.isLt; have := q.isLt; omega
  have hp : ∀ s : Fin 4, part m c (y 1) s.val = ∑ q : Fin 1024,
      prod (m ((c : Thread nD τ).loc main_arg0)) (m ((c : Thread nD τ).loc main_arg1)) ⟨s.val * 1024 + q.val, hq s q⟩ (y 1)
        * ((show FVec Ideal S4096x1024 .f32 from m ((c : Thread nD τ).loc main_arg2)) (ix2 ⟨s.val * 1024 + q.val, hq s q⟩ (y 1))
          * Ideal.rsqrt (spreadOf fun k => (show FVec Ideal S4096x1024 .f32 from m ((c : Thread nD τ).loc main_arg2)) (ix2 ⟨s.val * 1024 + q.val, hq s q⟩ k))) := by
    intro s
    have hs : s.val < 4 := s.isLt
    have hd : (8 * s.val + 7) / 8 = s.val := by omega
    rw [part_of m c (y 1) s.val (hl s)]
    refine Finset.sum_congr rfl fun q _ => ?_
    have hi : s.val * 1024 + q.val = (8 * s.val + 7) / 8 * 1024 + q.val := by rw [hd]
    have hr' : (⟨8 * s.val + 7, hl s⟩ : Fin cfg0.N).val % 8 = 8 - 1 := by dsimp only; omega
    exact congr (congrArg HMul.hMul (acc_prod m c _ hr' (ix2 q (y 1)) ⟨s.val * 1024 + q.val, hq s q⟩ hi))
      (congr (congrArg HMul.hMul (row_at m c _ q (y 1) ⟨s.val * 1024 + q.val, hq s q⟩ hi))
        (congrArg (fun f => Ideal.rsqrt (spreadOf f)) (funext fun k => row_at m c _ q k ⟨s.val * 1024 + q.val, hq s q⟩ hi)))
  rw [same (8 * 3 + 7) (by omega) (by omega)]
  refine (gain_sum m c y 3 (by omega)).trans ?_
  rw [gain_ref, Finset.sum_range, Finset.sum_congr rfl fun s _ => hp s]
  refine Fin.sum_mul_add_congr fun s q hq => ?_
  rw [mul_comm]
  unfold spreadOf prod
  blk_point [idx t]

end Cert.Kernel8Ideal.Proj

end
-- ==== Proof.UpBack.lean ====
/- The gradient through the feed-forward layer's first products and the norm before them: for every tile of rows the four column blocks
   add up in the result's own buffer, the last of them applies the norm's gradient row by row, and the gain's gradient adds up over the tiles. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel9Ideal.Up
open Cert.Kernel9Ideal Cert.Kernel9Ideal.Gen Cert.NormBack

variable (m : (ℓ : Loc nD τ sig) → Buf (Elt Ideal) ℓ)

/-- The windows' block indices at every grid point. -/
theorem idx : ∀ t : Fin cfg0.N, win0_0.index t = ![t.val / 2 % 2, t.val / 4, t.val % 2]
    ∧ win0_1.index t = ![t.val / 2 % 2, t.val % 2, 0]
    ∧ win0_2.index t = ![0, 0] ∧ win0_3.index t = ![t.val / 4, 0] ∧ win0_4.index t = ![t.val / 4, 0]
    ∧ win0_5.index t = ![t.val / 4, 0] ∧ win0_6.index t = ![0, 0] :=
  (by decide +kernel : ∀ t : Fin grid0.N, _)

/-- A tile of rows after the last step: the residual gradient plus the norm's gradient of the accumulated rows. -/
def back (a x r : Vec Ideal S1024x1024 .f32) (g : Vec Ideal S1x1024 .f32) : Vec Ideal S1024x1024 .f32 :=
  fun y => r y + rowBack (fun k => x (ix2 (y 0) k)) (fun k => g (ix2 0 k)) (fun k => a (ix2 (y 0) k)) (y 1)

/-- The tile's part of the gradient of the norm's gain. -/
def gain (a x : Vec Ideal S1024x1024 .f32) (j : Fin 1024) : EReal :=
  ∑ q : Fin 1024, a (ix2 q j) * (x (ix2 q j) * Ideal.rsqrt (spreadOf fun k => x (ix2 q k)))

/-- The first product, at an index. -/
theorem first_at (b : Vec Ideal S1x1024x1408 .bf16) (w : Vec Ideal S1x1408x1024 .bf16) (j : S1024x1024.Idx) :
    k0_pay1 b w j = 0 + ∑ k : Fin 1408, b (ix3 0 (j 0) k) * w (ix3 0 k (j 1)) := by
  pointwise [k0_pay1]

/-- A later product adds to what the steps before left. -/
theorem next_at (b : Vec Ideal S1x1024x1408 .bf16) (w : Vec Ideal S1x1408x1024 .bf16) (a : Vec Ideal S1024x1024 .f32) (j : S1024x1024.Idx) :
    k0_pay2 b w a j = a j + ∑ k : Fin 1408, b (ix3 0 (j 0) k) * w (ix3 0 k (j 1)) := by
  pointwise [k0_pay2, k0_pay1]

/-- The gain's part of a tile, as the four groups of rows give it. -/
theorem gain_at (a x : Vec Ideal S1024x1024 .f32) (j : S1x1024.Idx) :
    k0_pay4
      (k0_pay21
        (k0_pay16
          (k0_pay10 (View.ld x (Rect.unit ![0, 0] ![256, 1024] inb_S1024x1024_S256x1024_0_0))
            (View.ld a (Rect.unit ![0, 0] ![256, 1024] inb_S1024x1024_S256x1024_0_0)))
          (View.ld x (Rect.unit ![256, 0] ![256, 1024] inb_S1024x1024_S256x1024_256_0))
          (k0_pay11 (View.ld x (Rect.unit ![256, 0] ![256, 1024] inb_S1024x1024_S256x1024_256_0)))
          (FloatOps.ofBits FTy.f32 0x358637BD#32)
          (View.ld a (Rect.unit ![256, 0] ![256, 1024] inb_S1024x1024_S256x1024_256_0)))
        (k0_pay18 (View.ld x (Rect.unit ![512, 0] ![256, 1024] inb_S1024x1024_S256x1024_512_0)))
        (k0_pay19 (View.ld a (Rect.unit ![512, 0] ![256, 1024] inb_S1024x1024_S256x1024_512_0))))
      (k0_pay23 (View.ld x (Rect.unit ![768, 0] ![256, 1024] inb_S1024x1024_S256x1024_768_0)))
      (k0_pay24 (View.ld a (Rect.unit ![768, 0] ![256, 1024] inb_S1024x1024_S256x1024_768_0))) j
    = gain a x (j 1) := by
  unfold gain spreadOf
  rw [Fin.sum_univ_tiles 4 256 rfl, Fin.sum_univ_four]
  pointwise [k0_pay4, k0_pay21, k0_pay16, k0_pay10, k0_pay8, k0_pay7, k0_pay6, k0_pay11, k0_pay14, k0_pay13, k0_pay12, k0_pay18, k0_pay17, k0_pay19,
    k0_pay23, k0_pay22, k0_pay24]

/-- Adding the tile's part to the gain's gradient so far. -/
theorem more_at (u : FVec Ideal S1x1024 .f32) (v w : FVec Ideal S256x1024 .f32) (p : Vec Ideal S1x1024 .f32) (j : S1x1024.Idx) :
    k0_pay5 u v w p j = p j + k0_pay4 u v w j := by
  pointwise [k0_pay5]

/-- The four groups of rows stored over the accumulated tile leave the norm's gradient everywhere. -/
theorem rows_at (a x r : Vec Ideal S1024x1024 .f32) (g : Vec Ideal S1x1024 .f32) (L : List (View.Piece (Elt Ideal) S1024x1024 .f32)) (y : S1024x1024.Idx) :
    View.canon
      ([⟨Rect.unit ![768, 0] ![256, 1024] inb_S1024x1024_S256x1024_768_0,
          k0_pay3 (k0_pay22 (View.ld x (Rect.unit ![768, 0] ![256, 1024] inb_S1024x1024_S256x1024_768_0)))
            (k0_pay23 (View.ld x (Rect.unit ![768, 0] ![256, 1024] inb_S1024x1024_S256x1024_768_0)))
            (k0_pay25 (View.ld a (Rect.unit ![768, 0] ![256, 1024] inb_S1024x1024_S256x1024_768_0)) g)
            (View.ld r (Rect.unit ![768, 0] ![256, 1024] inb_S1024x1024_S256x1024_768_0))
            (k0_pay26 (View.ld x (Rect.unit ![768, 0] ![256, 1024] inb_S1024x1024_S256x1024_768_0))
              (View.ld a (Rect.unit ![768, 0] ![256, 1024] inb_S1024x1024_S256x1024_768_0)) g)⟩,
        ⟨Rect.unit ![512, 0] ![256, 1024] inb_S1024x1024_S256x1024_512_0,
          k0_pay20 (k0_pay17 (View.ld x (Rect.unit ![512, 0] ![256, 1024] inb_S1024x1024_S256x1024_512_0)))
            (k0_pay18 (View.ld x (Rect.unit ![512, 0] ![256, 1024] inb_S1024x1024_S256x1024_512_0)))
            (k0_pay19 (View.ld a (Rect.unit ![512, 0] ![256, 1024] inb_S1024x1024_S256x1024_512_0))) g
            (View.ld r (Rect.unit ![512, 0] ![256, 1024] inb_S1024x1024_S256x1024_512_0))⟩,
        ⟨Rect.unit ![256, 0] ![256, 1024] inb_S1024x1024_S256x1024_256_0,
          k0_pay15 (View.ld x (Rect.unit ![256, 0] ![256, 1024] inb_S1024x1024_S256x1024_256_0))
            (k0_pay11 (View.ld x (Rect.unit ![256, 0] ![256, 1024] inb_S1024x1024_S256x1024_256_0)))
            (FloatOps.ofBits FTy.f32 0x358637BD#32)
            (View.ld a (Rect.unit ![256, 0] ![256, 1024] inb_S1024x1024_S256x1024_256_0)) g
            (View.ld r (Rect.unit ![256, 0] ![256, 1024] inb_S1024x1024_S256x1024_256_0))⟩,
        ⟨Rect.unit ![0, 0] ![256, 1024] inb_S1024x1024_S256x1024_0_0,
          k0_pay9 (View.ld x (Rect.unit ![0, 0] ![256, 1024] inb_S1024x1024_S256x1024_0_0))
            (View.ld a (Rect.unit ![0, 0] ![256, 1024] inb_S1024x1024_S256x1024_0_0)) g
            (View.ld r (Rect.unit ![0, 0] ![256, 1024] inb_S1024x1024_S256x1024_0_0))⟩] ++ L) y
    = back a x r g y := by
  refine View.canon_append_of_piecesOf (back a x r g) L _ ?_ y (View.cover_of_tiledL _ ![256, 1024] (by sl_kernel_rfl) y)
  refine ⟨fun z => ?_, fun z => ?_, fun z => ?_, fun z => ?_, trivial⟩
  all_goals
    unfold back rowBack spreadOf
    pointwise [k0_pay3, k0_pay22, k0_pay23, k0_pay24, k0_pay25, k0_pay26, k0_pay20, k0_pay17, k0_pay18, k0_pay19, k0_pay15, k0_pay14, k0_pay13, k0_pay12,
      k0_pay11, k0_pay9, k0_pay8, k0_pay7, k0_pay6]
    blk_point []

/-- What the steps up to a point have accumulated of the product: the first step starts anew, a later one adds to what the point before left. -/
def acc (c : Dev nD) (t : Fin cfg0.N) : Vec Ideal S1024x1024 .f32 :=
  if t.val % 4 = 0 then k0_pay1 (iblk m c 0 t) (iblk m c 1 t)
  else k0_pay2 (iblk m c 0 t) (iblk m c 1 t) (outsAt0 m c (t.val - 1) (Nat.lt_of_le_of_lt (Nat.sub_le _ _) t.isLt)).1

/-- Before the last step of a tile the buffer holds just that. -/
theorem keep (c : Dev nD) (t : Fin cfg0.N) (h3 : ¬t.val % 4 = 3) : (outsAt0 m c t.val t.isLt).1 = acc m c t := by
  unfold acc
  by_cases h0 : t.val % 4 = 0
  · rw [if_pos h0, outsAt0_A m c t h0 (by omega) h3]
    frame_out
  · rw [if_neg h0, outsAt0_B m c t h0 (by omega) h3]
    frame_out

/-- Before the last step of a tile the gain's gradient is what it was. -/
theorem idle (c : Dev nD) (n : ℕ) (h : n + 1 < cfg0.N) (h3 : ¬(n + 1) % 4 = 3) :
    (outsAt0 m c (n + 1) h).2 = (outsAt0 m c n (Nat.lt_of_succ_lt h)).2 := by
  by_cases h0 : (n + 1) % 4 = 0
  · refine (congrArg Prod.snd (outsAt0_A m c ⟨n + 1, h⟩ h0 (by dsimp only; omega) h3)).trans ?_
    frame_out
    rfl
  · refine (congrArg Prod.snd (outsAt0_B m c ⟨n + 1, h⟩ h0 (by dsimp only; omega) h3)).trans ?_
    frame_out
    rfl

/-- At the last step of a tile: the whole contraction. -/
theorem acc_at (c : Dev nD) (t : Fin cfg0.N) (hr : t.val % 4 = 4 - 1) (j : S1024x1024.Idx) :
    acc m c t j = 0 + ∑ s : Fin 4, ∑ k : Fin 1408,
      (show Vec Ideal S1x1024x1408 .bf16 from iblk m c 0 ⟨4 * (t.val / 4) + s.val, Pipeline.run_point_lt_of_flush t hr s⟩) (ix3 0 (j 0) k)
      * (show Vec Ideal S1x1408x1024 .bf16 from iblk m c 1 ⟨4 * (t.val / 4) + s.val, Pipeline.run_point_lt_of_flush t hr s⟩) (ix3 0 k (j 1)) := by
  refine Pipeline.eq_sum_fin_of_reset_step_apply_of_flush (fun n h => acc m c ⟨n, h⟩) 4 (fun _ => 0)
    (fun p j => ∑ k : Fin 1408, (show Vec Ideal S1x1024x1408 .bf16 from iblk m c 0 p) (ix3 0 (j 0) k)
      * (show Vec Ideal S1x1408x1024 .bf16 from iblk m c 1 p) (ix3 0 k (j 1))) (fun t h j => ?_) (fun t h j => ?_) t hr j
  · show acc m c t j = _
    unfold acc
    rw [if_pos h]
    exact first_at _ _ j
  · show acc m c t j = acc m c ⟨t.val - 1, _⟩ j + _
    rw [← keep m c ⟨t.val - 1, _⟩ (by dsimp only; omega)]
    unfold acc
    rw [if_neg h]
    exact next_at _ _ _ j

/-- A finished tile of rows. -/
theorem tile_at (c : Dev nD) (t : Fin cfg0.N) (h3 : t.val % 4 = 3) (y : S1024x1024.Idx) :
    (outsAt0 m c t.val t.isLt).1 y = back (acc m c t) (iblk m c 3 t) (iblk m c 4 t) (iblk m c 2 t) y := by
  have h0 : ¬t.val % 4 = 0 := by omega
  unfold acc
  rw [if_neg h0]
  by_cases h4 : t.val < 4
  · rw [outsAt0_C m c t h0 (by omega) h3 h4 (by omega)]
    frame_out
    simp (decide := true) only [View.readCov_skip, View.readCov_fill]
    exact rows_at _ _ _ _ _ y
  · rw [outsAt0_D m c t h0 (by omega) h3 h4 (by omega)]
    frame_out
    simp (decide := true) only [View.readCov_skip, View.readCov_fill]
    exact rows_at _ _ _ _ _ y

/-- The first tile starts the gain's gradient. -/
theorem gain_first (c : Dev nD) (t : Fin cfg0.N) (h3 : t.val % 4 = 3) (h4 : t.val < 4) (y : S1x1024.Idx) :
    (outsAt0 m c t.val t.isLt).2 y = gain (acc m c t) (iblk m c 3 t) (y 1) := by
  have h0 : ¬t.val % 4 = 0 := by omega
  unfold acc
  rw [if_neg h0, outsAt0_C m c t h0 (by omega) h3 h4 (by omega)]
  frame_out
  simp (decide := true) only [View.readCov_skip, View.readCov_fill]
  exact gain_at _ _ y

/-- A later tile adds to it. -/
theorem gain_next (c : Dev nD) (t : Fin cfg0.N) (h3 : t.val % 4 = 3) (h4 : ¬t.val < 4) (y : S1x1024.Idx) :
    (outsAt0 m c t.val t.isLt).2 y = (outsAt0 m c (t.val - 1) (Nat.lt_of_le_of_lt (Nat.sub_le _ _) t.isLt)).2 y
      + gain (acc m c t) (iblk m c 3 t) (y 1) := by
  have h0 : ¬t.val % 4 = 0 := by omega
  unfold acc
  rw [if_neg h0, outsAt0_D m c t h0 (by omega) h3 h4 (by omega)]
  frame_out
  simp (decide := true) only [View.readCov_skip, View.readCov_fill]
  exact (more_at _ _ _ _ y).trans (congrArg (_ + ·) (gain_at _ _ y))

/-- Through the steps before the last the gain's gradient stays. -/
theorem idle_run (c : Dev nD) (i k : ℕ) (hk : k < 4) (h : 4 * i + 3 + k < cfg0.N) :
    (outsAt0 m c (4 * i + 3 + k) h).2 = (outsAt0 m c (4 * i + 3) (by omega)).2 := by
  induction k with
  | zero => rfl
  | succ k ih => exact (idle m c (4 * i + 3 + k) h (by omega)).trans (ih (by omega) (by omega))

/-- One tile's part of the gain's gradient, by the number of the tile. -/
def part (c : Dev nD) (j : Fin 1024) (i : ℕ) : EReal :=
  if h : 4 * i + 3 < cfg0.N then gain (acc m c ⟨4 * i + 3, h⟩) (iblk m c 3 ⟨4 * i + 3, h⟩) j else 0

theorem part_of (c : Dev nD) (j : Fin 1024) (i : ℕ) (h : 4 * i + 3 < cfg0.N) :
    part m c j i = gain (acc m c ⟨4 * i + 3, h⟩) (iblk m c 3 ⟨4 * i + 3, h⟩) j := dif_pos h

/-- After a tile the gain's gradient is the sum of the parts so far. -/
theorem gain_sum (c : Dev nD) (y : S1x1024.Idx) (i : ℕ) (h : 4 * i + 3 < cfg0.N) :
    (outsAt0 m c (4 * i + 3) h).2 y = ∑ s ∈ Finset.range (i + 1), part m c (y 1) s := by
  induction i with
  | zero =>
    rw [Finset.sum_range_one]
    exact (gain_first m c ⟨4 * 0 + 3, h⟩ (by dsimp only) (by dsimp only; omega) y).trans (part_of m c (y 1) 0 h).symm
  | succ i ih =>
    have hi : 4 * i + 3 < cfg0.N := by omega
    rw [Finset.sum_range_succ, ← ih hi, ← idle_run m c i 3 (by omega) (by omega)]
    exact (gain_next m c ⟨4 * (i + 1) + 3, h⟩ (by dsimp only; omega) (by dsimp only; omega) y).trans
      (congrArg (_ + ·) (part_of m c (y 1) (i + 1) h).symm)

/-- The product of the reference that reaches the norm, at an index. -/
def prod (b : FVec Ideal S2x4096x2816 .bf16) (w : FVec Ideal S2x2816x1024 .bf16) (i : Fin 4096) (k : Fin 1024) : EReal :=
  ∑ n : Fin 2, ∑ q : Fin 2816, b (ix3 n i q) * w (ix3 n q k)

/-- The accumulated tile holds the rows of that product. -/
theorem acc_prod (c : Dev nD) (t : Fin cfg0.N) (hr : t.val % 4 = 4 - 1) (j : S1024x1024.Idx) (i : Fin 4096) (hi : i.val = t.val / 4 * 1024 + (j 0).val) :
    acc m c t j = prod (m ((c : Thread nD τ).loc main_arg0)) (m ((c : Thread nD τ).loc main_arg1)) i (j 1) := by
  rw [acc_at m c t hr, zero_add]
  unfold prod
  rw [Fin.sum_univ_tiles 2 2 rfl]
  refine Finset.sum_congr rfl fun n _ => Fin.sum_mul_add_congr fun s k hl => ?_
  have hn : n.val < 2 := n.isLt
  have hs : s.val < 2 := s.isLt
  have hd : (4 * (t.val / 4) + (n.val * 2 + s.val)) / 4 = t.val / 4 := by omega
  have hg : (4 * (t.val / 4) + (n.val * 2 + s.val)) / 2 % 2 = n.val := by omega
  have hm : (4 * (t.val / 4) + (n.val * 2 + s.val)) % 2 = s.val := by omega
  blk_point [iblk, V, idx ⟨_, Pipeline.run_point_lt_of_flush t hr ⟨n.val * 2 + s.val, by omega⟩⟩]

/-- The rows of a tile. -/
theorem row_at (c : Dev nD) (t : Fin cfg0.N) (q k : Fin 1024) (i : Fin 4096) (hi : i.val = t.val / 4 * 1024 + q.val) :
    (show Vec Ideal S1024x1024 .f32 from iblk m c 3 t) (ix2 q k) = m ((c : Thread nD τ).loc main_arg2) (ix2 i k) := by
  blk_point [iblk, V, idx t]

/-- A finished tile, from the arrays. -/
theorem tile_prod (c : Dev nD) (t : Fin cfg0.N) (hr : t.val % 4 = 4 - 1) (y : S1024x1024.Idx) (i : Fin 4096) (hi : i.val = t.val / 4 * 1024 + (y 0).val) :
    (outsAt0 m c t.val t.isLt).1 y
      = (show FVec Ideal S4096x1024 .f32 from m ((c : Thread nD τ).loc main_arg4)) (ix2 i (y 1))
        + rowBack (fun k => m ((c : Thread nD τ).loc main_arg2) (ix2 i k)) (fun k => m ((c : Thread nD τ).loc main_arg3) (ix2 0 k))
            (fun k => prod (m ((c : Thread nD τ).loc main_arg0)) (m ((c : Thread nD τ).loc main_arg1)) i k) (y 1) := by
  have hd : (show Vec Ideal S1024x1024 .f32 from iblk m c 4 t) y = m ((c : Thread nD τ).loc main_arg4) (ix2 i (y 1)) := by
    blk_point [iblk, V, idx t]
  have hg : ∀ k : Fin 1024, (show Vec Ideal S1x1024 .f32 from iblk m c 2 t) (ix2 0 k) = m ((c : Thread nD τ).loc main_arg3) (ix2 0 k) := by
    intro k
    blk_point [iblk, V, idx t]
  rw [tile_at m c t hr]
  exact congr (congrArg HAdd.hAdd hd) (congrFun (congr (congr (congrArg rowBack (funext fun k => row_at m c t (y 0) k i hi)) (funext hg))
    (funext fun k => acc_prod m c t hr (ix2 (y 0) k) i hi)) (y 1))

/-- The reference's gradient of the rows, at an index. -/
theorem rows_ref (b : FVec Ideal S2x4096x2816 .bf16) (w : FVec Ideal S2x2816x1024 .bf16) (x r : FVec Ideal S4096x1024 .f32)
    (g : FVec Ideal S1x1024 .f32) (j : S4096x1024.Idx) :
    Cert.Reference9Ideal.Read.val_main_v40 (F := Ideal) b w x g r j
      = r j + rowBack (fun k => x (ix2 (j 0) k)) (fun k => g (ix2 0 k)) (fun k => prod b w (j 0) k) (j 1) := by
  refine Eq.trans ?_ (congrArg (r j + ·) (rowBack_eq _ _ _ _).symm)
  unfold prod viaSpread spreadOf
  pointwise [Cert.Reference9Ideal.Read.val_main_v40, Cert.Reference9Ideal.Read.val_main_v39, Cert.Reference9Ideal.Read.val_main_v38, Cert.Reference9Ideal.Read.val_main_v37, Cert.Reference9Ideal.Read.val_main_v36, Cert.Reference9Ideal.Read.val_main_v35, Cert.Reference9Ideal.Read.val_main_v34, Cert.Reference9Ideal.Read.val_main_v33, Cert.Reference9Ideal.Read.val_main_v32, Cert.Reference9Ideal.Read.val_main_v31, Cert.Reference9Ideal.Read.val_main_v30, Cert.Reference9Ideal.Read.val_main_v29, Cert.Reference9Ideal.Read.val_main_v28, Cert.Reference9Ideal.Read.val_main_v27, Cert.Reference9Ideal.Read.val_main_v26, Cert.Reference9Ideal.Read.val_main_v25, Cert.Reference9Ideal.Read.val_main_v24, Cert.Reference9Ideal.Read.val_main_v20, Cert.Reference9Ideal.Read.val_main_v19, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6]
  simp only [Finset.univ_unique, Finset.sum_singleton]

/-- The reference's gradient of the gain, at an index. -/
theorem gain_ref (b : FVec Ideal S2x4096x2816 .bf16) (w : FVec Ideal S2x2816x1024 .bf16) (x : FVec Ideal S4096x1024 .f32) (j : S1x1024.Idx) :
    Cert.Reference9Ideal.Read.val_main_v23 (F := Ideal) b w x j
      = ∑ s : Fin 4096, x (ix2 s (j 1)) * Ideal.rsqrt (spreadOf fun k => x (ix2 s k)) * prod b w s (j 1) := by
  unfold prod spreadOf
  pointwise! [Cert.Reference9Ideal.Read.val_main_v23, Cert.Reference9Ideal.Read.val_main_v22, Cert.Reference9Ideal.Read.val_main_v21, Cert.Reference9Ideal.Read.val_main_v14, Cert.Reference9Ideal.Read.val_main_v13, Cert.Reference9Ideal.Read.val_main_v20, Cert.Reference9Ideal.Read.val_main_v19, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1, Cert.Reference9Ideal.Read.val_main_cst_3]

/-- The array of the gradient of the rows after the run is the reference's. -/
theorem final5 (c : Dev nD) : (dats m 0 c).arrAt 5 (cfgs 0).N
    = Cert.Reference9Ideal.Read.val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hr : t.val % 4 = 4 - 1 := (flush0_5 t).mp hf
  have hN : cfg0.N = 16 := by decide +kernel
  have ht : t.val < cfg0.N := t.isLt
  have h0 : (y 0).val < 1024 := (y 0).isLt
  have hi : t.val / 4 * 1024 + (y 0).val < 4096 := by omega
  refine (tile_prod m c t hr y ⟨t.val / 4 * 1024 + (y 0).val, hi⟩ rfl).trans
    ((rows_ref _ _ _ _ _ (ix2 ⟨t.val / 4 * 1024 + (y 0).val, hi⟩ (y 1))).symm.trans ?_)
  blk_point [idx t]

/-- The array of the gradient of the gain after the run is the reference's. -/
theorem final6 (c : Dev nD) : (dats m 0 c).arrAt 6 (cfgs 0).N
    = Cert.Reference9Ideal.Read.val_main_v23 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6]
  have hr : t.val % 16 = 15 := (flush0_6 t).mp hf
  have hN : cfg0.N = 16 := by decide +kernel
  have ht : t.val < cfg0.N := t.isLt
  have same : ∀ (n : ℕ) (hn : n < cfg0.N), n = t.val → (outsAt0 m c t.val t.isLt).2 = (outsAt0 m c n hn).2 := by
    rintro _ _ rfl
    rfl
  have hl : ∀ s : Fin 4, 4 * s.val + 3 < cfg0.N := fun s => by have := s.isLt; omega
  have hq : ∀ (s : Fin 4) (q : Fin 1024), s.val * 1024 + q.val < 4096 := fun s q => by have := s.isLt; have := q.isLt; omega
  have hp : ∀ s : Fin 4, part m c (y 1) s.val = ∑ q : Fin 1024,
      prod (m ((c : Thread nD τ).loc main_arg0)) (m ((c : Thread nD τ).loc main_arg1)) ⟨s.val * 1024 + q.val, hq s q⟩ (y 1)
        * ((show FVec Ideal S4096x1024 .f32 from m ((c : Thread nD τ).loc main_arg2)) (ix2 ⟨s.val * 1024 + q.val, hq s q⟩ (y 1))
          * Ideal.rsqrt (spreadOf fun k => (show FVec Ideal S4096x1024 .f32 from m ((c : Thread nD τ).loc main_arg2)) (ix2 ⟨s.val * 1024 + q.val, hq s q⟩ k))) := by
    intro s
    have hs : s.val < 4 := s.isLt
    have hd : (4 * s.val + 3) / 4 = s.val := by omega
    rw [part_of m c (y 1) s.val (hl s)]
    refine Finset.sum_congr rfl fun q _ => ?_
    have hi : s.val * 1024 + q.val = (4 * s.val + 3) / 4 * 1024 + q.val := by rw [hd]
    have hr' : (⟨4 * s.val + 3, hl s⟩ : Fin cfg0.N).val % 4 = 4 - 1 := by dsimp only; omega
    exact congr (congrArg HMul.hMul (acc_prod m c _ hr' (ix2 q (y 1)) ⟨s.val * 1024 + q.val, hq s q⟩ hi))
      (congr (congrArg HMul.hMul (row_at m c _ q (y 1) ⟨s.val * 1024 + q.val, hq s q⟩ hi))
        (congrArg (fun f => Ideal.rsqrt (spreadOf f)) (funext fun k => row_at m c _ q k ⟨s.val * 1024 + q.val, hq s q⟩ hi)))
  rw [same (4 * 3 + 3) (by omega) (by omega)]
  refine (gain_sum m c y 3 (by omega)).trans ?_
  rw [gain_ref, Finset.sum_range, Finset.sum_congr rfl fun s _ => hp s]
  refine Fin.sum_mul_add_congr fun s q hq => ?_
  rw [mul_comm]
  unfold spreadOf prod
  blk_point [idx t]

end Cert.Kernel9Ideal.Up

end
-- ==== Proof.MergeForward.lean ====
/- The gated merge going forward: what a grid point leaves in its three result arrays, row by row. -/
module

public import proofs.«01_k».proof.Proof.Gen.Kernel10Ideal.Frame
public import proofs.«01_k».proof.Proof.Gen.Reference10Ideal.Read
public import Idealize.ShloMosaic.Lib.Pipeline.ValueKit
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel10Ideal.Merge
open Cert.Kernel10Ideal Cert.Kernel10Ideal.Gen Cert.NormBack

/-- The sigmoid of an extended real. -/
def sg (v : EReal) : EReal := Ideal.div 1 (1 + Ideal.exp (-v))

section
variable (y : Vec Ideal S4x512x512 .bf16) (p : Vec Ideal S4x512x1024 .f32) (w : Vec Ideal S4x512x1024 .bf16)
  (o : Vec Ideal S1024x1024 .bf16) (x : Vec Ideal S512x1024 .f32) (g : Vec Ideal S1x1024 .f32)

/-- The merged rows of a block, at an index: the four gated up projections added. -/
theorem merged_pay (j : S512x1024.Idx) :
    k0_pay5 y p w o x g j = ∑ b : Fin 4, sg (p (ix3 b (j 0) (j 1))) * ∑ k : Fin 512, y (ix3 b (j 0) k) * w (ix3 b k (j 1)) := by
  rw [Fin.sum_univ_four]
  unfold k0_pay5
  open_payloads
  pointwise [sg, zero_sub]

/-- The rows with the merged rows' product added, at an index. -/
theorem rows_pay (a : FVec Ideal S512x1024 .bf16) (j : S512x1024.Idx) :
    k0_pay1 a x o j = x j + ∑ k : Fin 1024, a (ix2 (j 0) k) * o (ix2 k (j 1)) := by
  pointwise [k0_pay1]

/-- The rows normalised, at an index. -/
theorem norm_pay (a : FVec Ideal S512x1024 .bf16) (j : S512x1024.Idx) :
    k0_pay2 a x o g j = k0_pay1 a x o j * Ideal.rsqrt (spreadOf fun k => k0_pay1 a x o (ix2 (j 0) k)) * g (ix2 0 (j 1)) := by
  unfold spreadOf
  pointwise [k0_pay2]

/-- The block of the rows is that sum. -/
theorem rows_block (j : S512x1024.Idx) : out0_6 y p w o x g j = k0_pay1 (k0_pay5 y p w o x g) x o j := by
  unfold out0_6
  simp (disch := decide) only [r0_8, r0_9, View.canon_cons_unit_lit', View.ld_unit_lit']

/-- The block of the merged rows holds them. -/
theorem merged_block (j : S512x1024.Idx) : out0_7 y p w o x g j = k0_pay5 y p w o x g j := by
  unfold out0_7
  canon_tiles x h
  blk_point []

/-- The block of the normalised rows holds them. -/
theorem norm_block (j : S512x1024.Idx) : out0_8 y p w o x g j = k0_pay2 (k0_pay5 y p w o x g) x o g j := by
  unfold out0_8
  simp (disch := decide) only [r0_8, r0_9, r0_10, View.canon_cons_unit_lit', View.ld_unit_lit']

end

section
variable (y : FVec Ideal S4x4096x512 .bf16) (p : FVec Ideal S8x4096x1024 .f32) (w : FVec Ideal S4x512x1024 .bf16)
  (o : FVec Ideal S1024x1024 .bf16) (x : FVec Ideal S4096x1024 .f32) (g : FVec Ideal S1x1024 .f32) (j : S4096x1024.Idx)

/-- The reference's merged rows, at an index. -/
theorem merged_ref : Cert.Reference10Ideal.Read.val_main_v12 (F := Ideal) y p w j
    = ∑ b : Fin 4, sg (p (ix3 ⟨4 + b.val, by omega⟩ (j 0) (j 1))) * ∑ k : Fin 512, y (ix3 b (j 0) k) * w (ix3 b k (j 1)) := by
  pointwise! [Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v1, Cert.Reference10Ideal.Read.val_main_v0, Cert.Reference10Ideal.Read.val_main_cst, Cert.Reference10Ideal.Read.val_main_cst_0, Cert.Reference10Ideal.Read.val_main_cst_1, sg]

/-- The reference's merged rows as they are returned. -/
theorem merged_out : Cert.Reference10Ideal.Read.val_main_v15 (F := Ideal) y p w j = Cert.Reference10Ideal.Read.val_main_v12 (F := Ideal) y p w j := by
  pointwise [Cert.Reference10Ideal.Read.val_main_v15]

/-- The reference's rows, at an index. -/
theorem rows_ref : Cert.Reference10Ideal.Read.val_main_v14 (F := Ideal) y p w o x j
    = x j + ∑ k : Fin 1024, Cert.Reference10Ideal.Read.val_main_v12 (F := Ideal) y p w (ix2 (j 0) k) * o (ix2 k (j 1)) := by
  pointwise [Cert.Reference10Ideal.Read.val_main_v14, Cert.Reference10Ideal.Read.val_main_v13, Cert.Reference10Ideal.Read.val_main_v2]

/-- The reference's normalised rows, at an index. -/
theorem norm_ref : Cert.Reference10Ideal.Read.val_main_v28 (F := Ideal) y p w o x g j
    = Cert.Reference10Ideal.Read.val_main_v14 (F := Ideal) y p w o x j
      * Ideal.rsqrt (spreadOf fun k => Cert.Reference10Ideal.Read.val_main_v14 (F := Ideal) y p w o x (ix2 (j 0) k)) * g (ix2 0 (j 1)) := by
  unfold spreadOf
  pointwise [Cert.Reference10Ideal.Read.val_main_v28, Cert.Reference10Ideal.Read.val_main_v27, Cert.Reference10Ideal.Read.val_main_v26, Cert.Reference10Ideal.Read.val_main_v25, Cert.Reference10Ideal.Read.val_main_v24, Cert.Reference10Ideal.Read.val_main_v23, Cert.Reference10Ideal.Read.val_main_v22, Cert.Reference10Ideal.Read.val_main_v21, Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_cst_2, Cert.Reference10Ideal.Read.val_main_cst_3, Cert.Reference10Ideal.Read.val_main_cst_4]

end

variable (m : (ℓ : Loc nD τ sig) → Buf (Elt Ideal) ℓ)

/-- The windows' block indices at every grid point. -/
theorem idx : ∀ t : Fin cfg0.N, win0_0.index t = ![0, t.val, 0] ∧ win0_1.index t = ![1, t.val, 0] ∧ win0_2.index t = ![0, 0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] :=
  (by decide +kernel : ∀ t : Fin grid0.N, _)

/-- A point's merged rows are the reference's. -/
theorem merged_tile (c : Dev nD) (t : Fin cfg0.N) (j : S512x1024.Idx) (i : Fin 4096) (hi : i.val = t.val * 512 + (j 0).val) :
    k0_pay5 (iblk m c 0 t) (iblk m c 1 t) (iblk m c 2 t) (iblk m c 3 t) (iblk m c 4 t) (iblk m c 5 t) j = Cert.Reference10Ideal.Read.val_main_v12 (F := Ideal) (m ((c : Thread nD τ).loc main_arg0)) (m ((c : Thread nD τ).loc main_arg1)) (m ((c : Thread nD τ).loc main_arg2)) (ix2 i (j 1)) := by
  rw [merged_pay, merged_ref]
  refine Finset.sum_congr rfl fun b _ => ?_
  have hb : b.val < 4 := b.isLt
  blk_point [iblk, V, idx t]

/-- A point's rows are the reference's. -/
theorem rows_tile (c : Dev nD) (t : Fin cfg0.N) (j : S512x1024.Idx) (i : Fin 4096) (hi : i.val = t.val * 512 + (j 0).val) :
    k0_pay1 (k0_pay5 (iblk m c 0 t) (iblk m c 1 t) (iblk m c 2 t) (iblk m c 3 t) (iblk m c 4 t) (iblk m c 5 t)) (iblk m c 4 t) (iblk m c 3 t) j = Cert.Reference10Ideal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i (j 1)) := by
  rw [rows_pay, rows_ref]
  refine congr (congrArg HAdd.hAdd ?_) (Finset.sum_congr rfl fun k _ => congr (congrArg HMul.hMul (merged_tile m c t (ix2 (j 0) k) i hi)) ?_)
  · blk_point [iblk, V, idx t]
  · blk_point [iblk, V, idx t]

/-- The array of the rows after the run is the reference's. -/
theorem final6 (c : Dev nD) : (dats m 0 c).arrAt 6 (cfgs 0).N = Cert.Reference10Ideal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht : t.val < cfg0.N := t.isLt
  have hN : cfg0.N = 8 := by decide +kernel
  have h0 : (y 0).val < 512 := (y 0).isLt
  have hi : t.val * 512 + (y 0).val < 4096 := by omega
  refine (rows_block _ _ _ _ _ _ y).trans ((rows_tile m c t y ⟨t.val * 512 + (y 0).val, hi⟩ rfl).trans ?_)
  blk_point [idx t]

/-- The array of the merged rows after the run is the reference's. -/
theorem final7 (c : Dev nD) : (dats m 0 c).arrAt 7 (cfgs 0).N = Cert.Reference10Ideal.Read.val_main_v15 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, merged_out]
  have ht : t.val < cfg0.N := t.isLt
  have hN : cfg0.N = 8 := by decide +kernel
  have h0 : (y 0).val < 512 := (y 0).isLt
  have hi : t.val * 512 + (y 0).val < 4096 := by omega
  refine (merged_block _ _ _ _ _ _ y).trans ((merged_tile m c t y ⟨t.val * 512 + (y 0).val, hi⟩ rfl).trans ?_)
  blk_point [idx t]

/-- The array of the normalised rows after the run is the reference's. -/
theorem final8 (c : Dev nD) : (dats m 0 c).arrAt 8 (cfgs 0).N = Cert.Reference10Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have ht : t.val < cfg0.N := t.isLt
  have hN : cfg0.N = 8 := by decide +kernel
  have h0 : (y 0).val < 512 := (y 0).isLt
  have hi : t.val * 512 + (y 0).val < 4096 := by omega
  have hr : ∀ k : Fin 1024, _ := fun k => rows_tile m c t (ix2 (y 0) k) ⟨t.val * 512 + (y 0).val, hi⟩ rfl
  have hg : (show Vec Ideal S1x1024 .f32 from iblk m c 5 t) (ix2 0 (y 1)) = m ((c : Thread nD τ).loc main_arg5) (ix2 0 (y 1)) := by
    blk_point [iblk, V, idx t]
  refine (norm_block _ _ _ _ _ _ y).trans ((norm_pay _ _ _ _ y).trans ?_)
  refine Eq.trans (congr (congrArg HMul.hMul (congr (congrArg HMul.hMul (rows_tile m c t y ⟨t.val * 512 + (y 0).val, hi⟩ rfl))
    (congrArg (fun f => Ideal.rsqrt (spreadOf f)) (funext hr)))) hg) ?_
  refine (norm_ref _ _ _ _ _ _ (ix2 ⟨t.val * 512 + (y 0).val, hi⟩ (y 1))).symm.trans ?_
  blk_point [idx t]

end Cert.Kernel10Ideal.Merge

end
-- ==== Proof.ProjForward.lean ====
/- The input projections: every grid point leaves one block of one projection's product. -/
module

public import proofs.«01_k».proof.Proof.Gen.Kernel11Ideal.Frame
public import proofs.«01_k».proof.Proof.Gen.Reference11Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Proj
open Cert.Kernel11Ideal Cert.Kernel11Ideal.Gen

variable (m : (ℓ : Loc nD τ sig) → Buf (Elt Ideal) ℓ)

/-- The windows' block indices at every grid point. -/
theorem idx : ∀ t : Fin cfg0.N, win0_0.index t = ![t.val % 2, 0] ∧ win0_1.index t = ![t.val / 2, 0, 0]
    ∧ win0_2.index t = ![t.val / 2, t.val % 2, 0] :=
  (by decide +kernel : ∀ t : Fin grid0.N, _)

/-- What a grid point stores, at an index of its block. -/
theorem block_at (h : Vec Ideal S2048x1024 .bf16) (w : Vec Ideal S1x1024x1024 .bf16) (y : S1x2048x1024.Idx) :
    out0_2 h w y = ∑ k : Fin 1024, h (ix2 (y 1) k) * w (ix3 0 k (y 2)) := by
  unfold out0_2
  canon_tiles x h
  all_goals (open_payloads; pointwise []; blk_point [])

/-- The reference's product, at an index. -/
theorem ref_at (h : FVec Ideal S4096x1024 .bf16) (w : FVec Ideal S8x1024x1024 .bf16) (j : S8x4096x1024.Idx) :
    Cert.Reference11Ideal.Read.val_main_v3 (F := Ideal) h w j = ∑ k : Fin 1024, h (ix2 (j 1) k) * w (ix3 (j 0) k (j 2)) := by
  pointwise! [Cert.Reference11Ideal.Read.val_main_v3, Cert.Reference11Ideal.Read.val_main_v2, Cert.Reference11Ideal.Read.val_main_v1, Cert.Reference11Ideal.Read.val_main_v0]

/-- The array of the projections after the run is the reference's. -/
theorem final (c : Dev nD) : (dats m 0 c).arrAt 2 (cfgs 0).N
    = Cert.Reference11Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  refine (block_at _ _ y).trans ?_
  blk_point [iblk, V, idx t]

end Cert.Kernel11Ideal.Proj

end
-- ==== Proof.WideForward.lean ====
/- The feed-forward layer's first products: every grid point leaves one block of one of the two. -/
module

public import proofs.«01_k».proof.Proof.Gen.Kernel12Ideal.Frame
public import proofs.«01_k».proof.Proof.Gen.Reference12Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Wide
open Cert.Kernel12Ideal Cert.Kernel12Ideal.Gen

variable (m : (ℓ : Loc nD τ sig) → Buf (Elt Ideal) ℓ)

/-- The windows' block indices at every grid point. -/
theorem idx : ∀ t : Fin cfg0.N, win0_0.index t = ![t.val % 2, 0] ∧ win0_1.index t = ![t.val / 4, t.val / 2 % 2, 0]
    ∧ win0_2.index t = ![t.val / 4, t.val % 2, t.val / 2 % 2] :=
  (by decide +kernel : ∀ t : Fin grid0.N, _)

/-- What a grid point stores, at an index of its block. -/
theorem block_at (h : Vec Ideal S2048x1024 .bf16) (w : Vec Ideal S1x1408x1024 .bf16) (y : S1x2048x1408.Idx) :
    out0_2 h w y = ∑ k : Fin 1024, h (ix2 (y 1) k) * w (ix3 0 (y 2) k) := by
  unfold out0_2
  canon_tiles x h
  all_goals (open_payloads; pointwise []; blk_point [])

/-- The reference's product, at an index. -/
theorem ref_at (h : FVec Ideal S4096x1024 .bf16) (w : FVec Ideal S2x2816x1024 .bf16) (j : S2x4096x2816.Idx) :
    Cert.Reference12Ideal.Read.val_main_v4 (F := Ideal) h w j = ∑ k : Fin 1024, h (ix2 (j 1) k) * w (ix3 (j 0) (j 2) k) := by
  pointwise! [Cert.Reference12Ideal.Read.val_main_v4, Cert.Reference12Ideal.Read.val_main_v3, Cert.Reference12Ideal.Read.val_main_v2, Cert.Reference12Ideal.Read.val_main_v1, Cert.Reference12Ideal.Read.val_main_v0]

/-- The array of the two products after the run is the reference's. -/
theorem final (c : Dev nD) : (dats m 0 c).arrAt 2 (cfgs 0).N
    = Cert.Reference12Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  refine (block_at _ _ y).trans ?_
  blk_point [iblk, V, idx t]

end Cert.Kernel12Ideal.Wide

end
-- ==== Proof.DownForward.lean ====
/- The feed-forward layer's second product going forward: a tile of rows takes the two halves of the contraction one after
   the other in the result's own buffer, and after the second the rows are normalised. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack
public import proofs.«01_k».proof.Proof.NormBack

@[expose] public section

set_option maxRecDepth 16384

noncomputable section

open Idealize.ShloMosaic Idealize.ShloMosaic.TcCoe Idealize.SL.Sem
open Idealize.ShloMosaic.Pipeline (Dat)

namespace Cert.Kernel13Ideal.Down
open Cert.Kernel13Ideal Cert.Kernel13Ideal.Gen Cert.NormBack

/-- A gated hidden value, from its two factors. -/
def gated (a b : EReal) : EReal := a * Ideal.div 1 (1 + Ideal.exp (-a)) * b

/-- The block of the hidden values. -/
def hid (u : Vec Ideal S2x512x1408 .bf16) : Vec Ideal S512x1408 .bf16 :=
  fun y => gated (u (ix3 0 (y 0) (y 1))) (u (ix3 1 (y 0) (y 1)))

/-- The sixteen groups of rows of the hidden values, as the point stores them. -/
def groups (u : Vec Ideal S2x512x1408 .bf16) : List (View.Piece (Elt Ideal) S512x1408 .bf16) :=
  [⟨Rect.unit ![480, 0] ![32, 1408] inb_S512x1408_S32x1408_480_0, k0_pay1 (k0_pay31 (View.ld u (Rect.unit ![0, 480, 0] ![1, 32, 1408] inb_S2x512x1408_S1x32x1408_0_480_0))) (k0_pay32 (View.ld u (Rect.unit ![0, 480, 0] ![1, 32, 1408] inb_S2x512x1408_S1x32x1408_0_480_0))) (View.ld u (Rect.unit ![1, 480, 0] ![1, 32, 1408] inb_S2x512x1408_S1x32x1408_1_480_0))⟩,
    ⟨Rect.unit ![448, 0] ![32, 1408] inb_S512x1408_S32x1408_448_0, k0_pay30 (View.ld u (Rect.unit ![0, 448, 0] ![1, 32, 1408] inb_S2x512x1408_S1x32x1408_0_448_0)) (View.ld u (Rect.unit ![1, 448, 0] ![1, 32, 1408] inb_S2x512x1408_S1x32x1408_1_448_0))⟩,
    ⟨Rect.unit ![416, 0] ![32, 1408] inb_S512x1408_S32x1408_416_0, k0_pay29 (k0_pay26 (View.ld u (Rect.unit ![0, 416, 0] ![1, 32, 1408] inb_S2x512x1408_S1x32x1408_0_416_0))) (k0_pay27 (View.ld u (Rect.unit ![0, 416, 0] ![1, 32, 1408] inb_S2x512x1408_S1x32x1408_0_416_0))) k0_pay28 (View.ld u (Rect.unit ![1, 416, 0] ![1, 32, 1408] inb_S2x512x1408_S1x32x1408_1_416_0))⟩,
    ⟨Rect.unit ![384, 0] ![32, 1408] inb_S512x1408_S32x1408_384_0, k0_pay25 (View.ld u (Rect.unit ![0, 384, 0] ![1, 32, 1408] inb_S2x512x1408_S1x32x1408_0_384_0)) (View.ld u (Rect.unit ![1, 384, 0] ![1, 32, 1408] inb_S2x512x1408_S1x32x1408_1_384_0))⟩,
    ⟨Rect.unit ![352, 0] ![32, 1408] inb_S512x1408_S32x1408_352_0, k0_pay24 (k0_pay23 (View.ld u (Rect.unit ![0, 352, 0] ![1, 32, 1408] inb_S2x512x1408_S1x32x1408_0_352_0))) (View.ld u (Rect.unit ![1, 352, 0] ![1, 32, 1408] inb_S2x512x1408_S1x32x1408_1_352_0))⟩,
    ⟨Rect.unit ![320, 0] ![32, 1408] inb_S512x1408_S32x1408_320_0, k0_pay22 (View.ld u (Rect.unit ![0, 320, 0] ![1, 32, 1408] inb_S2x512x1408_S1x32x1408_0_320_0)) (View.ld u (Rect.unit ![1, 320, 0] ![1, 32, 1408] inb_S2x512x1408_S1x32x1408_1_320_0))⟩,
    ⟨Rect.unit ![288, 0] ![32, 1408] inb_S512x1408_S32x1408_288_0, k0_pay21 (k0_pay20 (View.ld u (Rect.unit ![0, 288, 0] ![1, 32, 1408] inb_S2x512x1408_S1x32x1408_0_288_0))) (View.ld u (Rect.unit ![1, 288, 0] ![1, 32, 1408] inb_S2x512x1408_S1x32x1408_1_288_0))⟩,
    ⟨Rect.unit ![256, 0] ![32, 1408] inb_S512x1408_S32x1408_256_0, k0_pay19 (View.ld u (Rect.unit ![0, 256, 0] ![1, 32, 1408] inb_S2x512x1408_S1x32x1408_0_256_0)) (View.ld u (Rect.unit ![1, 256, 0] ![1, 32, 1408] inb_S2x512x1408_S1x32x1408_1_256_0))⟩,
    ⟨Rect.unit ![224, 0] ![32, 1408] inb_S512x1408_S32x1408_224_0, k0_pay18 (k0_pay17 (View.ld u (Rect.unit ![0, 224, 0] ![1, 32, 1408] inb_S2x512x1408_S1x32x1408_0_224_0))) (View.ld u (Rect.unit ![1, 224, 0] ![1, 32, 1408] inb_S2x512x1408_S1x32x1408_1_224_0))⟩,
    ⟨Rect.unit ![192, 0] ![32, 1408] inb_S512x1408_S32x1408_192_0, k0_pay16 (View.ld u (Rect.unit ![0, 192, 0] ![1, 32, 1408] inb_S2x512x1408_S1x32x1408_0_192_0)) (View.ld u (Rect.unit ![1, 192, 0] ![1, 32, 1408] inb_S2x512x1408_S1x32x1408_1_192_0))⟩,
    ⟨Rect.unit ![160, 0] ![32, 1408] inb_S512x1408_S32x1408_160_0, k0_pay15 (k0_pay13 (View.ld u (Rect.unit ![0, 160, 0] ![1, 32, 1408] inb_S2x512x1408_S1x32x1408_0_160_0))) (k0_pay14 (View.ld u (Rect.unit ![1, 160, 0] ![1, 32, 1408] inb_S2x512x1408_S1x32x1408_1_160_0)))⟩,
    ⟨Rect.unit ![128, 0] ![32, 1408] inb_S512x1408_S32x1408_128_0, k0_pay12 (View.ld u (Rect.unit ![0, 128, 0] ![1, 32, 1408] inb_S2x512x1408_S1x32x1408_0_128_0)) (View.ld u (Rect.unit ![1, 128, 0] ![1, 32, 1408] inb_S2x512x1408_S1x32x1408_1_128_0))⟩,
    ⟨Rect.unit ![96, 0] ![32, 1408] inb_S512x1408_S32x1408_96_0, k0_pay11 (k0_pay10 (View.ld u (Rect.unit ![0, 96, 0] ![1, 32, 1408] inb_S2x512x1408_S1x32x1408_0_96_0)) (View.ld u (Rect.unit ![1, 96, 0] ![1, 32, 1408] inb_S2x512x1408_S1x32x1408_1_96_0)))⟩,
    ⟨Rect.unit ![64, 0] ![32, 1408] inb_S512x1408_S32x1408_64_0, k0_pay9 (View.ld u (Rect.unit ![0, 64, 0] ![1, 32, 1408] inb_S2x512x1408_S1x32x1408_0_64_0)) (View.ld u (Rect.unit ![1, 64, 0] ![1, 32, 1408] inb_S2x512x1408_S1x32x1408_1_64_0))⟩,
    ⟨Rect.unit ![32, 0] ![32, 1408] inb_S512x1408_S32x1408_32_0, k0_pay8 (k0_pay7 (View.ld u (Rect.unit ![0, 32, 0] ![1, 32, 1408] inb_S2x512x1408_S1x32x1408_0_32_0)) (View.ld u (Rect.unit ![1, 32, 0] ![1, 32, 1408] inb_S2x512x1408_S1x32x1408_1_32_0)))⟩,
    ⟨Rect.unit ![0, 0] ![32, 1408] inb_S512x1408_S32x1408_0_0, k0_pay6 (View.ld u (Rect.unit ![0, 0, 0] ![1, 32, 1408] inb_S2x512x1408_S1x32x1408_0_0_0)) (View.ld u (Rect.unit ![1, 0, 0] ![1, 32, 1408] inb_S2x512x1408_S1x32x1408_1_0_0))⟩]

/-- The groups of rows read back whole are the hidden values. -/
theorem groups_read (v : View sig .tc .vmem S512x1408 .bf16) (u : Vec Ideal S2x512x1408 .bf16) :
    v.readCov (groups u) (Rect.unit ![0, 0] ![512, 1408] inb_S512x1408_S512x1408_0_0).toLoadRect = hid u := by
  have hp : View.PiecesOf (hid u) (groups u) := by
    unfold groups
    refine ⟨fun z => ?_, fun z => ?_, fun z => ?_, fun z => ?_, fun z => ?_, fun z => ?_, fun z => ?_, fun z => ?_, fun z => ?_, fun z => ?_,
      fun z => ?_, fun z => ?_, fun z => ?_, fun z => ?_, fun z => ?_, fun z => ?_, trivial⟩
    all_goals
      unfold hid gated
      pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, zero_sub]
      blk_point []
  refine (View.readCov_eq_canon_ld _ _ _ (View.cover_of_tiledL _ ![32, 1408] (by sl_kernel_rfl))).trans ?_
  rw [View.ld_unit_lit _ _ (by decide)]
  funext y
  have h := View.canon_append_of_piecesOf (hid u) [] (groups u) hp y (View.cover_of_tiledL _ ![32, 1408] (by sl_kernel_rfl) y)
  rwa [List.append_nil] at h

/-- Half the product of hidden values with a block of the weight. -/
def half (h : Vec Ideal S512x1408 .bf16) (w : Vec Ideal S1408x1024 .bf16) (j : S512x1024.Idx) : EReal :=
  Ideal.ofBits .f32 0x3F000000#32 * ∑ k : Fin 1408, h (ix2 (j 0) k) * w (ix2 k (j 1))

theorem first_pay (h : Vec Ideal S512x1408 .bf16) (w : Vec Ideal S1408x1024 .bf16) (x : Vec Ideal S512x1024 .f32) (j : S512x1024.Idx) :
    k0_pay3 h w x j = x j + half h w j := by
  unfold half
  pointwise [k0_pay3, k0_pay2]

theorem next_pay (h : Vec Ideal S512x1408 .bf16) (w : Vec Ideal S1408x1024 .bf16) (x : Vec Ideal S512x1024 .f32) (j : S512x1024.Idx) :
    k0_pay4 h w x j = x j + half h w j := by
  unfold half
  pointwise [k0_pay4, k0_pay2]

theorem norm_pay (a : Vec Ideal S512x1024 .f32) (g : Vec Ideal S1x1024 .f32) (j : S512x1024.Idx) :
    k0_pay5 a g j = a j * Ideal.rsqrt (spreadOf fun k => a (ix2 (j 0) k)) * g (ix2 0 (j 1)) := by
  unfold spreadOf
  pointwise [k0_pay5]

variable (m : (ℓ : Loc nD τ sig) → Buf (Elt Ideal) ℓ)

/-- The windows' block indices at every grid point. -/
theorem idx : ∀ t : Fin cfg0.N, win0_0.index t = ![0, t.val / 2, t.val % 2] ∧ win0_1.index t = ![t.val % 2, 0]
    ∧ win0_2.index t = ![t.val / 2, 0] ∧ win0_3.index t = ![0, 0] ∧ win0_4.index t = ![t.val / 2, 0] ∧ win0_5.index t = ![t.val / 2, 0] :=
  (by decide +kernel : ∀ t : Fin grid0.N, _)

/-- The first step of a tile. -/
theorem first_at (c : Dev nD) (t : Fin cfg0.N) (h0 : t.val % 2 = 0) (j : S512x1024.Idx) :
    (outsAt0 m c t.val t.isLt).1 j = (show Vec Ideal S512x1024 .f32 from iblk m c 2 t) j + half (hid (iblk m c 0 t)) (iblk m c 1 t) j := by
  rw [outsAt0_A m c t h0 (by omega) (by omega)]
  frame_out
  refine (congrArg (fun f => k0_pay3 f (iblk m c 1 t) (iblk m c 2 t) j) (groups_read _ (iblk m c 0 t))).trans ?_
  exact first_pay _ _ _ j

/-- The second step of a tile adds to it. -/
theorem next_at (c : Dev nD) (t : Fin cfg0.N) (h1 : t.val % 2 = 1) :
    (outsAt0 m c t.val t.isLt).1 = k0_pay4 (hid (iblk m c 0 t)) (iblk m c 1 t) (outsAt0 m c (t.val - 1) (Nat.lt_of_le_of_lt (Nat.sub_le _ _) t.isLt)).1 := by
  rw [outsAt0_B m c t (by omega) h1 h1]
  frame_out
  exact congrArg (fun f => k0_pay4 f (iblk m c 1 t) (outsAt0 m c (t.val - 1) _).1) (groups_read _ (iblk m c 0 t))

/-- The second step normalises the rows it has finished. -/
theorem norm_at (c : Dev nD) (t : Fin cfg0.N) (h1 : t.val % 2 = 1) :
    (outsAt0 m c t.val t.isLt).2 = k0_pay5 (outsAt0 m c t.val t.isLt).1 (iblk m c 3 t) := by
  rw [next_at m c t h1, outsAt0_B m c t (by omega) h1 h1]
  frame_out
  exact congrArg (fun f => k0_pay5 (k0_pay4 f (iblk m c 1 t) (outsAt0 m c (t.val - 1) _).1) (iblk m c 3 t)) (groups_read _ (iblk m c 0 t))

/-- The hidden values' product of the reference, an entry of one half of the contraction. -/
def part (u : FVec Ideal S2x4096x2816 .bf16) (w : FVec Ideal S2816x1024 .bf16) (i : Fin 4096) (d : Fin 1024) (s : Fin 2) : EReal :=
  ∑ k : Fin 1408, gated (u (ix3 0 i ⟨s.val * 1408 + k.val, by omega⟩)) (u (ix3 1 i ⟨s.val * 1408 + k.val, by omega⟩))
    * w (ix2 ⟨s.val * 1408 + k.val, by omega⟩ d)

theorem word_half : Ideal.ofBits .f32 0x3F000000#32 = ((1 / 2 : ℝ) : EReal) := by
  simp [Ideal.ofBits, Ideal.ieee, -EReal.coe_mul, -EReal.coe_neg]
  norm_num

/-- A half moves into a sum. -/
theorem half_add (a b : EReal) : Ideal.ofBits .f32 0x3F000000#32 * (a + b)
    = Ideal.ofBits .f32 0x3F000000#32 * a + Ideal.ofBits .f32 0x3F000000#32 * b := by
  rw [word_half, EReal.left_distrib_of_nonneg_of_ne_top (EReal.coe_nonneg.mpr (by norm_num)) (EReal.coe_ne_top _)]

/-- A point's half of the product is the reference's. -/
theorem half_part (c : Dev nD) (t : Fin cfg0.N) (s : Fin 2) (hs : t.val % 2 = s.val) (j : S512x1024.Idx) (i : Fin 4096)
    (hi : i.val = t.val / 2 * 512 + (j 0).val) :
    half (hid (iblk m c 0 t)) (iblk m c 1 t) j
      = Ideal.ofBits .f32 0x3F000000#32 * part (m ((c : Thread nD τ).loc main_arg0)) (m ((c : Thread nD τ).loc main_arg1)) i (j 1) s := by
  have hu : ∀ (b : Fin 2) (k : Fin 1408), (show Vec Ideal S2x512x1408 .bf16 from iblk m c 0 t) (ix3 b (j 0) k)
      = (show FVec Ideal S2x4096x2816 .bf16 from m ((c : Thread nD τ).loc main_arg0)) (ix3 b i ⟨s.val * 1408 + k.val, by omega⟩) := by
    intro b k
    blk_point [iblk, V, idx t]
  have hw : ∀ k : Fin 1408, (show Vec Ideal S1408x1024 .bf16 from iblk m c 1 t) (ix2 k (j 1))
      = (show FVec Ideal S2816x1024 .bf16 from m ((c : Thread nD τ).loc main_arg1)) (ix2 ⟨s.val * 1408 + k.val, by omega⟩ (j 1)) := by
    intro k
    blk_point [iblk, V, idx t]
  unfold half part
  exact congrArg (_ * ·) (Finset.sum_congr rfl fun k _ => congr (congrArg HMul.hMul (congr (congrArg gated (hu 0 k)) (hu 1 k))) (hw k))

/-- The reference's rows, at an index. -/
theorem rows_ref (u : FVec Ideal S2x4096x2816 .bf16) (w : FVec Ideal S2816x1024 .bf16) (x : FVec Ideal S4096x1024 .f32) (j : S4096x1024.Idx) :
    Cert.Reference13Ideal.Read.val_main_v11 (F := Ideal) u w x j
      = x j + (Ideal.ofBits .f32 0x3F000000#32 * part u w (j 0) (j 1) 0 + Ideal.ofBits .f32 0x3F000000#32 * part u w (j 0) (j 1) 1) := by
  have h : Cert.Reference13Ideal.Read.val_main_v11 (F := Ideal) u w x j = x j + Ideal.ofBits .f32 0x3F000000#32
      * ∑ k : Fin 2816, gated (u (ix3 0 (j 0) k)) (u (ix3 1 (j 0) k)) * w (ix2 k (j 1)) := by
    unfold gated
    pointwise [Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_v2, Cert.Reference13Ideal.Read.val_main_v1, Cert.Reference13Ideal.Read.val_main_v0, Cert.Reference13Ideal.Read.val_main_call0_v0, Cert.Reference13Ideal.Read.val_main_call0_v1, Cert.Reference13Ideal.Read.val_main_call0_cst, Cert.Reference13Ideal.Read.val_main_call0_v2, Cert.Reference13Ideal.Read.val_main_call0_v3, Cert.Reference13Ideal.Read.val_main_call0_cst_0, Cert.Reference13Ideal.Read.val_main_call0_v4, Cert.Reference13Ideal.Read.val_main_call0_v5, Cert.Reference13Ideal.Read.val_main_cst, Cert.Reference13Ideal.Read.val_main_cst_0, Cert.Reference13Ideal.Read.val_main_cst_1, Cert.Reference13Ideal.Read.val_main_cst_2]
  rw [h, Fin.sum_univ_tiles 2 1408 rfl, Fin.sum_univ_two, half_add]
  rfl

/-- The reference's normalised rows, at an index. -/
theorem norm_ref (u : FVec Ideal S2x4096x2816 .bf16) (w : FVec Ideal S2816x1024 .bf16) (x : FVec Ideal S4096x1024 .f32)
    (g : FVec Ideal S1x1024 .f32) (j : S4096x1024.Idx) :
    Cert.Reference13Ideal.Read.val_main_v24 (F := Ideal) u w x g j = Cert.Reference13Ideal.Read.val_main_v11 (F := Ideal) u w x j
      * Ideal.rsqrt (spreadOf fun k => Cert.Reference13Ideal.Read.val_main_v11 (F := Ideal) u w x (ix2 (j 0) k)) * g (ix2 0 (j 1)) := by
  unfold spreadOf
  pointwise [Cert.Reference13Ideal.Read.val_main_v24, Cert.Reference13Ideal.Read.val_main_v23, Cert.Reference13Ideal.Read.val_main_v22, Cert.Reference13Ideal.Read.val_main_v21, Cert.Reference13Ideal.Read.val_main_v20, Cert.Reference13Ideal.Read.val_main_v19, Cert.Reference13Ideal.Read.val_main_v18, Cert.Reference13Ideal.Read.val_main_v17, Cert.Reference13Ideal.Read.val_main_v16, Cert.Reference13Ideal.Read.val_main_v15, Cert.Reference13Ideal.Read.val_main_v14, Cert.Reference13Ideal.Read.val_main_v13, Cert.Reference13Ideal.Read.val_main_v12, Cert.Reference13Ideal.Read.val_main_cst, Cert.Reference13Ideal.Read.val_main_cst_0, Cert.Reference13Ideal.Read.val_main_cst_1, Cert.Reference13Ideal.Read.val_main_cst_2]

/-- A finished tile's rows are the reference's. -/
theorem rows_tile (c : Dev nD) (t : Fin cfg0.N) (h1 : t.val % 2 = 1) (j : S512x1024.Idx) (i : Fin 4096) (hi : i.val = t.val / 2 * 512 + (j 0).val) :
    (outsAt0 m c t.val t.isLt).1 j = Cert.Reference13Ideal.Read.val_main_v11 (F := Ideal) (m ((c : Thread nD τ).loc main_arg0)) (m ((c : Thread nD τ).loc main_arg1)) (m ((c : Thread nD τ).loc main_arg2)) (ix2 i (j 1)) := by
  have hp : (t.val - 1) % 2 = 0 := by omega
  have hd : (t.val - 1) / 2 = t.val / 2 := by omega
  have hl : t.val - 1 < cfg0.N := Nat.lt_of_le_of_lt (Nat.sub_le _ _) t.isLt
  have hx : (show Vec Ideal S512x1024 .f32 from iblk m c 2 ⟨t.val - 1, hl⟩) j
      = (show FVec Ideal S4096x1024 .f32 from m ((c : Thread nD τ).loc main_arg2)) (ix2 i (j 1)) := by
    blk_point [iblk, V, idx ⟨t.val - 1, hl⟩]
  rw [next_at m c t h1, next_pay, rows_ref]
  refine Eq.trans (congr (congrArg HAdd.hAdd ((first_at m c ⟨t.val - 1, hl⟩ hp j).trans (congr (congrArg HAdd.hAdd hx)
    (half_part m c ⟨t.val - 1, hl⟩ 0 hp j i (by dsimp only; omega))))) (half_part m c t 1 h1 j i hi)) ?_
  exact add_assoc _ _ _

/-- The array of the rows after the run is the reference's. -/
theorem final4 (c : Dev nD) : (dats m 0 c).arrAt 4 (cfgs 0).N = Cert.Reference13Ideal.Read.val_main_v11 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have h1 : t.val % 2 = 1 := (flush0_4 t).mp hf
  have ht : t.val < cfg0.N := t.isLt
  have hN : cfg0.N = 16 := by decide +kernel
  have h0 : (y 0).val < 512 := (y 0).isLt
  have hi : t.val / 2 * 512 + (y 0).val < 4096 := by omega
  refine (rows_tile m c t h1 y ⟨t.val / 2 * 512 + (y 0).val, hi⟩ rfl).trans ?_
  blk_point [idx t]

/-- The array of the normalised rows after the run is the reference's. -/
theorem final5 (c : Dev nD) : (dats m 0 c).arrAt 5 (cfgs 0).N = Cert.Reference13Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have h1 : t.val % 2 = 1 := (flush0_5 t).mp hf
  have ht : t.val < cfg0.N := t.isLt
  have hN : cfg0.N = 16 := by decide +kernel
  have h0 : (y 0).val < 512 := (y 0).isLt
  have hi : t.val / 2 * 512 + (y 0).val < 4096 := by omega
  have hr : ∀ k : Fin 1024, _ := fun k => rows_tile m c t h1 (ix2 (y 0) k) ⟨t.val / 2 * 512 + (y 0).val, hi⟩ rfl
  have hg : (show Vec Ideal S1x1024 .f32 from iblk m c 3 t) (ix2 0 (y 1)) = m ((c : Thread nD τ).loc main_arg3) (ix2 0 (y 1)) := by
    blk_point [iblk, V, idx t]
  rw [norm_at m c t h1]
  refine (norm_pay _ _ y).trans ?_
  refine Eq.trans (congr (congrArg HMul.hMul (congr (congrArg HMul.hMul (rows_tile m c t h1 y ⟨t.val / 2 * 512 + (y 0).val, hi⟩ rfl))
    (congrArg (fun f => Ideal.rsqrt (spreadOf f)) (funext hr)))) hg) ?_
  refine (norm_ref _ _ _ _ (ix2 ⟨t.val / 2 * 512 + (y 0).val, hi⟩ (y 1))).symm.trans ?_
  blk_point [idx t]

end Cert.Kernel13Ideal.Down

end
-- ==== Proof.ConvChunks.lean ====
/- The causal convolution of the mixers' forward pass inside one grid point: the gated rows, their copies moved by one to
   seven rows, and the eight groups of rows whose thirty-one products are summed. -/
module

public import proofs.«01_k».proof.Proof.Gen.Kernel14Ideal.Frame
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen

/-- A value times the logistic function of another. -/
def gate (a b : EReal) : EReal := a * Ideal.div 1 (1 + Ideal.exp (0 - b))

/-- A load of a buffer whose stores are blocks of one function, from a box they cover, reads that function. -/
theorem read_part {s : Shape} (G : s.Idx → EReal) (L : List (View.Piece (Elt Ideal) s .f32)) (hp : View.PiecesOf (e := .f32) (Val := Elt Ideal) G L)
    (v : View sig .tc .vmem s .f32) (B : LoadRect s) (y : B.shape.Idx) (hc : ∃ p ∈ L, B.idx y ∈ p.1.set) : v.readCov L B y = G (B.idx y) := by
  rw [View.readCov_eq_canon']
  have h := View.canon_append_of_piecesOf G [] L hp (B.idx y) hc
  rwa [List.append_nil] at h

/-- The gated rows of a block with the rows before it, by their number from the first of those. -/
def gated (n0 : EReal) (x7 : Vec Ideal S1x256x512 .f32) (x8 : Vec Ideal S1x32x512 .f32) (x9 : Vec Ideal S1x256x512 .f32) (x10 : Vec Ideal S1x32x512 .f32)
    (n : ℕ) (q : Fin 512) : EReal :=
  if h : n < 32 then gate (x8 (ix3 0 ⟨n, h⟩ q)) (x10 (ix3 0 ⟨n, h⟩ q)) * n0
  else if h' : n < 288 then gate (x7 (ix3 0 ⟨n - 32, by omega⟩ q)) (x9 (ix3 0 ⟨n - 32, by omega⟩ q)) else 0

theorem gated_back (n0 : EReal) (x7 : Vec Ideal S1x256x512 .f32) (x8 : Vec Ideal S1x32x512 .f32) (x9 : Vec Ideal S1x256x512 .f32) (x10 : Vec Ideal S1x32x512 .f32)
    (n : Fin 32) (q : Fin 512) : gated n0 x7 x8 x9 x10 n.val q = gate (x8 (ix3 0 n q)) (x10 (ix3 0 n q)) * n0 := dif_pos n.isLt

theorem gated_main (n0 : EReal) (x7 : Vec Ideal S1x256x512 .f32) (x8 : Vec Ideal S1x32x512 .f32) (x9 : Vec Ideal S1x256x512 .f32) (x10 : Vec Ideal S1x32x512 .f32)
    (n : Fin 256) (q : Fin 512) : gated n0 x7 x8 x9 x10 (32 + n.val) q = gate (x7 (ix3 0 n q)) (x9 (ix3 0 n q)) := by
  have h := n.isLt
  unfold gated
  rw [dif_neg (by omega), dif_pos (by omega)]
  have e : (⟨32 + n.val - 32, by omega⟩ : Fin 256) = n := Fin.ext (by show 32 + n.val - 32 = n.val; omega)
  rw [e]

/-- Eight copies of the rows, each one row further on than the one before. -/
def copies (f : ℕ → Fin 512 → EReal) : Vec Ideal S8x288x512 .f32 := fun j => f ((j 0).val + (j 1).val) (j 2)

theorem copies_at (f : ℕ → Fin 512 → EReal) (b o k : ℕ) (inb : ∀ a, (![b, o, 0] : Fin 3 → ℕ) a + (![1, k, 512] : Fin 3 → ℕ) a ≤ S8x288x512.size a)
    (x : (Rect.unit (s := S8x288x512) ![b, o, 0] ![1, k, 512] inb).shape.Idx) :
    copies f ((Rect.unit (s := S8x288x512) ![b, o, 0] ![1, k, 512] inb).emb x) = f (b + o + (x 1).val) (x 2) := by
  have h0 : (x 0).val < 1 := (x 0).isLt
  have e0 : ((Rect.unit (s := S8x288x512) ![b, o, 0] ![1, k, 512] inb).emb x 0).val = b + (x 0).val := ValueKit.rect_emb_unit_val _ _ inb x 0
  have e1 : ((Rect.unit (s := S8x288x512) ![b, o, 0] ![1, k, 512] inb).emb x 1).val = o + (x 1).val := ValueKit.rect_emb_unit_val _ _ inb x 1
  have e2 : ((Rect.unit (s := S8x288x512) ![b, o, 0] ![1, k, 512] inb).emb x 2).val = 0 + (x 2).val := ValueKit.rect_emb_unit_val _ _ inb x 2
  unfold copies
  exact congrArg₂ f (by omega) (Fin.ext (e2.trans (Nat.zero_add _)))

/-- A load of some rows of one of the copies, from stores that are blocks of them. -/
theorem read_copies (f : ℕ → Fin 512 → EReal) (L : List (View.Piece (Elt Ideal) S8x288x512 .f32)) (hp : View.PiecesOf (e := .f32) (Val := Elt Ideal) (copies f) L)
    (v : View sig .tc .vmem S8x288x512 .f32) (b o k : ℕ) (inb : ∀ a, (![b, o, 0] : Fin 3 → ℕ) a + (![1, k, 512] : Fin 3 → ℕ) a ≤ S8x288x512.size a)
    (hc : ∀ y, ∃ p ∈ L, (Rect.unit (s := S8x288x512) ![b, o, 0] ![1, k, 512] inb).toLoadRect.idx y ∈ p.1.set)
    (x : (Rect.unit (s := S8x288x512) ![b, o, 0] ![1, k, 512] inb).shape.Idx) :
    v.readCov L (Rect.unit (s := S8x288x512) ![b, o, 0] ![1, k, 512] inb).toLoadRect x = f (b + o + (x 1).val) (x 2) :=
  (read_part _ L hp v _ x (hc x)).trans (copies_at f b o k inb x)

variable (c : Dev nD) (i : grid0.Coords) (arg8 : Memref sig .tc .vmem S1x256x512 .f32) (harg8 : arg8.IsWhole) (arg9 : Memref sig .tc .vmem S1x32x512 .f32) (harg9 : arg9.IsWhole)
  (arg10 : Memref sig .tc .vmem S1x256x512 .f32) (harg10 : arg10.IsWhole) (arg11 : Memref sig .tc .vmem S1x32x512 .f32) (harg11 : arg11.IsWhole)
  (arg17 : Memref sig .tc .vmem S31x512 .f32) (harg17 : arg17.IsWhole) (arg28 : Memref sig .tc .vmem S8x288x512 .f32)
  (x7 : Vec Ideal S1x256x512 .f32) (x8 : Vec Ideal S1x32x512 .f32) (x9 : Vec Ideal S1x256x512 .f32) (x10 : Vec Ideal S1x32x512 .f32) (x16 : Vec Ideal S31x512 .f32)

/-- The rows as the point gates them. -/
abbrev rows (i : grid0.Coords) (x7 : Vec Ideal S1x256x512 .f32) (x8 : Vec Ideal S1x32x512 .f32) (x9 : Vec Ideal S1x256x512 .f32) (x10 : Vec Ideal S1x32x512 .f32) :=
  gated (k0_pay5 (F := Ideal) i) x7 x8 x9 x10

theorem pieces2 : View.PiecesOf (copies (rows i x7 x8 x9 x10)) (kernelRun0_A.sl.HS2_2 (F := Ideal) c i arg8 harg8 arg9 harg9 arg10 harg10 arg11 harg11 x7 x8 x9 x10) := by
  unfold kernelRun0_A.sl.HS2_2
  refine ⟨fun x => ?_, fun x => ?_, trivial⟩
  · refine Eq.trans ?_ (copies_at _ 0 32 256 (by decide) x).symm
    refine Eq.trans ?_ (gated_main _ x7 x8 x9 x10 (x 1) (x 2)).symm
    unfold kernelRun0_A.sl.v228 kernelRun0_A.sl.r_8 gate
    pointwise [k0_pay23, k0_pay24, Memref.IsWhole.readAt_unread]
  · refine Eq.trans ?_ (copies_at _ 0 0 32 (by decide) x).symm
    refine Eq.trans ?_ ((congrArg (fun n => rows i x7 x8 x9 x10 n (x 2)) (show 0 + 0 + (x 1).val = (x 1).val by omega)).trans (gated_back _ x7 x8 x9 x10 (x 1) (x 2))).symm
    unfold gate
    pointwise [k0_pay22, Memref.IsWhole.readAt_unread]

theorem mem_part (b o k : ℕ) (inb : ∀ a, (![b, o, 0] : Fin 3 → ℕ) a + (![1, k, 512] : Fin 3 → ℕ) a ≤ S8x288x512.size a) (z : S8x288x512.Idx)
    (h0 : (z 0).val = b) (h1 : o ≤ (z 1).val) (h2 : (z 1).val < o + k) : z ∈ (Rect.unit (s := S8x288x512) ![b, o, 0] ![1, k, 512] inb).set := by
  have h3 : (z 2).val < 512 := (z 2).isLt
  refine Rect.mem_set_unit.2 fun a => ?_
  match a with
  | ⟨0, _⟩ => exact ⟨h0.ge, Nat.lt_succ_of_le h0.le⟩
  | ⟨1, _⟩ => exact ⟨h1, h2⟩
  | ⟨2, _⟩ => exact ⟨Nat.zero_le _, (Nat.zero_add 512).symm ▸ h3⟩

theorem cover2 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_2 (F := Ideal) c i arg8 harg8 arg9 harg9 arg10 harg10 arg11 harg11 x7 x8 x9 x10, (Rect.unit (s := S8x288x512) ![0, o, 0] ![1, k, 512] inb).toLoadRect.idx y ∈ p.1.set := by
  have h0 : (y 0).val < 1 := (y 0).isLt
  have h1 : (y 1).val < k := (y 1).isLt
  have h2 : (y 2).val < 512 := (y 2).isLt
  have i1 : o + k ≤ 288 := inb 1
  have e0 : ((Rect.unit (s := S8x288x512) ![0, o, 0] ![1, k, 512] inb).toLoadRect.idx y 0).val = 0 + (y 0).val := ValueKit.rect_emb_unit_val _ _ inb y 0
  have e1 : ((Rect.unit (s := S8x288x512) ![0, o, 0] ![1, k, 512] inb).toLoadRect.idx y 1).val = o + (y 1).val := ValueKit.rect_emb_unit_val _ _ inb y 1
  have e2 : ((Rect.unit (s := S8x288x512) ![0, o, 0] ![1, k, 512] inb).toLoadRect.idx y 2).val = 0 + (y 2).val := ValueKit.rect_emb_unit_val _ _ inb y 2
  unfold kernelRun0_A.sl.HS2_2
  by_cases h : o + (y 1).val < 32
  · refine ⟨_, List.mem_cons_of_mem _ (List.mem_cons_self ..), ?_⟩
    exact mem_part 0 0 32 (by decide) _ (by omega) (by omega) (by omega)
  · refine ⟨_, List.mem_cons_self .., ?_⟩
    exact mem_part 0 32 256 (by decide) _ (by omega) (by omega) (by omega)

theorem pieces3 : View.PiecesOf (copies (rows i x7 x8 x9 x10)) (kernelRun0_A.sl.HS2_3 (F := Ideal) c i arg8 harg8 arg9 harg9 arg10 harg10 arg11 harg11 arg28 x7 x8 x9 x10) := by
  unfold kernelRun0_A.sl.HS2_3
  refine ⟨fun x => ?_, pieces2 c i arg8 harg8 arg9 harg9 arg10 harg10 arg11 harg11 x7 x8 x9 x10⟩
  refine Eq.trans ?_ (copies_at _ 1 0 280 (by decide) x).symm
  have h := read_copies _ _ (pieces2 c i arg8 harg8 arg9 harg9 arg10 harg10 arg11 harg11 x7 x8 x9 x10) arg28.view 0 1 280 (by decide) (cover2 c i arg8 harg8 arg9 harg9 arg10 harg10 arg11 harg11 x7 x8 x9 x10 1 280 (by decide))
  refine Eq.trans ?_ ((h x).trans (congrArg (fun n => rows i x7 x8 x9 x10 n (x 2)) (show 0 + 1 + (x 1).val = 1 + 0 + (x 1).val by omega)))
  pointwise! [k0_pay25, k0_pay26, k0_pay27, k0_pay28, k0_pay29, k0_pay30, k0_pay31, k0_pay32, kernelRun0_A.sl.v229, kernelRun0_A.sl.v230, kernelRun0_A.sl.v231, kernelRun0_A.sl.v232, kernelRun0_A.sl.v233]

theorem cover3 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_3 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover2 c i arg8 harg8 arg9 harg9 arg10 harg10 arg11 harg11 x7 x8 x9 x10 o k inb y
  unfold kernelRun0_A.sl.HS2_3
  exact ⟨p, List.mem_cons_of_mem _ hp, h⟩

theorem pieces4 : View.PiecesOf (copies (rows i x7 x8 x9 x10)) (kernelRun0_A.sl.HS2_4 (F := Ideal) c i arg8 harg8 arg9 harg9 arg10 harg10 arg11 harg11 arg28 x7 x8 x9 x10) := by
  unfold kernelRun0_A.sl.HS2_4
  refine ⟨fun x => ?_, pieces3 c i arg8 harg8 arg9 harg9 arg10 harg10 arg11 harg11 arg28 x7 x8 x9 x10⟩
  refine Eq.trans ?_ (copies_at _ 2 0 280 (by decide) x).symm
  have h := read_copies _ _ (pieces3 c i arg8 harg8 arg9 harg9 arg10 harg10 arg11 harg11 arg28 x7 x8 x9 x10) arg28.view 0 2 280 (by decide) (cover3 c i arg8 harg8 arg9 harg9 arg10 harg10 arg11 harg11 arg28 x7 x8 x9 x10 2 280 (by decide))
  refine Eq.trans ?_ ((h x).trans (congrArg (fun n => rows i x7 x8 x9 x10 n (x 2)) (show 0 + 2 + (x 1).val = 2 + 0 + (x 1).val by omega)))
  pointwise! [k0_pay25, k0_pay26, k0_pay27, k0_pay28, k0_pay29, k0_pay30, k0_pay31, k0_pay32, kernelRun0_A.sl.v234, kernelRun0_A.sl.v235, kernelRun0_A.sl.v236, kernelRun0_A.sl.v237, kernelRun0_A.sl.v238]

theorem cover4 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_4 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover3 c i arg8 harg8 arg9 harg9 arg10 harg10 arg11 harg11 arg28 x7 x8 x9 x10 o k inb y
  unfold kernelRun0_A.sl.HS2_4
  exact ⟨p, List.mem_cons_of_mem _ hp, h⟩

theorem pieces5 : View.PiecesOf (copies (rows i x7 x8 x9 x10)) (kernelRun0_A.sl.HS2_5 (F := Ideal) c i arg8 harg8 arg9 harg9 arg10 harg10 arg11 harg11 arg28 x7 x8 x9 x10) := by
  unfold kernelRun0_A.sl.HS2_5
  refine ⟨fun x => ?_, pieces4 c i arg8 harg8 arg9 harg9 arg10 harg10 arg11 harg11 arg28 x7 x8 x9 x10⟩
  refine Eq.trans ?_ (copies_at _ 3 0 280 (by decide) x).symm
  have h := read_copies _ _ (pieces4 c i arg8 harg8 arg9 harg9 arg10 harg10 arg11 harg11 arg28 x7 x8 x9 x10) arg28.view 0 3 280 (by decide) (cover4 c i arg8 harg8 arg9 harg9 arg10 harg10 arg11 harg11 arg28 x7 x8 x9 x10 3 280 (by decide))
  refine Eq.trans ?_ ((h x).trans (congrArg (fun n => rows i x7 x8 x9 x10 n (x 2)) (show 0 + 3 + (x 1).val = 3 + 0 + (x 1).val by omega)))
  pointwise! [k0_pay25, k0_pay26, k0_pay27, k0_pay28, k0_pay29, k0_pay30, k0_pay31, k0_pay32, kernelRun0_A.sl.v239, kernelRun0_A.sl.v240, kernelRun0_A.sl.v241, kernelRun0_A.sl.v242, kernelRun0_A.sl.v243]

theorem cover5 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_5 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover4 c i arg8 harg8 arg9 harg9 arg10 harg10 arg11 harg11 arg28 x7 x8 x9 x10 o k inb y
  unfold kernelRun0_A.sl.HS2_5
  exact ⟨p, List.mem_cons_of_mem _ hp, h⟩

theorem pieces6 : View.PiecesOf (copies (rows i x7 x8 x9 x10)) (kernelRun0_A.sl.HS2_6 (F := Ideal) c i arg8 harg8 arg9 harg9 arg10 harg10 arg11 harg11 arg28 x7 x8 x9 x10) := by
  unfold kernelRun0_A.sl.HS2_6
  refine ⟨fun x => ?_, pieces5 c i arg8 harg8 arg9 harg9 arg10 harg10 arg11 harg11 arg28 x7 x8 x9 x10⟩
  refine Eq.trans ?_ (copies_at _ 4 0 280 (by decide) x).symm
  have h := read_copies _ _ (pieces5 c i arg8 harg8 arg9 harg9 arg10 harg10 arg11 harg11 arg28 x7 x8 x9 x10) arg28.view 0 4 280 (by decide) (cover5 c i arg8 harg8 arg9 harg9 arg10 harg10 arg11 harg11 arg28 x7 x8 x9 x10 4 280 (by decide))
  refine Eq.trans ?_ ((h x).trans (congrArg (fun n => rows i x7 x8 x9 x10 n (x 2)) (show 0 + 4 + (x 1).val = 4 + 0 + (x 1).val by omega)))
  pointwise! [k0_pay25, k0_pay26, k0_pay27, k0_pay28, k0_pay29, k0_pay30, k0_pay31, k0_pay32, kernelRun0_A.sl.v244, kernelRun0_A.sl.v245, kernelRun0_A.sl.v246, kernelRun0_A.sl.v247, kernelRun0_A.sl.v248]

theorem cover6 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_6 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover5 c i arg8 harg8 arg9 harg9 arg10 harg10 arg11 harg11 arg28 x7 x8 x9 x10 o k inb y
  unfold kernelRun0_A.sl.HS2_6
  exact ⟨p, List.mem_cons_of_mem _ hp, h⟩

theorem pieces7 : View.PiecesOf (copies (rows i x7 x8 x9 x10)) (kernelRun0_A.sl.HS2_7 (F := Ideal) c i arg8 harg8 arg9 harg9 arg10 harg10 arg11 harg11 arg28 x7 x8 x9 x10) := by
  unfold kernelRun0_A.sl.HS2_7
  refine ⟨fun x => ?_, pieces6 c i arg8 harg8 arg9 harg9 arg10 harg10 arg11 harg11 arg28 x7 x8 x9 x10⟩
  refine Eq.trans ?_ (copies_at _ 5 0 280 (by decide) x).symm
  have h := read_copies _ _ (pieces6 c i arg8 harg8 arg9 harg9 arg10 harg10 arg11 harg11 arg28 x7 x8 x9 x10) arg28.view 0 5 280 (by decide) (cover6 c i arg8 harg8 arg9 harg9 arg10 harg10 arg11 harg11 arg28 x7 x8 x9 x10 5 280 (by decide))
  refine Eq.trans ?_ ((h x).trans (congrArg (fun n => rows i x7 x8 x9 x10 n (x 2)) (show 0 + 5 + (x 1).val = 5 + 0 + (x 1).val by omega)))
  pointwise! [k0_pay25, k0_pay26, k0_pay27, k0_pay28, k0_pay29, k0_pay30, k0_pay31, k0_pay32, kernelRun0_A.sl.v249, kernelRun0_A.sl.v250]

theorem cover7 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_7 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover6 c i arg8 harg8 arg9 harg9 arg10 harg10 arg11 harg11 arg28 x7 x8 x9 x10 o k inb y
  unfold kernelRun0_A.sl.HS2_7
  exact ⟨p, List.mem_cons_of_mem _ hp, h⟩

theorem pieces8 : View.PiecesOf (copies (rows i x7 x8 x9 x10)) (kernelRun0_A.sl.HS2_8 (F := Ideal) c i arg8 harg8 arg9 harg9 arg10 harg10 arg11 harg11 arg28 x7 x8 x9 x10) := by
  unfold kernelRun0_A.sl.HS2_8
  refine ⟨fun x => ?_, pieces7 c i arg8 harg8 arg9 harg9 arg10 harg10 arg11 harg11 arg28 x7 x8 x9 x10⟩
  refine Eq.trans ?_ (copies_at _ 6 0 280 (by decide) x).symm
  have h := read_copies _ _ (pieces7 c i arg8 harg8 arg9 harg9 arg10 harg10 arg11 harg11 arg28 x7 x8 x9 x10) arg28.view 0 6 280 (by decide) (cover7 c i arg8 harg8 arg9 harg9 arg10 harg10 arg11 harg11 arg28 x7 x8 x9 x10 6 280 (by decide))
  refine Eq.trans ?_ ((h x).trans (congrArg (fun n => rows i x7 x8 x9 x10 n (x 2)) (show 0 + 6 + (x 1).val = 6 + 0 + (x 1).val by omega)))
  pointwise! [k0_pay25, k0_pay26, k0_pay27, k0_pay28, k0_pay29, k0_pay30, k0_pay31, k0_pay32, kernelRun0_A.sl.v254]

theorem cover8 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_8 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover7 c i arg8 harg8 arg9 harg9 arg10 harg10 arg11 harg11 arg28 x7 x8 x9 x10 o k inb y
  unfold kernelRun0_A.sl.HS2_8
  exact ⟨p, List.mem_cons_of_mem _ hp, h⟩

theorem pieces9 : View.PiecesOf (copies (rows i x7 x8 x9 x10)) (kernelRun0_A.sl.HS2_9 (F := Ideal) c i arg8 harg8 arg9 harg9 arg10 harg10 arg11 harg11 arg28 x7 x8 x9 x10) := by
  unfold kernelRun0_A.sl.HS2_9
  refine ⟨fun x => ?_, pieces8 c i arg8 harg8 arg9 harg9 arg10 harg10 arg11 harg11 arg28 x7 x8 x9 x10⟩
  refine Eq.trans ?_ (copies_at _ 7 0 280 (by decide) x).symm
  have h := read_copies _ _ (pieces8 c i arg8 harg8 arg9 harg9 arg10 harg10 arg11 harg11 arg28 x7 x8 x9 x10) arg28.view 0 7 280 (by decide) (cover8 c i arg8 harg8 arg9 harg9 arg10 harg10 arg11 harg11 arg28 x7 x8 x9 x10 7 280 (by decide))
  refine Eq.trans ?_ ((h x).trans (congrArg (fun n => rows i x7 x8 x9 x10 n (x 2)) (show 0 + 7 + (x 1).val = 7 + 0 + (x 1).val by omega)))
  pointwise! [k0_pay25, k0_pay26, k0_pay27, k0_pay28, k0_pay29, k0_pay30, k0_pay31, k0_pay32, kernelRun0_A.sl.v259]

theorem cover9 (o k : ℕ) (inb : ∀ a, (![0, o, 0] : Fin 3 → ℕ) a + (![1, k, 512] : Fin 3 → ℕ) a ≤ S8x288x512.size a)
    (y : (Rect.unit (s := S8x288x512) ![0, o, 0] ![1, k, 512] inb).shape.Idx) :
    ∃ p ∈ kernelRun0_A.sl.HS2_9 (F := Ideal) c i arg8 harg8 arg9 harg9 arg10 harg10 arg11 harg11 arg28 x7 x8 x9 x10, (Rect.unit (s := S8x288x512) ![0, o, 0] ![1, k, 512] inb).toLoadRect.idx y ∈ p.1.set := by
  obtain ⟨p, hp, h⟩ := cover8 c i arg8 harg8 arg9 harg9 arg10 harg10 arg11 harg11 arg28 x7 x8 x9 x10 o k inb y
  unfold kernelRun0_A.sl.HS2_9
  exact ⟨p, List.mem_cons_of_mem _ hp, h⟩

/-- The sum of thirty-one terms, from the first on. -/
def sum31 (f : ℕ → EReal) : EReal := f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

theorem coverAll (b o : ℕ) (hb : b < 8) (inb : ∀ a, (![b, o, 0] : Fin 3 → ℕ) a + (![1, 32, 512] : Fin 3 → ℕ) a ≤ S8x288x512.size a) (ho : b = 0 ∨ o + 32 ≤ 280)
    (y : (Rect.unit (s := S8x288x512) ![b, o, 0] ![1, 32, 512] inb).shape.Idx) :
    ∃ p ∈ kernelRun0_A.sl.HS2_9 (F := Ideal) c i arg8 harg8 arg9 harg9 arg10 harg10 arg11 harg11 arg28 x7 x8 x9 x10, (Rect.unit (s := S8x288x512) ![b, o, 0] ![1, 32, 512] inb).toLoadRect.idx y ∈ p.1.set := by
  have h0 : (y 0).val < 1 := (y 0).isLt
  have h1 : (y 1).val < 32 := (y 1).isLt
  have h2 : (y 2).val < 512 := (y 2).isLt
  have e0 : ((Rect.unit (s := S8x288x512) ![b, o, 0] ![1, 32, 512] inb).toLoadRect.idx y 0).val = b + (y 0).val := ValueKit.rect_emb_unit_val _ _ inb y 0
  have e1 : ((Rect.unit (s := S8x288x512) ![b, o, 0] ![1, 32, 512] inb).toLoadRect.idx y 1).val = o + (y 1).val := ValueKit.rect_emb_unit_val _ _ inb y 1
  have e2 : ((Rect.unit (s := S8x288x512) ![b, o, 0] ![1, 32, 512] inb).toLoadRect.idx y 2).val = 0 + (y 2).val := ValueKit.rect_emb_unit_val _ _ inb y 2
  by_cases hz : b = 0
  · subst hz
    exact cover9 c i arg8 harg8 arg9 harg9 arg10 harg10 arg11 harg11 arg28 x7 x8 x9 x10 o 32 inb y
  · replace ho : o + 32 ≤ 280 := ho.resolve_left hz
    unfold kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3
    match b, hz, hb with
    | 1, _, _ => exact ⟨_, List.mem_cons_of_mem _ (List.mem_cons_of_mem _ (List.mem_cons_of_mem _ (List.mem_cons_of_mem _ (List.mem_cons_of_mem _ (List.mem_cons_of_mem _ (List.mem_cons_self ..)))))), mem_part 1 0 280 (by decide) _ (by omega) (by omega) (by omega)⟩
    | 2, _, _ => exact ⟨_, List.mem_cons_of_mem _ (List.mem_cons_of_mem _ (List.mem_cons_of_mem _ (List.mem_cons_of_mem _ (List.mem_cons_of_mem _ (List.mem_cons_self ..))))), mem_part 2 0 280 (by decide) _ (by omega) (by omega) (by omega)⟩
    | 3, _, _ => exact ⟨_, List.mem_cons_of_mem _ (List.mem_cons_of_mem _ (List.mem_cons_of_mem _ (List.mem_cons_of_mem _ (List.mem_cons_self ..)))), mem_part 3 0 280 (by decide) _ (by omega) (by omega) (by omega)⟩
    | 4, _, _ => exact ⟨_, List.mem_cons_of_mem _ (List.mem_cons_of_mem _ (List.mem_cons_of_mem _ (List.mem_cons_self ..))), mem_part 4 0 280 (by decide) _ (by omega) (by omega) (by omega)⟩
    | 5, _, _ => exact ⟨_, List.mem_cons_of_mem _ (List.mem_cons_of_mem _ (List.mem_cons_self ..)), mem_part 5 0 280 (by decide) _ (by omega) (by omega) (by omega)⟩
    | 6, _, _ => exact ⟨_, List.mem_cons_of_mem _ (List.mem_cons_self ..), mem_part 6 0 280 (by decide) _ (by omega) (by omega) (by omega)⟩
    | 7, _, _ => exact ⟨_, List.mem_cons_self .., mem_part 7 0 280 (by decide) _ (by omega) (by omega) (by omega)⟩

/-- A load of rows of the copies, once all eight are written. -/
theorem tap (b o : ℕ) (hb : b < 8) (inb : ∀ a, (![b, o, 0] : Fin 3 → ℕ) a + (![1, 32, 512] : Fin 3 → ℕ) a ≤ S8x288x512.size a) (ho : b = 0 ∨ o + 32 ≤ 280)
    (x : (Rect.unit (s := S8x288x512) ![b, o, 0] ![1, 32, 512] inb).shape.Idx) :
    arg28.view.readCov (kernelRun0_A.sl.HS2_9 (F := Ideal) c i arg8 harg8 arg9 harg9 arg10 harg10 arg11 harg11 arg28 x7 x8 x9 x10) (Rect.unit (s := S8x288x512) ![b, o, 0] ![1, 32, 512] inb).toLoadRect x
      = rows i x7 x8 x9 x10 (b + o + (x 1).val) (x 2) :=
  read_copies _ _ (pieces9 c i arg8 harg8 arg9 harg9 arg10 harg10 arg11 harg11 arg28 x7 x8 x9 x10) arg28.view b o 32 inb (coverAll c i arg8 harg8 arg9 harg9 arg10 harg10 arg11 harg11 arg28 x7 x8 x9 x10 b o hb inb ho) x

theorem weight (k : ℕ) (inb : ∀ a, (![k, 0] : Fin 2 → ℕ) a + (![1, 512] : Fin 2 → ℕ) a ≤ S31x512.size a) (hk : k < 31)
    (x : (Rect.unit (s := S31x512) ![k, 0] ![1, 512] inb).shape.Idx) :
    View.readAt (Elt Ideal) arg17.view (Rect.unit (s := S31x512) ![k, 0] ![1, 512] inb).toLoadRect (harg17.unread x16) x = x16 (ix2 ⟨k, hk⟩ (x 1)) := by
  rw [Memref.IsWhole.readAt_unread]
  have h0 : (x 0).val < 1 := (x 0).isLt
  refine congrArg x16 (funext fun a => Fin.ext ?_)
  match a with
  | ⟨0, _⟩ =>
    have e : ((Rect.unit (s := S31x512) ![k, 0] ![1, 512] inb).toLoadRect.idx x 0).val = k + (x 0).val := ValueKit.rect_emb_unit_val _ _ inb x 0
    exact e.trans (by show k + (x 0).val = k; omega)
  | ⟨1, _⟩ =>
    have e : ((Rect.unit (s := S31x512) ![k, 0] ![1, 512] inb).toLoadRect.idx x 1).val = 0 + (x 1).val := ValueKit.rect_emb_unit_val _ _ inb x 1
    exact e.trans (Nat.zero_add _)

/-- The convolution's rows of a block, from the gated rows and the weights. -/
def conv (f : ℕ → Fin 512 → EReal) (w : Vec Ideal S31x512 .f32) : Vec Ideal S256x512 .f32 :=
  fun y => sum31 fun k => (if h : k < 31 then w (ix2 ⟨k, h⟩ (y 1)) else 0) * f (k + 2 + (y 0).val) (y 1)

theorem term (k b o : ℕ) (hk : k < 31) (inw : ∀ a, (![k, 0] : Fin 2 → ℕ) a + (![1, 512] : Fin 2 → ℕ) a ≤ S31x512.size a) (hb : b < 8)
    (inb : ∀ a, (![b, o, 0] : Fin 3 → ℕ) a + (![1, 32, 512] : Fin 3 → ℕ) a ≤ S8x288x512.size a) (ho : b = 0 ∨ o + 32 ≤ 280) (r : Fin 32) (q : Fin 512) (n : ℕ) (hn : b + o + r.val = k + 2 + n) :
    View.readAt (Elt Ideal) arg17.view (Rect.unit (s := S31x512) ![k, 0] ![1, 512] inw).toLoadRect (harg17.unread x16) (ix2 (0 : Fin 1) q)
      * arg28.view.readCov (kernelRun0_A.sl.HS2_9 (F := Ideal) c i arg8 harg8 arg9 harg9 arg10 harg10 arg11 harg11 arg28 x7 x8 x9 x10) (Rect.unit (s := S8x288x512) ![b, o, 0] ![1, 32, 512] inb).toLoadRect (ix3 (0 : Fin 1) r q)
      = (if h : k < 31 then x16 (ix2 ⟨k, h⟩ q) else 0) * rows i x7 x8 x9 x10 (k + 2 + n) q := by
  rw [dif_pos hk, ← hn]
  exact congrArg₂ (· * ·) (weight arg17 harg17 x16 k inw hk (ix2 (0 : Fin 1) q)) (tap c i arg8 harg8 arg9 harg9 arg10 harg10 arg11 harg11 arg28 x7 x8 x9 x10 b o hb inb ho (ix3 (0 : Fin 1) r q))

theorem chunk0 (x : S32x512.Idx) (n : Fin 256) (hn : n.val = 0 + (x 0).val) : (k0_pay43 (F := Ideal)
      (kernelRun0_A.sl.r_21 (F := Ideal) c i arg8 harg8 arg9 harg9 arg10 harg10 arg11 harg11 arg17 harg17 arg28 x7 x8 x9 x10 x16)
      (View.readAt (Elt Ideal) arg17.view (Rect.unit (s := S31x512) ![30, 0] S1x512.size inb_S31x512_S1x512_30_0).toLoadRect
        (harg17.unread x16))
      (kernelRun0_A.sl.v444 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_21 kernelRun0_A.sl.r_18 kernelRun0_A.sl.r_16 kernelRun0_A.sl.r_13 kernelRun0_A.sl.r_11 kernelRun0_A.sl.r_9 kernelRun0_A.sl.v265 kernelRun0_A.sl.v270 kernelRun0_A.sl.r_10 kernelRun0_A.sl.v276 kernelRun0_A.sl.v282 kernelRun0_A.sl.v288 kernelRun0_A.sl.v294 kernelRun0_A.sl.v300 kernelRun0_A.sl.v306 kernelRun0_A.sl.r_12 kernelRun0_A.sl.v312 kernelRun0_A.sl.v318 kernelRun0_A.sl.v324 kernelRun0_A.sl.v330 kernelRun0_A.sl.v336 kernelRun0_A.sl.r_14 kernelRun0_A.sl.v342 kernelRun0_A.sl.r_15 kernelRun0_A.sl.v348 kernelRun0_A.sl.v354 kernelRun0_A.sl.v360 kernelRun0_A.sl.v366 kernelRun0_A.sl.v372 kernelRun0_A.sl.r_17 kernelRun0_A.sl.v378 kernelRun0_A.sl.v384 kernelRun0_A.sl.v390 kernelRun0_A.sl.v396 kernelRun0_A.sl.v402 kernelRun0_A.sl.r_19 kernelRun0_A.sl.r_20 kernelRun0_A.sl.v408 kernelRun0_A.sl.v414 kernelRun0_A.sl.v420 kernelRun0_A.sl.v426 kernelRun0_A.sl.v432 kernelRun0_A.sl.v438 kernelRun0_A.sl.v444
  pointwise [k0_pay33, k0_pay34, k0_pay35, k0_pay36, k0_pay37, k0_pay38, k0_pay39, k0_pay40, k0_pay41, k0_pay42, k0_pay43]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 0 (by decide) _ (by decide) _ (by decide) (x 0) (x 1) n.val (by omega)))
    (term c i arg8 harg8 arg9 harg9 arg10 harg10 arg11 harg11 arg17 harg17 arg28 x7 x8 x9 x10 x16 1 3 0 (by decide) _ (by decide) _ (by decide) (x 0) (x 1) n.val (by omega)))
    (term c i arg8 harg8 arg9 harg9 arg10 harg10 arg11 harg11 arg17 harg17 arg28 x7 x8 x9 x10 x16 2 4 0 (by decide) _ (by decide) _ (by decide) (x 0) (x 1) n.val (by omega)))
    (term c i arg8 harg8 arg9 harg9 arg10 harg10 arg11 harg11 arg17 harg17 arg28 x7 x8 x9 x10 x16 3 5 0 (by decide) _ (by decide) _ (by decide) (x 0) (x 1) n.val (by omega)))
    (term c i arg8 harg8 arg9 harg9 arg10 harg10 arg11 harg11 arg17 harg17 arg28 x7 x8 x9 x10 x16 4 6 0 (by decide) _ (by decide) _ (by decide) (x 0) (x 1) n.val (by omega)))
    (term c i arg8 harg8 arg9 harg9 arg10 harg10 arg11 harg11 arg17 harg17 arg28 x7 x8 x9 x10 x16 5 7 0 (by decide) _ (by decide) _ (by decide) (x 0) (x 1) n.val (by omega)))
    (term c i arg8 harg8 arg9 harg9 arg10 harg10 arg11 harg11 arg17 harg17 arg28 x7 x8 x9 x10 x16 6 0 8 (by decide) _ (by decide) _ (by decide) (x 0) (x 1) n.val (by omega)))
    (term c i arg8 harg8 arg9 harg9 arg10 harg10 arg11 harg11 arg17 harg17 arg28 x7 x8 x9 x10 x16 7 1 8 (by decide) _ (by decide) _ (by decide) (x 0) (x 1) n.val (by omega)))
    (term c i arg8 harg8 arg9 harg9 arg10 harg10 arg11 harg11 arg17 harg17 arg28 x7 x8 x9 x10 x16 8 2 8 (by decide) _ (by decide) _ (by decide) (x 0) (x 1) n.val (by omega)))
    (term c i arg8 harg8 arg9 harg9 arg10 harg10 arg11 harg11 arg17 harg17 arg28 x7 x8 x9 x10 x16 9 3 8 (by decide) _ (by decide) _ (by decide) (x 0) (x 1) n.val (by omega)))
    (term c i arg8 harg8 arg9 harg9 arg10 harg10 arg11 harg11 arg17 harg17 arg28 x7 x8 x9 x10 x16 10 4 8 (by decide) _ (by decide) _ (by decide) (x 0) (x 1) n.val (by omega)))
    (term c i arg8 harg8 arg9 harg9 arg10 harg10 arg11 harg11 arg17 harg17 arg28 x7 x8 x9 x10 x16 11 5 8 (by decide) _ (by decide) _ (by decide) (x 0) (x 1) n.val (by omega)))
    (term c i arg8 harg8 arg9 harg9 arg10 harg10 arg11 harg11 arg17 harg17 arg28 x7 x8 x9 x10 x16 12 6 8 (by decide) _ (by decide) _ (by decide) (x 0) (x 1) n.val (by omega)))
    (term c i arg8 harg8 arg9 harg9 arg10 harg10 arg11 harg11 arg17 harg17 arg28 x7 x8 x9 x10 x16 13 7 8 (by decide) _ (by decide) _ (by decide) (x 0) (x 1) n.val (by omega)))
    (term c i arg8 harg8 arg9 harg9 arg10 harg10 arg11 harg11 arg17 harg17 arg28 x7 x8 x9 x10 x16 14 0 16 (by decide) _ (by decide) _ (by decide) (x 0) (x 1) n.val (by omega)))
    (term c i arg8 harg8 arg9 harg9 arg10 harg10 arg11 harg11 arg17 harg17 arg28 x7 x8 x9 x10 x16 15 1 16 (by decide) _ (by decide) _ (by decide) (x 0) (x 1) n.val (by omega)))
    (term c i arg8 harg8 arg9 harg9 arg10 harg10 arg11 harg11 arg17 harg17 arg28 x7 x8 x9 x10 x16 16 2 16 (by decide) _ (by decide) _ (by decide) (x 0) (x 1) n.val (by omega)))
    (term c i arg8 harg8 arg9 harg9 arg10 harg10 arg11 harg11 arg17 harg17 arg28 x7 x8 x9 x10 x16 17 3 16 (by decide) _ (by decide) _ (by decide) (x 0) (x 1) n.val (by omega)))
    (term c i arg8 harg8 arg9 harg9 arg10 harg10 arg11 harg11 arg17 harg17 arg28 x7 x8 x9 x10 x16 18 4 16 (by decide) _ (by decide) _ (by decide) (x 0) (x 1) n.val (by omega)))
    (term c i arg8 harg8 arg9 harg9 arg10 harg10 arg11 harg11 arg17 harg17 arg28 x7 x8 x9 x10 x16 19 5 16 (by decide) _ (by decide) _ (by decide) (x 0) (x 1) n.val (by omega)))
    (term c i arg8 harg8 arg9 harg9 arg10 harg10 arg11 harg11 arg17 harg17 arg28 x7 x8 x9 x10 x16 20 6 16 (by decide) _ (by decide) _ (by decide) (x 0) (x 1) n.val (by omega)))
    (term c i arg8 harg8 arg9 harg9 arg10 harg10 arg11 harg11 arg17 harg17 arg28 x7 x8 x9 x10 x16 21 7 16 (by decide) _ (by decide) _ (by decide) (x 0) (x 1) n.val (by omega)))
    (term c i arg8 harg8 arg9 harg9 arg10 harg10 arg11 harg11 arg17 harg17 arg28 x7 x8 x9 x10 x16 22 0 24 (by decide) _ (by decide) _ (by decide) (x 0) (x 1) n.val (by omega)))
    (term c i arg8 harg8 arg9 harg9 arg10 harg10 arg11 harg11 arg17 harg17 arg28 x7 x8 x9 x10 x16 23 1 24 (by decide) _ (by decide) _ (by decide) (x 0) (x 1) n.val (by omega)))
    (term c i arg8 harg8 arg9 harg9 arg10 harg10 arg11 harg11 arg17 harg17 arg28 x7 x8 x9 x10 x16 24 2 24 (by decide) _ (by decide) _ (by decide) (x 0) (x 1) n.val (by omega)))
    (term c i arg8 harg8 arg9 harg9 arg10 harg10 arg11 harg11 arg17 harg17 arg28 x7 x8 x9 x10 x16 25 3 24 (by decide) _ (by decide) _ (by decide) (x 0) (x 1) n.val (by omega)))
    (term c i arg8 harg8 arg9 harg9 arg10 harg10 arg11 harg11 arg17 harg17 arg28 x7 x8 x9 x10 x16 26 4 24 (by decide) _ (by decide) _ (by decide) (x 0) (x 1) n.val (by omega)))
    (term c i arg8 harg8 arg9 harg9 arg10 harg10 arg11 harg11 arg17 harg17 arg28 x7 x8 x9 x10 x16 27 5 24 (by decide) _ (by decide) _ (by decide) (x 0) (x 1) n.val (by omega)))
    (term c i arg8 harg8 arg9 harg9 arg10 harg10 arg11 harg11 arg17 harg17 arg28 x7 x8 x9 x10 x16 28 6 24 (by decide) _ (by decide) _ (by decide) (x 0) (x 1) n.val (by omega)))
    (term c i arg8 harg8 arg9 harg9 arg10 harg10 arg11 harg11 arg17 harg17 arg28 x7 x8 x9 x10 x16 29 7 24 (by decide) _ (by decide) _ (by decide) (x 0) (x 1) n.val (by omega)))
    (term c i arg8 harg8 arg9 harg9 arg10 harg10 arg11 harg11 arg17 harg17 arg28 x7 x8 x9 x10 x16 30 0 32 (by decide) _ (by decide) _ (by decide) (x 0) (x 1) n.val (by omega))

theorem chunk1 (x : S32x512.Idx) (n : Fin 256) (hn : n.val = 32 + (x 0).val) : (k0_pay52 (F := Ideal)
      (kernelRun0_A.sl.r_32 (F := Ideal) c i arg8 harg8 arg9 harg9 arg10 harg10 arg11 harg11 arg17 harg17 arg28 x7 x8 x9 x10 x16)
      (View.readAt (Elt Ideal) arg17.view (Rect.unit (s := S31x512) ![26, 0] S1x512.size inb_S31x512_S1x512_26_0).toLoadRect
        (harg17.unread x16))
      (kernelRun0_A.sl.v606 (F := Ideal) c i arg8 harg8 arg9 harg9 arg10 harg10 arg11 harg11 arg28 x7 x8 x9 x10)
      (View.readAt (Elt Ideal) arg17.view (Rect.unit (s := S31x512) ![27, 0] S1x512.size inb_S31x512_S1x512_27_0).toLoadRect
        (harg17.unread x16))
      (kernelRun0_A.sl.v612 (F := Ideal) c i arg8 harg8 arg9 harg9 arg10 harg10 arg11 harg11 arg28 x7 x8 x9 x10)
      (View.readAt (Elt Ideal) arg17.view (Rect.unit (s := S31x512) ![28, 0] S1x512.size inb_S31x512_S1x512_28_0).toLoadRect
        (harg17.unread x16))
      (kernelRun0_A.sl.v618 (F := Ideal) c i arg8 harg8 arg9 harg9 arg10 harg10 arg11 harg11 arg28 x7 x8 x9 x10)
      (View.readAt (Elt Ideal) arg17.view (Rect.unit (s := S31x512) ![29, 0] S1x512.size inb_S31x512_S1x512_29_0).toLoadRect
        (harg17.unread x16))
      (kernelRun0_A.sl.v624 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v630 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_32 kernelRun0_A.sl.r_29 kernelRun0_A.sl.r_27 kernelRun0_A.sl.r_24 kernelRun0_A.sl.r_22 kernelRun0_A.sl.v451 kernelRun0_A.sl.v456 kernelRun0_A.sl.v462 kernelRun0_A.sl.v468 kernelRun0_A.sl.r_23 kernelRun0_A.sl.v474 kernelRun0_A.sl.v480 kernelRun0_A.sl.v486 kernelRun0_A.sl.v492 kernelRun0_A.sl.v498 kernelRun0_A.sl.r_25 kernelRun0_A.sl.v504 kernelRun0_A.sl.r_26 kernelRun0_A.sl.v510 kernelRun0_A.sl.v516 kernelRun0_A.sl.v522 kernelRun0_A.sl.v528 kernelRun0_A.sl.v534 kernelRun0_A.sl.r_28 kernelRun0_A.sl.v540 kernelRun0_A.sl.v546 kernelRun0_A.sl.v552 kernelRun0_A.sl.v558 kernelRun0_A.sl.v564 kernelRun0_A.sl.r_30 kernelRun0_A.sl.r_31 kernelRun0_A.sl.v570 kernelRun0_A.sl.v576 kernelRun0_A.sl.v582 kernelRun0_A.sl.v588 kernelRun0_A.sl.v594 kernelRun0_A.sl.v600 kernelRun0_A.sl.v606 kernelRun0_A.sl.v612 kernelRun0_A.sl.v618 kernelRun0_A.sl.v624 kernelRun0_A.sl.v630
  pointwise [k0_pay44, k0_pay45, k0_pay46, k0_pay47, k0_pay48, k0_pay49, k0_pay50, k0_pay51, k0_pay52]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 32 (by decide) _ (by decide) _ (by decide) (x 0) (x 1) n.val (by omega)))
    (term c i arg8 harg8 arg9 harg9 arg10 harg10 arg11 harg11 arg17 harg17 arg28 x7 x8 x9 x10 x16 1 3 32 (by decide) _ (by decide) _ (by decide) (x 0) (x 1) n.val (by omega)))
    (term c i arg8 harg8 arg9 harg9 arg10 harg10 arg11 harg11 arg17 harg17 arg28 x7 x8 x9 x10 x16 2 4 32 (by decide) _ (by decide) _ (by decide) (x 0) (x 1) n.val (by omega)))
    (term c i arg8 harg8 arg9 harg9 arg10 harg10 arg11 harg11 arg17 harg17 arg28 x7 x8 x9 x10 x16 3 5 32 (by decide) _ (by decide) _ (by decide) (x 0) (x 1) n.val (by omega)))
    (term c i arg8 harg8 arg9 harg9 arg10 harg10 arg11 harg11 arg17 harg17 arg28 x7 x8 x9 x10 x16 4 6 32 (by decide) _ (by decide) _ (by decide) (x 0) (x 1) n.val (by omega)))
    (term c i arg8 harg8 arg9 harg9 arg10 harg10 arg11 harg11 arg17 harg17 arg28 x7 x8 x9 x10 x16 5 7 32 (by decide) _ (by decide) _ (by decide) (x 0) (x 1) n.val (by omega)))
    (term c i arg8 harg8 arg9 harg9 arg10 harg10 arg11 harg11 arg17 harg17 arg28 x7 x8 x9 x10 x16 6 0 40 (by decide) _ (by decide) _ (by decide) (x 0) (x 1) n.val (by omega)))
    (term c i arg8 harg8 arg9 harg9 arg10 harg10 arg11 harg11 arg17 harg17 arg28 x7 x8 x9 x10 x16 7 1 40 (by decide) _ (by decide) _ (by decide) (x 0) (x 1) n.val (by omega)))
    (term c i arg8 harg8 arg9 harg9 arg10 harg10 arg11 harg11 arg17 harg17 arg28 x7 x8 x9 x10 x16 8 2 40 (by decide) _ (by decide) _ (by decide) (x 0) (x 1) n.val (by omega)))
    (term c i arg8 harg8 arg9 harg9 arg10 harg10 arg11 harg11 arg17 harg17 arg28 x7 x8 x9 x10 x16 9 3 40 (by decide) _ (by decide) _ (by decide) (x 0) (x 1) n.val (by omega)))
    (term c i arg8 harg8 arg9 harg9 arg10 harg10 arg11 harg11 arg17 harg17 arg28 x7 x8 x9 x10 x16 10 4 40 (by decide) _ (by decide) _ (by decide) (x 0) (x 1) n.val (by omega)))
    (term c i arg8 harg8 arg9 harg9 arg10 harg10 arg11 harg11 arg17 harg17 arg28 x7 x8 x9 x10 x16 11 5 40 (by decide) _ (by decide) _ (by decide) (x 0) (x 1) n.val (by omega)))
    (term c i arg8 harg8 arg9 harg9 arg10 harg10 arg11 harg11 arg17 harg17 arg28 x7 x8 x9 x10 x16 12 6 40 (by decide) _ (by decide) _ (by decide) (x 0) (x 1) n.val (by omega)))
    (term c i arg8 harg8 arg9 harg9 arg10 harg10 arg11 harg11 arg17 harg17 arg28 x7 x8 x9 x10 x16 13 7 40 (by decide) _ (by decide) _ (by decide) (x 0) (x 1) n.val (by omega)))
    (term c i arg8 harg8 arg9 harg9 arg10 harg10 arg11 harg11 arg17 harg17 arg28 x7 x8 x9 x10 x16 14 0 48 (by decide) _ (by decide) _ (by decide) (x 0) (x 1) n.val (by omega)))
    (term c i arg8 harg8 arg9 harg9 arg10 harg10 arg11 harg11 arg17 harg17 arg28 x7 x8 x9 x10 x16 15 1 48 (by decide) _ (by decide) _ (by decide) (x 0) (x 1) n.val (by omega)))
    (term c i arg8 harg8 arg9 harg9 arg10 harg10 arg11 harg11 arg17 harg17 arg28 x7 x8 x9 x10 x16 16 2 48 (by decide) _ (by decide) _ (by decide) (x 0) (x 1) n.val (by omega)))
    (term c i arg8 harg8 arg9 harg9 arg10 harg10 arg11 harg11 arg17 harg17 arg28 x7 x8 x9 x10 x16 17 3 48 (by decide) _ (by decide) _ (by decide) (x 0) (x 1) n.val (by omega)))
    (term c i arg8 harg8 arg9 harg9 arg10 harg10 arg11 harg11 arg17 harg17 arg28 x7 x8 x9 x10 x16 18 4 48 (by decide) _ (by decide) _ (by decide) (x 0) (x 1) n.val (by omega)))
    (term c i arg8 harg8 arg9 harg9 arg10 harg10 arg11 harg11 arg17 harg17 arg28 x7 x8 x9 x10 x16 19 5 48 (by decide) _ (by decide) _ (by decide) (x 0) (x 1) n.val (by omega)))
    (term c i arg8 harg8 arg9 harg9 arg10 harg10 arg11 harg11 arg17 harg17 arg28 x7 x8 x9 x10 x16 20 6 48 (by decide) _ (by decide) _ (by decide) (x 0) (x 1) n.val (by omega)))
    (term c i arg8 harg8 arg9 harg9 arg10 harg10 arg11 harg11 arg17 harg17 arg28 x7 x8 x9 x10 x16 21 7 48 (by decide) _ (by decide) _ (by decide) (x 0) (x 1) n.val (by omega)))
    (term c i arg8 harg8 arg9 harg9 arg10 harg10 arg11 harg11 arg17 harg17 arg28 x7 x8 x9 x10 x16 22 0 56 (by decide) _ (by decide) _ (by decide) (x 0) (x 1) n.val (by omega)))
    (term c i arg8 harg8 arg9 harg9 arg10 harg10 arg11 harg11 arg17 harg17 arg28 x7 x8 x9 x10 x16 23 1 56 (by decide) _ (by decide) _ (by decide) (x 0) (x 1) n.val (by omega)))
    (term c i arg8 harg8 arg9 harg9 arg10 harg10 arg11 harg11 arg17 harg17 arg28 x7 x8 x9 x10 x16 24 2 56 (by decide) _ (by decide) _ (by decide) (x 0) (x 1) n.val (by omega)))
    (term c i arg8 harg8 arg9 harg9 arg10 harg10 arg11 harg11 arg17 harg17 arg28 x7 x8 x9 x10 x16 25 3 56 (by decide) _ (by decide) _ (by decide) (x 0) (x 1) n.val (by omega)))
    (term c i arg8 harg8 arg9 harg9 arg10 harg10 arg11 harg11 arg17 harg17 arg28 x7 x8 x9 x10 x16 26 4 56 (by decide) _ (by decide) _ (by decide) (x 0) (x 1) n.val (by omega)))
    (term c i arg8 harg8 arg9 harg9 arg10 harg10 arg11 harg11 arg17 harg17 arg28 x7 x8 x9 x10 x16 27 5 56 (by decide) _ (by decide) _ (by decide) (x 0) (x 1) n.val (by omega)))
    (term c i arg8 harg8 arg9 harg9 arg10 harg10 arg11 harg11 arg17 harg17 arg28 x7 x8 x9 x10 x16 28 6 56 (by decide) _ (by decide) _ (by decide) (x 0) (x 1) n.val (by omega)))
    (term c i arg8 harg8 arg9 harg9 arg10 harg10 arg11 harg11 arg17 harg17 arg28 x7 x8 x9 x10 x16 29 7 56 (by decide) _ (by decide) _ (by decide) (x 0) (x 1) n.val (by omega)))
    (term c i arg8 harg8 arg9 harg9 arg10 harg10 arg11 harg11 arg17 harg17 arg28 x7 x8 x9 x10 x16 30 0 64 (by decide) _ (by decide) _ (by decide) (x 0) (x 1) n.val (by omega))

theorem chunk2 (x : S32x512.Idx) (n : Fin 256) (hn : n.val = 64 + (x 0).val) : (k0_pay61 (F := Ideal)
      (kernelRun0_A.sl.r_43 (F := Ideal) c i arg8 harg8 arg9 harg9 arg10 harg10 arg11 harg11 arg17 harg17 arg28 x7 x8 x9 x10 x16)
      (kernelRun0_A.sl.r_44 (F := Ideal) c arg17 harg17 x16)
      (kernelRun0_A.sl.v798 (F := Ideal) c i arg8 harg8 arg9 harg9 arg10 harg10 arg11 harg11 arg28 x7 x8 x9 x10)
      (View.readAt (Elt Ideal) arg17.view (Rect.unit (s := S31x512) ![28, 0] S1x512.size inb_S31x512_S1x512_28_0).toLoadRect
        (harg17.unread x16))
      (kernelRun0_A.sl.v804 (F := Ideal) c i arg8 harg8 arg9 harg9 arg10 harg10 arg11 harg11 arg28 x7 x8 x9 x10)
      (View.readAt (Elt Ideal) arg17.view (Rect.unit (s := S31x512) ![29, 0] S1x512.size inb_S31x512_S1x512_29_0).toLoadRect
        (harg17.unread x16))
      (kernelRun0_A.sl.v810 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v816 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_43 kernelRun0_A.sl.r_42 kernelRun0_A.sl.r_39 kernelRun0_A.sl.r_37 kernelRun0_A.sl.r_34 kernelRun0_A.sl.r_33 kernelRun0_A.sl.v637 kernelRun0_A.sl.v642 kernelRun0_A.sl.v648 kernelRun0_A.sl.v654 kernelRun0_A.sl.v660 kernelRun0_A.sl.r_35 kernelRun0_A.sl.v666 kernelRun0_A.sl.r_36 kernelRun0_A.sl.v672 kernelRun0_A.sl.v678 kernelRun0_A.sl.v684 kernelRun0_A.sl.v690 kernelRun0_A.sl.v696 kernelRun0_A.sl.r_38 kernelRun0_A.sl.v702 kernelRun0_A.sl.v708 kernelRun0_A.sl.v714 kernelRun0_A.sl.v720 kernelRun0_A.sl.v726 kernelRun0_A.sl.r_40 kernelRun0_A.sl.r_41 kernelRun0_A.sl.v732 kernelRun0_A.sl.v738 kernelRun0_A.sl.v744 kernelRun0_A.sl.v750 kernelRun0_A.sl.v756 kernelRun0_A.sl.v762 kernelRun0_A.sl.v768 kernelRun0_A.sl.v774 kernelRun0_A.sl.v780 kernelRun0_A.sl.v786 kernelRun0_A.sl.v792 kernelRun0_A.sl.r_44 kernelRun0_A.sl.v798 kernelRun0_A.sl.v804 kernelRun0_A.sl.v810 kernelRun0_A.sl.v816
  pointwise [k0_pay53, k0_pay54, k0_pay55, k0_pay56, k0_pay57, k0_pay58, k0_pay59, k0_pay60, k0_pay61]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 64 (by decide) _ (by decide) _ (by decide) (x 0) (x 1) n.val (by omega)))
    (term c i arg8 harg8 arg9 harg9 arg10 harg10 arg11 harg11 arg17 harg17 arg28 x7 x8 x9 x10 x16 1 3 64 (by decide) _ (by decide) _ (by decide) (x 0) (x 1) n.val (by omega)))
    (term c i arg8 harg8 arg9 harg9 arg10 harg10 arg11 harg11 arg17 harg17 arg28 x7 x8 x9 x10 x16 2 4 64 (by decide) _ (by decide) _ (by decide) (x 0) (x 1) n.val (by omega)))
    (term c i arg8 harg8 arg9 harg9 arg10 harg10 arg11 harg11 arg17 harg17 arg28 x7 x8 x9 x10 x16 3 5 64 (by decide) _ (by decide) _ (by decide) (x 0) (x 1) n.val (by omega)))
    (term c i arg8 harg8 arg9 harg9 arg10 harg10 arg11 harg11 arg17 harg17 arg28 x7 x8 x9 x10 x16 4 6 64 (by decide) _ (by decide) _ (by decide) (x 0) (x 1) n.val (by omega)))
    (term c i arg8 harg8 arg9 harg9 arg10 harg10 arg11 harg11 arg17 harg17 arg28 x7 x8 x9 x10 x16 5 7 64 (by decide) _ (by decide) _ (by decide) (x 0) (x 1) n.val (by omega)))
    (term c i arg8 harg8 arg9 harg9 arg10 harg10 arg11 harg11 arg17 harg17 arg28 x7 x8 x9 x10 x16 6 0 72 (by decide) _ (by decide) _ (by decide) (x 0) (x 1) n.val (by omega)))
    (term c i arg8 harg8 arg9 harg9 arg10 harg10 arg11 harg11 arg17 harg17 arg28 x7 x8 x9 x10 x16 7 1 72 (by decide) _ (by decide) _ (by decide) (x 0) (x 1) n.val (by omega)))
    (term c i arg8 harg8 arg9 harg9 arg10 harg10 arg11 harg11 arg17 harg17 arg28 x7 x8 x9 x10 x16 8 2 72 (by decide) _ (by decide) _ (by decide) (x 0) (x 1) n.val (by omega)))
    (term c i arg8 harg8 arg9 harg9 arg10 harg10 arg11 harg11 arg17 harg17 arg28 x7 x8 x9 x10 x16 9 3 72 (by decide) _ (by decide) _ (by decide) (x 0) (x 1) n.val (by omega)))
    (term c i arg8 harg8 arg9 harg9 arg10 harg10 arg11 harg11 arg17 harg17 arg28 x7 x8 x9 x10 x16 10 4 72 (by decide) _ (by decide) _ (by decide) (x 0) (x 1) n.val (by omega)))
    (term c i arg8 harg8 arg9 harg9 arg10 harg10 arg11 harg11 arg17 harg17 arg28 x7 x8 x9 x10 x16 11 5 72 (by decide) _ (by decide) _ (by decide) (x 0) (x 1) n.val (by omega)))
    (term c i arg8 harg8 arg9 harg9 arg10 harg10 arg11 harg11 arg17 harg17 arg28 x7 x8 x9 x10 x16 12 6 72 (by decide) _ (by decide) _ (by decide) (x 0) (x 1) n.val (by omega)))
    (term c i arg8 harg8 arg9 harg9 arg10 harg10 arg11 harg11 arg17 harg17 arg28 x7 x8 x9 x10 x16 13 7 72 (by decide) _ (by decide) _ (by decide) (x 0) (x 1) n.val (by omega)))
    (term c i arg8 harg8 arg9 harg9 arg10 harg10 arg11 harg11 arg17 harg17 arg28 x7 x8 x9 x10 x16 14 0 80 (by decide) _ (by decide) _ (by decide) (x 0) (x 1) n.val (by omega)))
    (term c i arg8 harg8 arg9 harg9 arg10 harg10 arg11 harg11 arg17 harg17 arg28 x7 x8 x9 x10 x16 15 1 80 (by decide) _ (by decide) _ (by decide) (x 0) (x 1) n.val (by omega)))
    (term c i arg8 harg8 arg9 harg9 arg10 harg10 arg11 harg11 arg17 harg17 arg28 x7 x8 x9 x10 x16 16 2 80 (by decide) _ (by decide) _ (by decide) (x 0) (x 1) n.val (by omega)))
    (term c i arg8 harg8 arg9 harg9 arg10 harg10 arg11 harg11 arg17 harg17 arg28 x7 x8 x9 x10 x16 17 3 80 (by decide) _ (by decide) _ (by decide) (x 0) (x 1) n.val (by omega)))
    (term c i arg8 harg8 arg9 harg9 arg10 harg10 arg11 harg11 arg17 harg17 arg28 x7 x8 x9 x10 x16 18 4 80 (by decide) _ (by decide) _ (by decide) (x 0) (x 1) n.val (by omega)))
    (term c i arg8 harg8 arg9 harg9 arg10 harg10 arg11 harg11 arg17 harg17 arg28 x7 x8 x9 x10 x16 19 5 80 (by decide) _ (by decide) _ (by decide) (x 0) (x 1) n.val (by omega)))
    (term c i arg8 harg8 arg9 harg9 arg10 harg10 arg11 harg11 arg17 harg17 arg28 x7 x8 x9 x10 x16 20 6 80 (by decide) _ (by decide) _ (by decide) (x 0) (x 1) n.val (by omega)))
    (term c i arg8 harg8 arg9 harg9 arg10 harg10 arg11 harg11 arg17 harg17 arg28 x7 x8 x9 x10 x16 21 7 80 (by decide) _ (by decide) _ (by decide) (x 0) (x 1) n.val (by omega)))
    (term c i arg8 harg8 arg9 harg9 arg10 harg10 arg11 harg11 arg17 harg17 arg28 x7 x8 x9 x10 x16 22 0 88 (by decide) _ (by decide) _ (by decide) (x 0) (x 1) n.val (by omega)))
    (term c i arg8 harg8 arg9 harg9 arg10 harg10 arg11 harg11 arg17 harg17 arg28 x7 x8 x9 x10 x16 23 1 88 (by decide) _ (by decide) _ (by decide) (x 0) (x 1) n.val (by omega)))
    (term c i arg8 harg8 arg9 harg9 arg10 harg10 arg11 harg11 arg17 harg17 arg28 x7 x8 x9 x10 x16 24 2 88 (by decide) _ (by decide) _ (by decide) (x 0) (x 1) n.val (by omega)))
    (term c i arg8 harg8 arg9 harg9 arg10 harg10 arg11 harg11 arg17 harg17 arg28 x7 x8 x9 x10 x16 25 3 88 (by decide) _ (by decide) _ (by decide) (x 0) (x 1) n.val (by omega)))
    (term c i arg8 harg8 arg9 harg9 arg10 harg10 arg11 harg11 arg17 harg17 arg28 x7 x8 x9 x10 x16 26 4 88 (by decide) _ (by decide) _ (by decide) (x 0) (x 1) n.val (by omega)))
    (term c i arg8 harg8 arg9 harg9 arg10 harg10 arg11 harg11 arg17 harg17 arg28 x7 x8 x9 x10 x16 27 5 88 (by decide) _ (by decide) _ (by decide) (x 0) (x 1) n.val (by omega)))
    (term c i arg8 harg8 arg9 harg9 arg10 harg10 arg11 harg11 arg17 harg17 arg28 x7 x8 x9 x10 x16 28 6 88 (by decide) _ (by decide) _ (by decide) (x 0) (x 1) n.val (by omega)))
    (term c i arg8 harg8 arg9 harg9 arg10 harg10 arg11 harg11 arg17 harg17 arg28 x7 x8 x9 x10 x16 29 7 88 (by decide) _ (by decide) _ (by decide) (x 0) (x 1) n.val (by omega)))
    (term c i arg8 harg8 arg9 harg9 arg10 harg10 arg11 harg11 arg17 harg17 arg28 x7 x8 x9 x10 x16 30 0 96 (by decide) _ (by decide) _ (by decide) (x 0) (x 1) n.val (by omega))

theorem chunk3 (x : S32x512.Idx) (n : Fin 256) (hn : n.val = 96 + (x 0).val) : (k0_pay71 (F := Ideal)
      (kernelRun0_A.sl.r_56 (F := Ideal) c i arg8 harg8 arg9 harg9 arg10 harg10 arg11 harg11 arg17 harg17 arg28 x7 x8 x9 x10 x16)
      (View.readAt (Elt Ideal) arg17.view (Rect.unit (s := S31x512) ![29, 0] S1x512.size inb_S31x512_S1x512_29_0).toLoadRect
        (harg17.unread x16))
      (kernelRun0_A.sl.v996 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v1002 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_56 kernelRun0_A.sl.r_54 kernelRun0_A.sl.r_53 kernelRun0_A.sl.r_50 kernelRun0_A.sl.r_48 kernelRun0_A.sl.r_45 kernelRun0_A.sl.v823 kernelRun0_A.sl.r_46 kernelRun0_A.sl.v828 kernelRun0_A.sl.r_47 kernelRun0_A.sl.v834 kernelRun0_A.sl.v840 kernelRun0_A.sl.v846 kernelRun0_A.sl.v852 kernelRun0_A.sl.v858 kernelRun0_A.sl.r_49 kernelRun0_A.sl.v864 kernelRun0_A.sl.v870 kernelRun0_A.sl.v876 kernelRun0_A.sl.v882 kernelRun0_A.sl.v888 kernelRun0_A.sl.r_51 kernelRun0_A.sl.r_52 kernelRun0_A.sl.v894 kernelRun0_A.sl.v900 kernelRun0_A.sl.v906 kernelRun0_A.sl.v912 kernelRun0_A.sl.v918 kernelRun0_A.sl.v924 kernelRun0_A.sl.v930 kernelRun0_A.sl.v936 kernelRun0_A.sl.v942 kernelRun0_A.sl.v948 kernelRun0_A.sl.v954 kernelRun0_A.sl.r_55 kernelRun0_A.sl.v960 kernelRun0_A.sl.v966 kernelRun0_A.sl.v972 kernelRun0_A.sl.v978 kernelRun0_A.sl.v984 kernelRun0_A.sl.v990 kernelRun0_A.sl.v996 kernelRun0_A.sl.v1002
  pointwise [k0_pay62, k0_pay63, k0_pay64, k0_pay65, k0_pay66, k0_pay67, k0_pay68, k0_pay69, k0_pay70, k0_pay71]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 96 (by decide) _ (by decide) _ (by decide) (x 0) (x 1) n.val (by omega)))
    (term c i arg8 harg8 arg9 harg9 arg10 harg10 arg11 harg11 arg17 harg17 arg28 x7 x8 x9 x10 x16 1 3 96 (by decide) _ (by decide) _ (by decide) (x 0) (x 1) n.val (by omega)))
    (term c i arg8 harg8 arg9 harg9 arg10 harg10 arg11 harg11 arg17 harg17 arg28 x7 x8 x9 x10 x16 2 4 96 (by decide) _ (by decide) _ (by decide) (x 0) (x 1) n.val (by omega)))
    (term c i arg8 harg8 arg9 harg9 arg10 harg10 arg11 harg11 arg17 harg17 arg28 x7 x8 x9 x10 x16 3 5 96 (by decide) _ (by decide) _ (by decide) (x 0) (x 1) n.val (by omega)))
    (term c i arg8 harg8 arg9 harg9 arg10 harg10 arg11 harg11 arg17 harg17 arg28 x7 x8 x9 x10 x16 4 6 96 (by decide) _ (by decide) _ (by decide) (x 0) (x 1) n.val (by omega)))
    (term c i arg8 harg8 arg9 harg9 arg10 harg10 arg11 harg11 arg17 harg17 arg28 x7 x8 x9 x10 x16 5 7 96 (by decide) _ (by decide) _ (by decide) (x 0) (x 1) n.val (by omega)))
    (term c i arg8 harg8 arg9 harg9 arg10 harg10 arg11 harg11 arg17 harg17 arg28 x7 x8 x9 x10 x16 6 0 104 (by decide) _ (by decide) _ (by decide) (x 0) (x 1) n.val (by omega)))
    (term c i arg8 harg8 arg9 harg9 arg10 harg10 arg11 harg11 arg17 harg17 arg28 x7 x8 x9 x10 x16 7 1 104 (by decide) _ (by decide) _ (by decide) (x 0) (x 1) n.val (by omega)))
    (term c i arg8 harg8 arg9 harg9 arg10 harg10 arg11 harg11 arg17 harg17 arg28 x7 x8 x9 x10 x16 8 2 104 (by decide) _ (by decide) _ (by decide) (x 0) (x 1) n.val (by omega)))
    (term c i arg8 harg8 arg9 harg9 arg10 harg10 arg11 harg11 arg17 harg17 arg28 x7 x8 x9 x10 x16 9 3 104 (by decide) _ (by decide) _ (by decide) (x 0) (x 1) n.val (by omega)))
    (term c i arg8 harg8 arg9 harg9 arg10 harg10 arg11 harg11 arg17 harg17 arg28 x7 x8 x9 x10 x16 10 4 104 (by decide) _ (by decide) _ (by decide) (x 0) (x 1) n.val (by omega)))
    (term c i arg8 harg8 arg9 harg9 arg10 harg10 arg11 harg11 arg17 harg17 arg28 x7 x8 x9 x10 x16 11 5 104 (by decide) _ (by decide) _ (by decide) (x 0) (x 1) n.val (by omega)))
    (term c i arg8 harg8 arg9 harg9 arg10 harg10 arg11 harg11 arg17 harg17 arg28 x7 x8 x9 x10 x16 12 6 104 (by decide) _ (by decide) _ (by decide) (x 0) (x 1) n.val (by omega)))
    (term c i arg8 harg8 arg9 harg9 arg10 harg10 arg11 harg11 arg17 harg17 arg28 x7 x8 x9 x10 x16 13 7 104 (by decide) _ (by decide) _ (by decide) (x 0) (x 1) n.val (by omega)))
    (term c i arg8 harg8 arg9 harg9 arg10 harg10 arg11 harg11 arg17 harg17 arg28 x7 x8 x9 x10 x16 14 0 112 (by decide) _ (by decide) _ (by decide) (x 0) (x 1) n.val (by omega)))
    (term c i arg8 harg8 arg9 harg9 arg10 harg10 arg11 harg11 arg17 harg17 arg28 x7 x8 x9 x10 x16 15 1 112 (by decide) _ (by decide) _ (by decide) (x 0) (x 1) n.val (by omega)))
    (term c i arg8 harg8 arg9 harg9 arg10 harg10 arg11 harg11 arg17 harg17 arg28 x7 x8 x9 x10 x16 16 2 112 (by decide) _ (by decide) _ (by decide) (x 0) (x 1) n.val (by omega)))
    (term c i arg8 harg8 arg9 harg9 arg10 harg10 arg11 harg11 arg17 harg17 arg28 x7 x8 x9 x10 x16 17 3 112 (by decide) _ (by decide) _ (by decide) (x 0) (x 1) n.val (by omega)))
    (term c i arg8 harg8 arg9 harg9 arg10 harg10 arg11 harg11 arg17 harg17 arg28 x7 x8 x9 x10 x16 18 4 112 (by decide) _ (by decide) _ (by decide) (x 0) (x 1) n.val (by omega)))
    (term c i arg8 harg8 arg9 harg9 arg10 harg10 arg11 harg11 arg17 harg17 arg28 x7 x8 x9 x10 x16 19 5 112 (by decide) _ (by decide) _ (by decide) (x 0) (x 1) n.val (by omega)))
    (term c i arg8 harg8 arg9 harg9 arg10 harg10 arg11 harg11 arg17 harg17 arg28 x7 x8 x9 x10 x16 20 6 112 (by decide) _ (by decide) _ (by decide) (x 0) (x 1) n.val (by omega)))
    (term c i arg8 harg8 arg9 harg9 arg10 harg10 arg11 harg11 arg17 harg17 arg28 x7 x8 x9 x10 x16 21 7 112 (by decide) _ (by decide) _ (by decide) (x 0) (x 1) n.val (by omega)))
    (term c i arg8 harg8 arg9 harg9 arg10 harg10 arg11 harg11 arg17 harg17 arg28 x7 x8 x9 x10 x16 22 0 120 (by decide) _ (by decide) _ (by decide) (x 0) (x 1) n.val (by omega)))
    (term c i arg8 harg8 arg9 harg9 arg10 harg10 arg11 harg11 arg17 harg17 arg28 x7 x8 x9 x10 x16 23 1 120 (by decide) _ (by decide) _ (by decide) (x 0) (x 1) n.val (by omega)))
    (term c i arg8 harg8 arg9 harg9 arg10 harg10 arg11 harg11 arg17 harg17 arg28 x7 x8 x9 x10 x16 24 2 120 (by decide) _ (by decide) _ (by decide) (x 0) (x 1) n.val (by omega)))
    (term c i arg8 harg8 arg9 harg9 arg10 harg10 arg11 harg11 arg17 harg17 arg28 x7 x8 x9 x10 x16 25 3 120 (by decide) _ (by decide) _ (by decide) (x 0) (x 1) n.val (by omega)))
    (term c i arg8 harg8 arg9 harg9 arg10 harg10 arg11 harg11 arg17 harg17 arg28 x7 x8 x9 x10 x16 26 4 120 (by decide) _ (by decide) _ (by decide) (x 0) (x 1) n.val (by omega)))
    (term c i arg8 harg8 arg9 harg9 arg10 harg10 arg11 harg11 arg17 harg17 arg28 x7 x8 x9 x10 x16 27 5 120 (by decide) _ (by decide) _ (by decide) (x 0) (x 1) n.val (by omega)))
    (term c i arg8 harg8 arg9 harg9 arg10 harg10 arg11 harg11 arg17 harg17 arg28 x7 x8 x9 x10 x16 28 6 120 (by decide) _ (by decide) _ (by decide) (x 0) (x 1) n.val (by omega)))
    (term c i arg8 harg8 arg9 harg9 arg10 harg10 arg11 harg11 arg17 harg17 arg28 x7 x8 x9 x10 x16 29 7 120 (by decide) _ (by decide) _ (by decide) (x 0) (x 1) n.val (by omega)))
    (term c i arg8 harg8 arg9 harg9 arg10 harg10 arg11 harg11 arg17 harg17 arg28 x7 x8 x9 x10 x16 30 0 128 (by decide) _ (by decide) _ (by decide) (x 0) (x 1) n.val (by omega))

theorem chunk4 (x : S32x512.Idx) (n : Fin 256) (hn : n.val = 128 + (x 0).val) : (k0_pay79 (F := Ideal)
      (kernelRun0_A.sl.r_64 (F := Ideal) c i arg8 harg8 arg9 harg9 arg10 harg10 arg11 harg11 arg17 harg17 arg28 x7 x8 x9 x10 x16)
      (kernelRun0_A.sl.r_65 (F := Ideal) c arg17 harg17 x16)
      (kernelRun0_A.sl.v1188 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_64 kernelRun0_A.sl.r_63 kernelRun0_A.sl.r_62 kernelRun0_A.sl.r_61 kernelRun0_A.sl.r_59 kernelRun0_A.sl.r_57 kernelRun0_A.sl.v1009 kernelRun0_A.sl.v1014 kernelRun0_A.sl.v1020 kernelRun0_A.sl.r_58 kernelRun0_A.sl.v1026 kernelRun0_A.sl.v1032 kernelRun0_A.sl.v1038 kernelRun0_A.sl.v1044 kernelRun0_A.sl.v1050 kernelRun0_A.sl.r_12 kernelRun0_A.sl.r_60 kernelRun0_A.sl.v1056 kernelRun0_A.sl.v1062 kernelRun0_A.sl.v1068 kernelRun0_A.sl.v1074 kernelRun0_A.sl.v1080 kernelRun0_A.sl.v1086 kernelRun0_A.sl.v1092 kernelRun0_A.sl.v1098 kernelRun0_A.sl.v1104 kernelRun0_A.sl.v1110 kernelRun0_A.sl.v1116 kernelRun0_A.sl.r_17 kernelRun0_A.sl.v1122 kernelRun0_A.sl.v1128 kernelRun0_A.sl.v1134 kernelRun0_A.sl.v1140 kernelRun0_A.sl.v1146 kernelRun0_A.sl.v1152 kernelRun0_A.sl.v1158 kernelRun0_A.sl.v1164 kernelRun0_A.sl.v1170 kernelRun0_A.sl.v1176 kernelRun0_A.sl.v1182 kernelRun0_A.sl.r_65 kernelRun0_A.sl.v1188
  pointwise [k0_pay72, k0_pay73, k0_pay74, k0_pay75, k0_pay76, k0_pay77, k0_pay78, k0_pay79]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 128 (by decide) _ (by decide) _ (by decide) (x 0) (x 1) n.val (by omega)))
    (term c i arg8 harg8 arg9 harg9 arg10 harg10 arg11 harg11 arg17 harg17 arg28 x7 x8 x9 x10 x16 1 3 128 (by decide) _ (by decide) _ (by decide) (x 0) (x 1) n.val (by omega)))
    (term c i arg8 harg8 arg9 harg9 arg10 harg10 arg11 harg11 arg17 harg17 arg28 x7 x8 x9 x10 x16 2 4 128 (by decide) _ (by decide) _ (by decide) (x 0) (x 1) n.val (by omega)))
    (term c i arg8 harg8 arg9 harg9 arg10 harg10 arg11 harg11 arg17 harg17 arg28 x7 x8 x9 x10 x16 3 5 128 (by decide) _ (by decide) _ (by decide) (x 0) (x 1) n.val (by omega)))
    (term c i arg8 harg8 arg9 harg9 arg10 harg10 arg11 harg11 arg17 harg17 arg28 x7 x8 x9 x10 x16 4 6 128 (by decide) _ (by decide) _ (by decide) (x 0) (x 1) n.val (by omega)))
    (term c i arg8 harg8 arg9 harg9 arg10 harg10 arg11 harg11 arg17 harg17 arg28 x7 x8 x9 x10 x16 5 7 128 (by decide) _ (by decide) _ (by decide) (x 0) (x 1) n.val (by omega)))
    (term c i arg8 harg8 arg9 harg9 arg10 harg10 arg11 harg11 arg17 harg17 arg28 x7 x8 x9 x10 x16 6 0 136 (by decide) _ (by decide) _ (by decide) (x 0) (x 1) n.val (by omega)))
    (term c i arg8 harg8 arg9 harg9 arg10 harg10 arg11 harg11 arg17 harg17 arg28 x7 x8 x9 x10 x16 7 1 136 (by decide) _ (by decide) _ (by decide) (x 0) (x 1) n.val (by omega)))
    (term c i arg8 harg8 arg9 harg9 arg10 harg10 arg11 harg11 arg17 harg17 arg28 x7 x8 x9 x10 x16 8 2 136 (by decide) _ (by decide) _ (by decide) (x 0) (x 1) n.val (by omega)))
    (term c i arg8 harg8 arg9 harg9 arg10 harg10 arg11 harg11 arg17 harg17 arg28 x7 x8 x9 x10 x16 9 3 136 (by decide) _ (by decide) _ (by decide) (x 0) (x 1) n.val (by omega)))
    (term c i arg8 harg8 arg9 harg9 arg10 harg10 arg11 harg11 arg17 harg17 arg28 x7 x8 x9 x10 x16 10 4 136 (by decide) _ (by decide) _ (by decide) (x 0) (x 1) n.val (by omega)))
    (term c i arg8 harg8 arg9 harg9 arg10 harg10 arg11 harg11 arg17 harg17 arg28 x7 x8 x9 x10 x16 11 5 136 (by decide) _ (by decide) _ (by decide) (x 0) (x 1) n.val (by omega)))
    (term c i arg8 harg8 arg9 harg9 arg10 harg10 arg11 harg11 arg17 harg17 arg28 x7 x8 x9 x10 x16 12 6 136 (by decide) _ (by decide) _ (by decide) (x 0) (x 1) n.val (by omega)))
    (term c i arg8 harg8 arg9 harg9 arg10 harg10 arg11 harg11 arg17 harg17 arg28 x7 x8 x9 x10 x16 13 7 136 (by decide) _ (by decide) _ (by decide) (x 0) (x 1) n.val (by omega)))
    (term c i arg8 harg8 arg9 harg9 arg10 harg10 arg11 harg11 arg17 harg17 arg28 x7 x8 x9 x10 x16 14 0 144 (by decide) _ (by decide) _ (by decide) (x 0) (x 1) n.val (by omega)))
    (term c i arg8 harg8 arg9 harg9 arg10 harg10 arg11 harg11 arg17 harg17 arg28 x7 x8 x9 x10 x16 15 1 144 (by decide) _ (by decide) _ (by decide) (x 0) (x 1) n.val (by omega)))
    (term c i arg8 harg8 arg9 harg9 arg10 harg10 arg11 harg11 arg17 harg17 arg28 x7 x8 x9 x10 x16 16 2 144 (by decide) _ (by decide) _ (by decide) (x 0) (x 1) n.val (by omega)))
    (term c i arg8 harg8 arg9 harg9 arg10 harg10 arg11 harg11 arg17 harg17 arg28 x7 x8 x9 x10 x16 17 3 144 (by decide) _ (by decide) _ (by decide) (x 0) (x 1) n.val (by omega)))
    (term c i arg8 harg8 arg9 harg9 arg10 harg10 arg11 harg11 arg17 harg17 arg28 x7 x8 x9 x10 x16 18 4 144 (by decide) _ (by decide) _ (by decide) (x 0) (x 1) n.val (by omega)))
    (term c i arg8 harg8 arg9 harg9 arg10 harg10 arg11 harg11 arg17 harg17 arg28 x7 x8 x9 x10 x16 19 5 144 (by decide) _ (by decide) _ (by decide) (x 0) (x 1) n.val (by omega)))
    (term c i arg8 harg8 arg9 harg9 arg10 harg10 arg11 harg11 arg17 harg17 arg28 x7 x8 x9 x10 x16 20 6 144 (by decide) _ (by decide) _ (by decide) (x 0) (x 1) n.val (by omega)))
    (term c i arg8 harg8 arg9 harg9 arg10 harg10 arg11 harg11 arg17 harg17 arg28 x7 x8 x9 x10 x16 21 7 144 (by decide) _ (by decide) _ (by decide) (x 0) (x 1) n.val (by omega)))
    (term c i arg8 harg8 arg9 harg9 arg10 harg10 arg11 harg11 arg17 harg17 arg28 x7 x8 x9 x10 x16 22 0 152 (by decide) _ (by decide) _ (by decide) (x 0) (x 1) n.val (by omega)))
    (term c i arg8 harg8 arg9 harg9 arg10 harg10 arg11 harg11 arg17 harg17 arg28 x7 x8 x9 x10 x16 23 1 152 (by decide) _ (by decide) _ (by decide) (x 0) (x 1) n.val (by omega)))
    (term c i arg8 harg8 arg9 harg9 arg10 harg10 arg11 harg11 arg17 harg17 arg28 x7 x8 x9 x10 x16 24 2 152 (by decide) _ (by decide) _ (by decide) (x 0) (x 1) n.val (by omega)))
    (term c i arg8 harg8 arg9 harg9 arg10 harg10 arg11 harg11 arg17 harg17 arg28 x7 x8 x9 x10 x16 25 3 152 (by decide) _ (by decide) _ (by decide) (x 0) (x 1) n.val (by omega)))
    (term c i arg8 harg8 arg9 harg9 arg10 harg10 arg11 harg11 arg17 harg17 arg28 x7 x8 x9 x10 x16 26 4 152 (by decide) _ (by decide) _ (by decide) (x 0) (x 1) n.val (by omega)))
    (term c i arg8 harg8 arg9 harg9 arg10 harg10 arg11 harg11 arg17 harg17 arg28 x7 x8 x9 x10 x16 27 5 152 (by decide) _ (by decide) _ (by decide) (x 0) (x 1) n.val (by omega)))
    (term c i arg8 harg8 arg9 harg9 arg10 harg10 arg11 harg11 arg17 harg17 arg28 x7 x8 x9 x10 x16 28 6 152 (by decide) _ (by decide) _ (by decide) (x 0) (x 1) n.val (by omega)))
    (term c i arg8 harg8 arg9 harg9 arg10 harg10 arg11 harg11 arg17 harg17 arg28 x7 x8 x9 x10 x16 29 7 152 (by decide) _ (by decide) _ (by decide) (x 0) (x 1) n.val (by omega)))
    (term c i arg8 harg8 arg9 harg9 arg10 harg10 arg11 harg11 arg17 harg17 arg28 x7 x8 x9 x10 x16 30 0 160 (by decide) _ (by decide) _ (by decide) (x 0) (x 1) n.val (by omega))

theorem chunk5 (x : S32x512.Idx) (n : Fin 256) (hn : n.val = 160 + (x 0).val) : (k0_pay86 (F := Ideal)
      (kernelRun0_A.sl.r_71 (F := Ideal) c i arg8 harg8 arg9 harg9 arg10 harg10 arg11 harg11 arg17 harg17 arg28 x7 x8 x9 x10 x16)
      (kernelRun0_A.sl.r_72 (F := Ideal) c arg17 harg17 x16)
      (kernelRun0_A.sl.v1350 (F := Ideal) c i arg8 harg8 arg9 harg9 arg10 harg10 arg11 harg11 arg28 x7 x8 x9 x10)
      (View.readAt (Elt Ideal) arg17.view (Rect.unit (s := S31x512) ![27, 0] S1x512.size inb_S31x512_S1x512_27_0).toLoadRect
        (harg17.unread x16))
      (kernelRun0_A.sl.v1356 (F := Ideal) c i arg8 harg8 arg9 harg9 arg10 harg10 arg11 harg11 arg28 x7 x8 x9 x10)
      (View.readAt (Elt Ideal) arg17.view (Rect.unit (s := S31x512) ![28, 0] S1x512.size inb_S31x512_S1x512_28_0).toLoadRect
        (harg17.unread x16))
      (kernelRun0_A.sl.v1362 (F := Ideal) c i arg8 harg8 arg9 harg9 arg10 harg10 arg11 harg11 arg28 x7 x8 x9 x10)
      (View.readAt (Elt Ideal) arg17.view (Rect.unit (s := S31x512) ![29, 0] S1x512.size inb_S31x512_S1x512_29_0).toLoadRect
        (harg17.unread x16))
      (kernelRun0_A.sl.v1368 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v1374 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_71 kernelRun0_A.sl.r_70 kernelRun0_A.sl.r_69 kernelRun0_A.sl.r_68 kernelRun0_A.sl.r_66 kernelRun0_A.sl.v1195 kernelRun0_A.sl.v1200 kernelRun0_A.sl.v1206 kernelRun0_A.sl.v1212 kernelRun0_A.sl.r_23 kernelRun0_A.sl.r_67 kernelRun0_A.sl.v1218 kernelRun0_A.sl.v1224 kernelRun0_A.sl.v1230 kernelRun0_A.sl.v1236 kernelRun0_A.sl.v1242 kernelRun0_A.sl.v1248 kernelRun0_A.sl.v1254 kernelRun0_A.sl.v1260 kernelRun0_A.sl.v1266 kernelRun0_A.sl.v1272 kernelRun0_A.sl.v1278 kernelRun0_A.sl.r_28 kernelRun0_A.sl.v1284 kernelRun0_A.sl.v1290 kernelRun0_A.sl.v1296 kernelRun0_A.sl.v1302 kernelRun0_A.sl.v1308 kernelRun0_A.sl.v1314 kernelRun0_A.sl.v1320 kernelRun0_A.sl.v1326 kernelRun0_A.sl.v1332 kernelRun0_A.sl.v1338 kernelRun0_A.sl.v1344 kernelRun0_A.sl.r_72 kernelRun0_A.sl.v1350 kernelRun0_A.sl.v1356 kernelRun0_A.sl.v1362 kernelRun0_A.sl.v1368 kernelRun0_A.sl.v1374
  pointwise [k0_pay80, k0_pay81, k0_pay82, k0_pay83, k0_pay84, k0_pay85, k0_pay86]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 160 (by decide) _ (by decide) _ (by decide) (x 0) (x 1) n.val (by omega)))
    (term c i arg8 harg8 arg9 harg9 arg10 harg10 arg11 harg11 arg17 harg17 arg28 x7 x8 x9 x10 x16 1 3 160 (by decide) _ (by decide) _ (by decide) (x 0) (x 1) n.val (by omega)))
    (term c i arg8 harg8 arg9 harg9 arg10 harg10 arg11 harg11 arg17 harg17 arg28 x7 x8 x9 x10 x16 2 4 160 (by decide) _ (by decide) _ (by decide) (x 0) (x 1) n.val (by omega)))
    (term c i arg8 harg8 arg9 harg9 arg10 harg10 arg11 harg11 arg17 harg17 arg28 x7 x8 x9 x10 x16 3 5 160 (by decide) _ (by decide) _ (by decide) (x 0) (x 1) n.val (by omega)))
    (term c i arg8 harg8 arg9 harg9 arg10 harg10 arg11 harg11 arg17 harg17 arg28 x7 x8 x9 x10 x16 4 6 160 (by decide) _ (by decide) _ (by decide) (x 0) (x 1) n.val (by omega)))
    (term c i arg8 harg8 arg9 harg9 arg10 harg10 arg11 harg11 arg17 harg17 arg28 x7 x8 x9 x10 x16 5 7 160 (by decide) _ (by decide) _ (by decide) (x 0) (x 1) n.val (by omega)))
    (term c i arg8 harg8 arg9 harg9 arg10 harg10 arg11 harg11 arg17 harg17 arg28 x7 x8 x9 x10 x16 6 0 168 (by decide) _ (by decide) _ (by decide) (x 0) (x 1) n.val (by omega)))
    (term c i arg8 harg8 arg9 harg9 arg10 harg10 arg11 harg11 arg17 harg17 arg28 x7 x8 x9 x10 x16 7 1 168 (by decide) _ (by decide) _ (by decide) (x 0) (x 1) n.val (by omega)))
    (term c i arg8 harg8 arg9 harg9 arg10 harg10 arg11 harg11 arg17 harg17 arg28 x7 x8 x9 x10 x16 8 2 168 (by decide) _ (by decide) _ (by decide) (x 0) (x 1) n.val (by omega)))
    (term c i arg8 harg8 arg9 harg9 arg10 harg10 arg11 harg11 arg17 harg17 arg28 x7 x8 x9 x10 x16 9 3 168 (by decide) _ (by decide) _ (by decide) (x 0) (x 1) n.val (by omega)))
    (term c i arg8 harg8 arg9 harg9 arg10 harg10 arg11 harg11 arg17 harg17 arg28 x7 x8 x9 x10 x16 10 4 168 (by decide) _ (by decide) _ (by decide) (x 0) (x 1) n.val (by omega)))
    (term c i arg8 harg8 arg9 harg9 arg10 harg10 arg11 harg11 arg17 harg17 arg28 x7 x8 x9 x10 x16 11 5 168 (by decide) _ (by decide) _ (by decide) (x 0) (x 1) n.val (by omega)))
    (term c i arg8 harg8 arg9 harg9 arg10 harg10 arg11 harg11 arg17 harg17 arg28 x7 x8 x9 x10 x16 12 6 168 (by decide) _ (by decide) _ (by decide) (x 0) (x 1) n.val (by omega)))
    (term c i arg8 harg8 arg9 harg9 arg10 harg10 arg11 harg11 arg17 harg17 arg28 x7 x8 x9 x10 x16 13 7 168 (by decide) _ (by decide) _ (by decide) (x 0) (x 1) n.val (by omega)))
    (term c i arg8 harg8 arg9 harg9 arg10 harg10 arg11 harg11 arg17 harg17 arg28 x7 x8 x9 x10 x16 14 0 176 (by decide) _ (by decide) _ (by decide) (x 0) (x 1) n.val (by omega)))
    (term c i arg8 harg8 arg9 harg9 arg10 harg10 arg11 harg11 arg17 harg17 arg28 x7 x8 x9 x10 x16 15 1 176 (by decide) _ (by decide) _ (by decide) (x 0) (x 1) n.val (by omega)))
    (term c i arg8 harg8 arg9 harg9 arg10 harg10 arg11 harg11 arg17 harg17 arg28 x7 x8 x9 x10 x16 16 2 176 (by decide) _ (by decide) _ (by decide) (x 0) (x 1) n.val (by omega)))
    (term c i arg8 harg8 arg9 harg9 arg10 harg10 arg11 harg11 arg17 harg17 arg28 x7 x8 x9 x10 x16 17 3 176 (by decide) _ (by decide) _ (by decide) (x 0) (x 1) n.val (by omega)))
    (term c i arg8 harg8 arg9 harg9 arg10 harg10 arg11 harg11 arg17 harg17 arg28 x7 x8 x9 x10 x16 18 4 176 (by decide) _ (by decide) _ (by decide) (x 0) (x 1) n.val (by omega)))
    (term c i arg8 harg8 arg9 harg9 arg10 harg10 arg11 harg11 arg17 harg17 arg28 x7 x8 x9 x10 x16 19 5 176 (by decide) _ (by decide) _ (by decide) (x 0) (x 1) n.val (by omega)))
    (term c i arg8 harg8 arg9 harg9 arg10 harg10 arg11 harg11 arg17 harg17 arg28 x7 x8 x9 x10 x16 20 6 176 (by decide) _ (by decide) _ (by decide) (x 0) (x 1) n.val (by omega)))
    (term c i arg8 harg8 arg9 harg9 arg10 harg10 arg11 harg11 arg17 harg17 arg28 x7 x8 x9 x10 x16 21 7 176 (by decide) _ (by decide) _ (by decide) (x 0) (x 1) n.val (by omega)))
    (term c i arg8 harg8 arg9 harg9 arg10 harg10 arg11 harg11 arg17 harg17 arg28 x7 x8 x9 x10 x16 22 0 184 (by decide) _ (by decide) _ (by decide) (x 0) (x 1) n.val (by omega)))
    (term c i arg8 harg8 arg9 harg9 arg10 harg10 arg11 harg11 arg17 harg17 arg28 x7 x8 x9 x10 x16 23 1 184 (by decide) _ (by decide) _ (by decide) (x 0) (x 1) n.val (by omega)))
    (term c i arg8 harg8 arg9 harg9 arg10 harg10 arg11 harg11 arg17 harg17 arg28 x7 x8 x9 x10 x16 24 2 184 (by decide) _ (by decide) _ (by decide) (x 0) (x 1) n.val (by omega)))
    (term c i arg8 harg8 arg9 harg9 arg10 harg10 arg11 harg11 arg17 harg17 arg28 x7 x8 x9 x10 x16 25 3 184 (by decide) _ (by decide) _ (by decide) (x 0) (x 1) n.val (by omega)))
    (term c i arg8 harg8 arg9 harg9 arg10 harg10 arg11 harg11 arg17 harg17 arg28 x7 x8 x9 x10 x16 26 4 184 (by decide) _ (by decide) _ (by decide) (x 0) (x 1) n.val (by omega)))
    (term c i arg8 harg8 arg9 harg9 arg10 harg10 arg11 harg11 arg17 harg17 arg28 x7 x8 x9 x10 x16 27 5 184 (by decide) _ (by decide) _ (by decide) (x 0) (x 1) n.val (by omega)))
    (term c i arg8 harg8 arg9 harg9 arg10 harg10 arg11 harg11 arg17 harg17 arg28 x7 x8 x9 x10 x16 28 6 184 (by decide) _ (by decide) _ (by decide) (x 0) (x 1) n.val (by omega)))
    (term c i arg8 harg8 arg9 harg9 arg10 harg10 arg11 harg11 arg17 harg17 arg28 x7 x8 x9 x10 x16 29 7 184 (by decide) _ (by decide) _ (by decide) (x 0) (x 1) n.val (by omega)))
    (term c i arg8 harg8 arg9 harg9 arg10 harg10 arg11 harg11 arg17 harg17 arg28 x7 x8 x9 x10 x16 30 0 192 (by decide) _ (by decide) _ (by decide) (x 0) (x 1) n.val (by omega))

theorem chunk6 (x : S32x512.Idx) (n : Fin 256) (hn : n.val = 192 + (x 0).val) : (k0_pay92 (F := Ideal)
      (kernelRun0_A.sl.r_78 (F := Ideal) c i arg8 harg8 arg9 harg9 arg10 harg10 arg11 harg11 arg17 harg17 arg28 x7 x8 x9 x10 x16)
      (View.readAt (Elt Ideal) arg17.view (Rect.unit (s := S31x512) ![28, 0] S1x512.size inb_S31x512_S1x512_28_0).toLoadRect
        (harg17.unread x16))
      (kernelRun0_A.sl.v1548 (F := Ideal) c i arg8 harg8 arg9 harg9 arg10 harg10 arg11 harg11 arg28 x7 x8 x9 x10)
      (View.readAt (Elt Ideal) arg17.view (Rect.unit (s := S31x512) ![29, 0] S1x512.size inb_S31x512_S1x512_29_0).toLoadRect
        (harg17.unread x16))
      (kernelRun0_A.sl.v1554 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v1560 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_78 kernelRun0_A.sl.r_76 kernelRun0_A.sl.r_75 kernelRun0_A.sl.r_74 kernelRun0_A.sl.r_73 kernelRun0_A.sl.r_33 kernelRun0_A.sl.v1381 kernelRun0_A.sl.v1386 kernelRun0_A.sl.v1392 kernelRun0_A.sl.v1398 kernelRun0_A.sl.v1404 kernelRun0_A.sl.v1410 kernelRun0_A.sl.v1416 kernelRun0_A.sl.v1422 kernelRun0_A.sl.v1428 kernelRun0_A.sl.v1434 kernelRun0_A.sl.v1440 kernelRun0_A.sl.r_38 kernelRun0_A.sl.v1446 kernelRun0_A.sl.v1452 kernelRun0_A.sl.v1458 kernelRun0_A.sl.v1464 kernelRun0_A.sl.v1470 kernelRun0_A.sl.v1476 kernelRun0_A.sl.v1482 kernelRun0_A.sl.v1488 kernelRun0_A.sl.v1494 kernelRun0_A.sl.v1500 kernelRun0_A.sl.v1506 kernelRun0_A.sl.r_77 kernelRun0_A.sl.v1512 kernelRun0_A.sl.v1518 kernelRun0_A.sl.v1524 kernelRun0_A.sl.v1530 kernelRun0_A.sl.v1536 kernelRun0_A.sl.v1542 kernelRun0_A.sl.v1548 kernelRun0_A.sl.v1554 kernelRun0_A.sl.v1560
  pointwise [k0_pay87, k0_pay88, k0_pay89, k0_pay90, k0_pay91, k0_pay92]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 192 (by decide) _ (by decide) _ (by decide) (x 0) (x 1) n.val (by omega)))
    (term c i arg8 harg8 arg9 harg9 arg10 harg10 arg11 harg11 arg17 harg17 arg28 x7 x8 x9 x10 x16 1 3 192 (by decide) _ (by decide) _ (by decide) (x 0) (x 1) n.val (by omega)))
    (term c i arg8 harg8 arg9 harg9 arg10 harg10 arg11 harg11 arg17 harg17 arg28 x7 x8 x9 x10 x16 2 4 192 (by decide) _ (by decide) _ (by decide) (x 0) (x 1) n.val (by omega)))
    (term c i arg8 harg8 arg9 harg9 arg10 harg10 arg11 harg11 arg17 harg17 arg28 x7 x8 x9 x10 x16 3 5 192 (by decide) _ (by decide) _ (by decide) (x 0) (x 1) n.val (by omega)))
    (term c i arg8 harg8 arg9 harg9 arg10 harg10 arg11 harg11 arg17 harg17 arg28 x7 x8 x9 x10 x16 4 6 192 (by decide) _ (by decide) _ (by decide) (x 0) (x 1) n.val (by omega)))
    (term c i arg8 harg8 arg9 harg9 arg10 harg10 arg11 harg11 arg17 harg17 arg28 x7 x8 x9 x10 x16 5 7 192 (by decide) _ (by decide) _ (by decide) (x 0) (x 1) n.val (by omega)))
    (term c i arg8 harg8 arg9 harg9 arg10 harg10 arg11 harg11 arg17 harg17 arg28 x7 x8 x9 x10 x16 6 0 200 (by decide) _ (by decide) _ (by decide) (x 0) (x 1) n.val (by omega)))
    (term c i arg8 harg8 arg9 harg9 arg10 harg10 arg11 harg11 arg17 harg17 arg28 x7 x8 x9 x10 x16 7 1 200 (by decide) _ (by decide) _ (by decide) (x 0) (x 1) n.val (by omega)))
    (term c i arg8 harg8 arg9 harg9 arg10 harg10 arg11 harg11 arg17 harg17 arg28 x7 x8 x9 x10 x16 8 2 200 (by decide) _ (by decide) _ (by decide) (x 0) (x 1) n.val (by omega)))
    (term c i arg8 harg8 arg9 harg9 arg10 harg10 arg11 harg11 arg17 harg17 arg28 x7 x8 x9 x10 x16 9 3 200 (by decide) _ (by decide) _ (by decide) (x 0) (x 1) n.val (by omega)))
    (term c i arg8 harg8 arg9 harg9 arg10 harg10 arg11 harg11 arg17 harg17 arg28 x7 x8 x9 x10 x16 10 4 200 (by decide) _ (by decide) _ (by decide) (x 0) (x 1) n.val (by omega)))
    (term c i arg8 harg8 arg9 harg9 arg10 harg10 arg11 harg11 arg17 harg17 arg28 x7 x8 x9 x10 x16 11 5 200 (by decide) _ (by decide) _ (by decide) (x 0) (x 1) n.val (by omega)))
    (term c i arg8 harg8 arg9 harg9 arg10 harg10 arg11 harg11 arg17 harg17 arg28 x7 x8 x9 x10 x16 12 6 200 (by decide) _ (by decide) _ (by decide) (x 0) (x 1) n.val (by omega)))
    (term c i arg8 harg8 arg9 harg9 arg10 harg10 arg11 harg11 arg17 harg17 arg28 x7 x8 x9 x10 x16 13 7 200 (by decide) _ (by decide) _ (by decide) (x 0) (x 1) n.val (by omega)))
    (term c i arg8 harg8 arg9 harg9 arg10 harg10 arg11 harg11 arg17 harg17 arg28 x7 x8 x9 x10 x16 14 0 208 (by decide) _ (by decide) _ (by decide) (x 0) (x 1) n.val (by omega)))
    (term c i arg8 harg8 arg9 harg9 arg10 harg10 arg11 harg11 arg17 harg17 arg28 x7 x8 x9 x10 x16 15 1 208 (by decide) _ (by decide) _ (by decide) (x 0) (x 1) n.val (by omega)))
    (term c i arg8 harg8 arg9 harg9 arg10 harg10 arg11 harg11 arg17 harg17 arg28 x7 x8 x9 x10 x16 16 2 208 (by decide) _ (by decide) _ (by decide) (x 0) (x 1) n.val (by omega)))
    (term c i arg8 harg8 arg9 harg9 arg10 harg10 arg11 harg11 arg17 harg17 arg28 x7 x8 x9 x10 x16 17 3 208 (by decide) _ (by decide) _ (by decide) (x 0) (x 1) n.val (by omega)))
    (term c i arg8 harg8 arg9 harg9 arg10 harg10 arg11 harg11 arg17 harg17 arg28 x7 x8 x9 x10 x16 18 4 208 (by decide) _ (by decide) _ (by decide) (x 0) (x 1) n.val (by omega)))
    (term c i arg8 harg8 arg9 harg9 arg10 harg10 arg11 harg11 arg17 harg17 arg28 x7 x8 x9 x10 x16 19 5 208 (by decide) _ (by decide) _ (by decide) (x 0) (x 1) n.val (by omega)))
    (term c i arg8 harg8 arg9 harg9 arg10 harg10 arg11 harg11 arg17 harg17 arg28 x7 x8 x9 x10 x16 20 6 208 (by decide) _ (by decide) _ (by decide) (x 0) (x 1) n.val (by omega)))
    (term c i arg8 harg8 arg9 harg9 arg10 harg10 arg11 harg11 arg17 harg17 arg28 x7 x8 x9 x10 x16 21 7 208 (by decide) _ (by decide) _ (by decide) (x 0) (x 1) n.val (by omega)))
    (term c i arg8 harg8 arg9 harg9 arg10 harg10 arg11 harg11 arg17 harg17 arg28 x7 x8 x9 x10 x16 22 0 216 (by decide) _ (by decide) _ (by decide) (x 0) (x 1) n.val (by omega)))
    (term c i arg8 harg8 arg9 harg9 arg10 harg10 arg11 harg11 arg17 harg17 arg28 x7 x8 x9 x10 x16 23 1 216 (by decide) _ (by decide) _ (by decide) (x 0) (x 1) n.val (by omega)))
    (term c i arg8 harg8 arg9 harg9 arg10 harg10 arg11 harg11 arg17 harg17 arg28 x7 x8 x9 x10 x16 24 2 216 (by decide) _ (by decide) _ (by decide) (x 0) (x 1) n.val (by omega)))
    (term c i arg8 harg8 arg9 harg9 arg10 harg10 arg11 harg11 arg17 harg17 arg28 x7 x8 x9 x10 x16 25 3 216 (by decide) _ (by decide) _ (by decide) (x 0) (x 1) n.val (by omega)))
    (term c i arg8 harg8 arg9 harg9 arg10 harg10 arg11 harg11 arg17 harg17 arg28 x7 x8 x9 x10 x16 26 4 216 (by decide) _ (by decide) _ (by decide) (x 0) (x 1) n.val (by omega)))
    (term c i arg8 harg8 arg9 harg9 arg10 harg10 arg11 harg11 arg17 harg17 arg28 x7 x8 x9 x10 x16 27 5 216 (by decide) _ (by decide) _ (by decide) (x 0) (x 1) n.val (by omega)))
    (term c i arg8 harg8 arg9 harg9 arg10 harg10 arg11 harg11 arg17 harg17 arg28 x7 x8 x9 x10 x16 28 6 216 (by decide) _ (by decide) _ (by decide) (x 0) (x 1) n.val (by omega)))
    (term c i arg8 harg8 arg9 harg9 arg10 harg10 arg11 harg11 arg17 harg17 arg28 x7 x8 x9 x10 x16 29 7 216 (by decide) _ (by decide) _ (by decide) (x 0) (x 1) n.val (by omega)))
    (term c i arg8 harg8 arg9 harg9 arg10 harg10 arg11 harg11 arg17 harg17 arg28 x7 x8 x9 x10 x16 30 0 224 (by decide) _ (by decide) _ (by decide) (x 0) (x 1) n.val (by omega))

theorem chunk7 (x : S32x512.Idx) (n : Fin 256) (hn : n.val = 224 + (x 0).val) : (k0_pay99 (F := Ideal)
      (kernelRun0_A.sl.r_85 (F := Ideal) c i arg8 harg8 arg9 harg9 arg10 harg10 arg11 harg11 arg17 harg17 arg28 x7 x8 x9 x10 x16)
      (kernelRun0_A.sl.r_86 (F := Ideal) c arg17 harg17 x16)
      (kernelRun0_A.sl.v1740 (F := Ideal) c i arg8 harg8 arg9 harg9 arg10 harg10 arg11 harg11 arg28 x7 x8 x9 x10)
      (View.readAt (Elt Ideal) arg17.view (Rect.unit (s := S31x512) ![30, 0] S1x512.size inb_S31x512_S1x512_30_0).toLoadRect
        (harg17.unread x16))
      (kernelRun0_A.sl.v1746 (F := Ideal) c i arg8 harg8 arg9 harg9 arg10 harg10 arg11 harg11 arg28 x7 x8 x9 x10)) x = sum31 fun k => (if h : k < 31 then x16 (ix2 ⟨k, h⟩ (x 1)) else 0) * rows i x7 x8 x9 x10 (k + 2 + n.val) (x 1) := by
  unfold kernelRun0_A.sl.r_85 kernelRun0_A.sl.r_84 kernelRun0_A.sl.r_82 kernelRun0_A.sl.r_81 kernelRun0_A.sl.r_80 kernelRun0_A.sl.r_79 kernelRun0_A.sl.v1567 kernelRun0_A.sl.v1572 kernelRun0_A.sl.v1578 kernelRun0_A.sl.v1584 kernelRun0_A.sl.v1590 kernelRun0_A.sl.v1596 kernelRun0_A.sl.v1602 kernelRun0_A.sl.r_49 kernelRun0_A.sl.v1608 kernelRun0_A.sl.v1614 kernelRun0_A.sl.v1620 kernelRun0_A.sl.v1626 kernelRun0_A.sl.v1632 kernelRun0_A.sl.v1638 kernelRun0_A.sl.v1644 kernelRun0_A.sl.v1650 kernelRun0_A.sl.v1656 kernelRun0_A.sl.v1662 kernelRun0_A.sl.v1668 kernelRun0_A.sl.r_83 kernelRun0_A.sl.v1674 kernelRun0_A.sl.v1680 kernelRun0_A.sl.v1686 kernelRun0_A.sl.v1692 kernelRun0_A.sl.v1698 kernelRun0_A.sl.v1704 kernelRun0_A.sl.v1710 kernelRun0_A.sl.v1716 kernelRun0_A.sl.v1722 kernelRun0_A.sl.v1728 kernelRun0_A.sl.v1734 kernelRun0_A.sl.r_86 kernelRun0_A.sl.v1740 kernelRun0_A.sl.v1746
  pointwise [k0_pay93, k0_pay94, k0_pay95, k0_pay96, k0_pay97, k0_pay98, k0_pay99]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((term c i arg8 harg8 arg9 harg9 arg10 harg10 arg11 harg11 arg17 harg17 arg28 x7 x8 x9 x10 x16 0 2 224 (by decide) _ (by decide) _ (by decide) (x 0) (x 1) n.val (by omega)))
    (term c i arg8 harg8 arg9 harg9 arg10 harg10 arg11 harg11 arg17 harg17 arg28 x7 x8 x9 x10 x16 1 3 224 (by decide) _ (by decide) _ (by decide) (x 0) (x 1) n.val (by omega)))
    (term c i arg8 harg8 arg9 harg9 arg10 harg10 arg11 harg11 arg17 harg17 arg28 x7 x8 x9 x10 x16 2 4 224 (by decide) _ (by decide) _ (by decide) (x 0) (x 1) n.val (by omega)))
    (term c i arg8 harg8 arg9 harg9 arg10 harg10 arg11 harg11 arg17 harg17 arg28 x7 x8 x9 x10 x16 3 5 224 (by decide) _ (by decide) _ (by decide) (x 0) (x 1) n.val (by omega)))
    (term c i arg8 harg8 arg9 harg9 arg10 harg10 arg11 harg11 arg17 harg17 arg28 x7 x8 x9 x10 x16 4 6 224 (by decide) _ (by decide) _ (by decide) (x 0) (x 1) n.val (by omega)))
    (term c i arg8 harg8 arg9 harg9 arg10 harg10 arg11 harg11 arg17 harg17 arg28 x7 x8 x9 x10 x16 5 7 224 (by decide) _ (by decide) _ (by decide) (x 0) (x 1) n.val (by omega)))
    (term c i arg8 harg8 arg9 harg9 arg10 harg10 arg11 harg11 arg17 harg17 arg28 x7 x8 x9 x10 x16 6 0 232 (by decide) _ (by decide) _ (by decide) (x 0) (x 1) n.val (by omega)))
    (term c i arg8 harg8 arg9 harg9 arg10 harg10 arg11 harg11 arg17 harg17 arg28 x7 x8 x9 x10 x16 7 1 232 (by decide) _ (by decide) _ (by decide) (x 0) (x 1) n.val (by omega)))
    (term c i arg8 harg8 arg9 harg9 arg10 harg10 arg11 harg11 arg17 harg17 arg28 x7 x8 x9 x10 x16 8 2 232 (by decide) _ (by decide) _ (by decide) (x 0) (x 1) n.val (by omega)))
    (term c i arg8 harg8 arg9 harg9 arg10 harg10 arg11 harg11 arg17 harg17 arg28 x7 x8 x9 x10 x16 9 3 232 (by decide) _ (by decide) _ (by decide) (x 0) (x 1) n.val (by omega)))
    (term c i arg8 harg8 arg9 harg9 arg10 harg10 arg11 harg11 arg17 harg17 arg28 x7 x8 x9 x10 x16 10 4 232 (by decide) _ (by decide) _ (by decide) (x 0) (x 1) n.val (by omega)))
    (term c i arg8 harg8 arg9 harg9 arg10 harg10 arg11 harg11 arg17 harg17 arg28 x7 x8 x9 x10 x16 11 5 232 (by decide) _ (by decide) _ (by decide) (x 0) (x 1) n.val (by omega)))
    (term c i arg8 harg8 arg9 harg9 arg10 harg10 arg11 harg11 arg17 harg17 arg28 x7 x8 x9 x10 x16 12 6 232 (by decide) _ (by decide) _ (by decide) (x 0) (x 1) n.val (by omega)))
    (term c i arg8 harg8 arg9 harg9 arg10 harg10 arg11 harg11 arg17 harg17 arg28 x7 x8 x9 x10 x16 13 7 232 (by decide) _ (by decide) _ (by decide) (x 0) (x 1) n.val (by omega)))
    (term c i arg8 harg8 arg9 harg9 arg10 harg10 arg11 harg11 arg17 harg17 arg28 x7 x8 x9 x10 x16 14 0 240 (by decide) _ (by decide) _ (by decide) (x 0) (x 1) n.val (by omega)))
    (term c i arg8 harg8 arg9 harg9 arg10 harg10 arg11 harg11 arg17 harg17 arg28 x7 x8 x9 x10 x16 15 1 240 (by decide) _ (by decide) _ (by decide) (x 0) (x 1) n.val (by omega)))
    (term c i arg8 harg8 arg9 harg9 arg10 harg10 arg11 harg11 arg17 harg17 arg28 x7 x8 x9 x10 x16 16 2 240 (by decide) _ (by decide) _ (by decide) (x 0) (x 1) n.val (by omega)))
    (term c i arg8 harg8 arg9 harg9 arg10 harg10 arg11 harg11 arg17 harg17 arg28 x7 x8 x9 x10 x16 17 3 240 (by decide) _ (by decide) _ (by decide) (x 0) (x 1) n.val (by omega)))
    (term c i arg8 harg8 arg9 harg9 arg10 harg10 arg11 harg11 arg17 harg17 arg28 x7 x8 x9 x10 x16 18 4 240 (by decide) _ (by decide) _ (by decide) (x 0) (x 1) n.val (by omega)))
    (term c i arg8 harg8 arg9 harg9 arg10 harg10 arg11 harg11 arg17 harg17 arg28 x7 x8 x9 x10 x16 19 5 240 (by decide) _ (by decide) _ (by decide) (x 0) (x 1) n.val (by omega)))
    (term c i arg8 harg8 arg9 harg9 arg10 harg10 arg11 harg11 arg17 harg17 arg28 x7 x8 x9 x10 x16 20 6 240 (by decide) _ (by decide) _ (by decide) (x 0) (x 1) n.val (by omega)))
    (term c i arg8 harg8 arg9 harg9 arg10 harg10 arg11 harg11 arg17 harg17 arg28 x7 x8 x9 x10 x16 21 7 240 (by decide) _ (by decide) _ (by decide) (x 0) (x 1) n.val (by omega)))
    (term c i arg8 harg8 arg9 harg9 arg10 harg10 arg11 harg11 arg17 harg17 arg28 x7 x8 x9 x10 x16 22 0 248 (by decide) _ (by decide) _ (by decide) (x 0) (x 1) n.val (by omega)))
    (term c i arg8 harg8 arg9 harg9 arg10 harg10 arg11 harg11 arg17 harg17 arg28 x7 x8 x9 x10 x16 23 1 248 (by decide) _ (by decide) _ (by decide) (x 0) (x 1) n.val (by omega)))
    (term c i arg8 harg8 arg9 harg9 arg10 harg10 arg11 harg11 arg17 harg17 arg28 x7 x8 x9 x10 x16 24 2 248 (by decide) _ (by decide) _ (by decide) (x 0) (x 1) n.val (by omega)))
    (term c i arg8 harg8 arg9 harg9 arg10 harg10 arg11 harg11 arg17 harg17 arg28 x7 x8 x9 x10 x16 25 3 248 (by decide) _ (by decide) _ (by decide) (x 0) (x 1) n.val (by omega)))
    (term c i arg8 harg8 arg9 harg9 arg10 harg10 arg11 harg11 arg17 harg17 arg28 x7 x8 x9 x10 x16 26 4 248 (by decide) _ (by decide) _ (by decide) (x 0) (x 1) n.val (by omega)))
    (term c i arg8 harg8 arg9 harg9 arg10 harg10 arg11 harg11 arg17 harg17 arg28 x7 x8 x9 x10 x16 27 5 248 (by decide) _ (by decide) _ (by decide) (x 0) (x 1) n.val (by omega)))
    (term c i arg8 harg8 arg9 harg9 arg10 harg10 arg11 harg11 arg17 harg17 arg28 x7 x8 x9 x10 x16 28 6 248 (by decide) _ (by decide) _ (by decide) (x 0) (x 1) n.val (by omega)))
    (term c i arg8 harg8 arg9 harg9 arg10 harg10 arg11 harg11 arg17 harg17 arg28 x7 x8 x9 x10 x16 29 7 248 (by decide) _ (by decide) _ (by decide) (x 0) (x 1) n.val (by omega)))
    (term c i arg8 harg8 arg9 harg9 arg10 harg10 arg11 harg11 arg17 harg17 arg28 x7 x8 x9 x10 x16 30 0 256 (by decide) _ (by decide) _ (by decide) (x 0) (x 1) n.val (by omega))

theorem conv_at (f : ℕ → Fin 512 → EReal) (w : Vec Ideal S31x512 .f32) (o : ℕ) (inb : ∀ a, (![o, 0] : Fin 2 → ℕ) a + (![32, 512] : Fin 2 → ℕ) a ≤ S256x512.size a)
    (x : (Rect.unit (s := S256x512) ![o, 0] ![32, 512] inb).shape.Idx) (n : Fin 256) (hn : n.val = o + (x 0).val) :
    (sum31 fun k => (if h : k < 31 then w (ix2 ⟨k, h⟩ (x 1)) else 0) * f (k + 2 + n.val) (x 1)) = conv f w ((Rect.unit (s := S256x512) ![o, 0] ![32, 512] inb).emb x) := by
  have e0 : (Rect.unit (s := S256x512) ![o, 0] ![32, 512] inb).emb x 0 = n := Fin.ext ((ValueKit.rect_emb_unit_val _ _ inb x 0).trans hn.symm)
  have e1 : (Rect.unit (s := S256x512) ![o, 0] ![32, 512] inb).emb x 1 = x 1 := Fin.ext ((ValueKit.rect_emb_unit_val _ _ inb x 1).trans (Nat.zero_add _))
  unfold conv
  rw [e0, e1]

theorem row_lt (o : ℕ) (ho : o + 32 ≤ 256) (x : S32x512.Idx) : o + (x 0).val < 256 := by
  have h : (x 0).val < 32 := (x 0).isLt
  omega

theorem mem_rows (o : ℕ) (inb : ∀ a, (![o, 0] : Fin 2 → ℕ) a + (![32, 512] : Fin 2 → ℕ) a ≤ S256x512.size a) (z : S256x512.Idx)
    (h1 : o ≤ (z 0).val) (h2 : (z 0).val < o + 32) : z ∈ (Rect.unit (s := S256x512) ![o, 0] ![32, 512] inb).set := by
  have h3 : (z 1).val < 512 := (z 1).isLt
  refine Rect.mem_set_unit.2 fun a => ?_
  match a with
  | ⟨0, _⟩ => exact ⟨h1, h2⟩
  | ⟨1, _⟩ => exact ⟨Nat.zero_le _, (Nat.zero_add 512).symm ▸ h3⟩

theorem conv_pieces : View.PiecesOf (conv (rows i x7 x8 x9 x10) x16) (kernelRun0_A.sl.H24_8 (F := Ideal) c i arg8 harg8 arg9 harg9 arg10 harg10 arg11 harg11 arg17 harg17 arg28 x7 x8 x9 x10 x16) := by
  unfold kernelRun0_A.sl.H24_8
  refine ⟨fun x => ?_, fun x => ?_, fun x => ?_, fun x => ?_, fun x => ?_, fun x => ?_, fun x => ?_, fun x => ?_, trivial⟩
  · exact (chunk7 c i arg8 harg8 arg9 harg9 arg10 harg10 arg11 harg11 arg17 harg17 arg28 x7 x8 x9 x10 x16 x ⟨224 + (x 0).val, row_lt 224 (by decide) x⟩ rfl).trans (conv_at _ x16 224 (by decide) x _ rfl)
  · exact (chunk6 c i arg8 harg8 arg9 harg9 arg10 harg10 arg11 harg11 arg17 harg17 arg28 x7 x8 x9 x10 x16 x ⟨192 + (x 0).val, row_lt 192 (by decide) x⟩ rfl).trans (conv_at _ x16 192 (by decide) x _ rfl)
  · exact (chunk5 c i arg8 harg8 arg9 harg9 arg10 harg10 arg11 harg11 arg17 harg17 arg28 x7 x8 x9 x10 x16 x ⟨160 + (x 0).val, row_lt 160 (by decide) x⟩ rfl).trans (conv_at _ x16 160 (by decide) x _ rfl)
  · exact (chunk4 c i arg8 harg8 arg9 harg9 arg10 harg10 arg11 harg11 arg17 harg17 arg28 x7 x8 x9 x10 x16 x ⟨128 + (x 0).val, row_lt 128 (by decide) x⟩ rfl).trans (conv_at _ x16 128 (by decide) x _ rfl)
  · exact (chunk3 c i arg8 harg8 arg9 harg9 arg10 harg10 arg11 harg11 arg17 harg17 arg28 x7 x8 x9 x10 x16 x ⟨96 + (x 0).val, row_lt 96 (by decide) x⟩ rfl).trans (conv_at _ x16 96 (by decide) x _ rfl)
  · exact (chunk2 c i arg8 harg8 arg9 harg9 arg10 harg10 arg11 harg11 arg17 harg17 arg28 x7 x8 x9 x10 x16 x ⟨64 + (x 0).val, row_lt 64 (by decide) x⟩ rfl).trans (conv_at _ x16 64 (by decide) x _ rfl)
  · exact (chunk1 c i arg8 harg8 arg9 harg9 arg10 harg10 arg11 harg11 arg17 harg17 arg28 x7 x8 x9 x10 x16 x ⟨32 + (x 0).val, row_lt 32 (by decide) x⟩ rfl).trans (conv_at _ x16 32 (by decide) x _ rfl)
  · exact (chunk0 c i arg8 harg8 arg9 harg9 arg10 harg10 arg11 harg11 arg17 harg17 arg28 x7 x8 x9 x10 x16 x ⟨0 + (x 0).val, row_lt 0 (by decide) x⟩ rfl).trans (conv_at _ x16 0 (by decide) x _ rfl)

/-- What the point writes of the convolution. -/
theorem conv_out (y : S256x512.Idx) : View.canon (kernelRun0_A.sl.H24_8 (F := Ideal) c i arg8 harg8 arg9 harg9 arg10 harg10 arg11 harg11 arg17 harg17 arg28 x7 x8 x9 x10 x16) y = conv (rows i x7 x8 x9 x10) x16 y := by
  have h := View.canon_append_of_piecesOf (conv (rows i x7 x8 x9 x10) x16) [] _ (conv_pieces c i arg8 harg8 arg9 harg9 arg10 harg10 arg11 harg11 arg17 harg17 arg28 x7 x8 x9 x10 x16) y ?_
  · rwa [List.append_nil] at h
  · have h0 : (y 0).val < 256 := (y 0).isLt
    have h1 : (y 1).val < 512 := (y 1).isLt
    unfold kernelRun0_A.sl.H24_8
    rcases (by omega : (y 0).val / 32 = 7 ∨ (y 0).val / 32 = 6 ∨ (y 0).val / 32 = 5 ∨ (y 0).val / 32 = 4 ∨ (y 0).val / 32 = 3 ∨ (y 0).val / 32 = 2 ∨ (y 0).val / 32 = 1 ∨ (y 0).val / 32 = 0) with h | h | h | h | h | h | h | h
    · exact ⟨_, List.mem_cons_self .., mem_rows 224 (by decide) y (by omega) (by omega)⟩
    · exact ⟨_, List.mem_cons_of_mem _ (List.mem_cons_self ..), mem_rows 192 (by decide) y (by omega) (by omega)⟩
    · exact ⟨_, List.mem_cons_of_mem _ (List.mem_cons_of_mem _ (List.mem_cons_self ..)), mem_rows 160 (by decide) y (by omega) (by omega)⟩
    · exact ⟨_, List.mem_cons_of_mem _ (List.mem_cons_of_mem _ (List.mem_cons_of_mem _ (List.mem_cons_self ..))), mem_rows 128 (by decide) y (by omega) (by omega)⟩
    · exact ⟨_, List.mem_cons_of_mem _ (List.mem_cons_of_mem _ (List.mem_cons_of_mem _ (List.mem_cons_of_mem _ (List.mem_cons_self ..)))), mem_rows 96 (by decide) y (by omega) (by omega)⟩
    · exact ⟨_, List.mem_cons_of_mem _ (List.mem_cons_of_mem _ (List.mem_cons_of_mem _ (List.mem_cons_of_mem _ (List.mem_cons_of_mem _ (List.mem_cons_self ..))))), mem_rows 64 (by decide) y (by omega) (by omega)⟩
    · exact ⟨_, List.mem_cons_of_mem _ (List.mem_cons_of_mem _ (List.mem_cons_of_mem _ (List.mem_cons_of_mem _ (List.mem_cons_of_mem _ (List.mem_cons_of_mem _ (List.mem_cons_self ..)))))), mem_rows 32 (by decide) y (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_rows 0 (by decide) y (by omega) (by omega)⟩
end Cert.Kernel14Ideal.Mix
-- ==== Proof.ConvRows.lean ====
/- The same convolution in the reference: a sum of thirty-one products of a weight and a padded, gated row. -/
module

public import proofs.«01_k».proof.Proof.Gen.Reference14Ideal.Read
public import proofs.«01_k».proof.Proof.ConvChunks

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

/-- Rows with so many rows of nothing before them. -/
def before (L : ℕ) (g : Fin 4096 → Fin 512 → EReal) (n : ℕ) (q : Fin 512) : EReal :=
  if h : L ≤ n ∧ n - L < 4096 then g ⟨n - L, h.2⟩ q else 0

theorem pad_at (L N : ℕ) (x : FVec Ideal Cert.Reference14Ideal.S4096x512 .f32) (v : FVec Ideal Cert.Reference14Ideal.S_ .f32) (hv : ∀ i, v i = 0)
    (h : Cert.Reference14Ideal.S4096x512.Pads ![L, 0] ![0, 0] ![0, 0] ⟨2, ![N, 512]⟩) (hu : 0 < Cert.Reference14Ideal.S_.numel) (n : Fin N) (q : Fin 512) :
    pad ⟨2, ![N, 512]⟩ ![L, 0] ![0, 0] ![0, 0] x v h hu (ix2 n q) = before L (fun t q => x (ix2 t q)) n.val q := by
  have hq : q.val < 512 := q.isLt
  unfold pad before
  by_cases hc : L ≤ n.val ∧ n.val - L < 4096
  · rw [dif_pos hc, dif_pos]
    · refine congrArg x (funext fun a => Fin.ext ?_)
      match a with
      | ⟨0, _⟩ => exact Nat.div_one _
      | ⟨1, _⟩ => exact Nat.div_one _
    · intro a
      match a with
      | ⟨0, _⟩ => exact ⟨hc.1, Nat.mod_one _, (Nat.div_one _).symm ▸ hc.2⟩
      | ⟨1, _⟩ => exact ⟨Nat.zero_le _, Nat.mod_one _, (Nat.div_one _).symm ▸ hq⟩
  · rw [dif_neg hc, dif_neg]
    · exact hv _
    · intro hin
      have h0 := hin ⟨0, by decide⟩
      refine hc ⟨h0.1, ?_⟩
      have h2 := h0.2.2
      exact lt_of_eq_of_lt (Nat.div_one _).symm h2

theorem zero_word : (FloatOps.sitofp .f32 0#32 : Ideal .f32) = 0 := by
  show (((0#32 : BitVec 32).toInt : ℝ) : EReal) = 0
  simp

/-- The whole array's gated rows. -/
def gatedAll (p : FVec Ideal Cert.Reference14Ideal.S8x4096x1024 .f32) (t : Fin 4096) (q : Fin 512) : EReal :=
  gate (p (ix3 2 t ⟨q.val, by omega⟩)) (p (ix3 2 t ⟨512 + q.val, by omega⟩))

theorem gated_ref (p : FVec Ideal Cert.Reference14Ideal.S8x4096x1024 .f32) (t : Fin 4096) (q : Fin 512) :
    val_main_v198 (F := Ideal) p (ix2 t q) = gatedAll p t q := by
  unfold gatedAll gate
  pointwise! [val_main_v198, val_main_v197, val_main_v196, val_main_v195, val_main_v194, val_main_v193, val_main_v192, val_main_v11, val_main_v10, val_main_v9, val_main_v8, val_main_cst_21, val_main_cst_22]
  rw [zero_sub]

theorem padded_ref (p : FVec Ideal Cert.Reference14Ideal.S8x4096x1024 .f32) (n : Fin 4126) (q : Fin 512) :
    val_main_v199 (F := Ideal) p (ix2 n q) = before 30 (gatedAll p) n.val q := by
  unfold val_main_v199
  refine (pad_at 30 4126 _ _ (fun i => ?_) _ _ n q).trans ?_
  · pointwise! [val_main_call2_v0, val_main_c_23]
    exact zero_word
  · refine congrArg (fun g => before 30 g n.val q) (funext fun t => funext fun q => gated_ref p t q)

theorem tap_ref (p : FVec Ideal Cert.Reference14Ideal.S8x4096x1024 .f32) (w : FVec Ideal Cert.Reference14Ideal.S31x512 .f32) (k : ℕ) (hk : k < 31) (t : Fin 4096) (q : Fin 512)
    (n : Fin 4126) (hn : n.val = k + t.val) :
    w (ix2 ⟨k, hk⟩ q) * val_main_v199 (F := Ideal) p (ix2 n q) = (if h : k < 31 then w (ix2 ⟨k, h⟩ q) else 0) * before 30 (gatedAll p) (k + t.val) q := by
  rw [dif_pos hk, padded_ref, hn]

theorem conv_ref (p : FVec Ideal Cert.Reference14Ideal.S8x4096x1024 .f32) (w : FVec Ideal Cert.Reference14Ideal.S31x512 .f32) (t : Fin 4096) (q : Fin 512) :
    val_main_v417 (F := Ideal) p w (ix2 t q) = sum31 fun k => (if h : k < 31 then w (ix2 ⟨k, h⟩ q) else 0) * before 30 (gatedAll p) (k + t.val) q := by
  pointwise [val_main_v200, val_main_v201, val_main_v202, val_main_v203, val_main_v204, val_main_v205, val_main_cst_24, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_v342, val_main_v343, val_main_v344, val_main_v345, val_main_v346, val_main_v347, val_main_v348, val_main_v349, val_main_v350, val_main_v351, val_main_v352, val_main_v353, val_main_v354, val_main_v355, val_main_v356, val_main_v357, val_main_v358, val_main_v359, val_main_v360, val_main_v361, val_main_v362, val_main_v363, val_main_v364, val_main_v365, val_main_v366, val_main_v367, val_main_v368, val_main_v369, val_main_v370, val_main_v371, val_main_v372, val_main_v373, val_main_v374, val_main_v375, val_main_v376, val_main_v377, val_main_v378, val_main_v379, val_main_v380, val_main_v381, val_main_v382, val_main_v383, val_main_v384, val_main_v385, val_main_v386, val_main_v387, val_main_v388, val_main_v389, val_main_v390, val_main_v391, val_main_v392, val_main_v393, val_main_v394, val_main_v395, val_main_v396, val_main_v397, val_main_v398, val_main_v399, val_main_v400, val_main_v401, val_main_v402, val_main_v403, val_main_v404, val_main_v405, val_main_v406, val_main_v407, val_main_v408, val_main_v409, val_main_v410, val_main_v411, val_main_v412, val_main_v413, val_main_v414, val_main_v415, val_main_v416, val_main_v417]
  unfold sum31
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((tap_ref p w 0 (by decide) t q _ (Nat.zero_add _).symm))
    (tap_ref p w 1 (by decide) t q _ rfl))
    (tap_ref p w 2 (by decide) t q _ rfl))
    (tap_ref p w 3 (by decide) t q _ rfl))
    (tap_ref p w 4 (by decide) t q _ rfl))
    (tap_ref p w 5 (by decide) t q _ rfl))
    (tap_ref p w 6 (by decide) t q _ rfl))
    (tap_ref p w 7 (by decide) t q _ rfl))
    (tap_ref p w 8 (by decide) t q _ rfl))
    (tap_ref p w 9 (by decide) t q _ rfl))
    (tap_ref p w 10 (by decide) t q _ rfl))
    (tap_ref p w 11 (by decide) t q _ rfl))
    (tap_ref p w 12 (by decide) t q _ rfl))
    (tap_ref p w 13 (by decide) t q _ rfl))
    (tap_ref p w 14 (by decide) t q _ rfl))
    (tap_ref p w 15 (by decide) t q _ rfl))
    (tap_ref p w 16 (by decide) t q _ rfl))
    (tap_ref p w 17 (by decide) t q _ rfl))
    (tap_ref p w 18 (by decide) t q _ rfl))
    (tap_ref p w 19 (by decide) t q _ rfl))
    (tap_ref p w 20 (by decide) t q _ rfl))
    (tap_ref p w 21 (by decide) t q _ rfl))
    (tap_ref p w 22 (by decide) t q _ rfl))
    (tap_ref p w 23 (by decide) t q _ rfl))
    (tap_ref p w 24 (by decide) t q _ rfl))
    (tap_ref p w 25 (by decide) t q _ rfl))
    (tap_ref p w 26 (by decide) t q _ rfl))
    (tap_ref p w 27 (by decide) t q _ rfl))
    (tap_ref p w 28 (by decide) t q _ rfl))
    (tap_ref p w 29 (by decide) t q _ rfl))
    (tap_ref p w 30 (by decide) t q _ rfl)

end Cert.Kernel14Ideal.Mix
-- ==== Proof.ConvForward.lean ====
/- The convolution's whole result: what every grid point writes is the reference's block. -/
module

public import proofs.«01_k».proof.Proof.Gen.Kernel14Ideal.Value
public import proofs.«01_k».proof.Proof.ConvRows
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

variable (m : (ℓ : Loc nD τ sig) → Buf (Elt Ideal) ℓ)

theorem idx : ∀ t : Fin cfg0.N, win0_7.index t = ![2, t.val, 0] ∧ win0_8.index t = ![2, 8 * t.val - 1, 0] ∧ win0_9.index t = ![2, t.val, 1]
    ∧ win0_10.index t = ![2, 8 * t.val - 1, 1] ∧ win0_16.index t = ![0, 0] ∧ win0_24.index t = ![t.val, 0] ∧ (grid0.coords t 0).val = t.val ∧ t.val < 16 :=
  (by decide +kernel : ∀ t : Fin grid0.N, _)

theorem word_zero : (FloatOps.ofBits .f32 0#32 : Ideal .f32) = 0 := by
  show Ideal.ofBits .f32 0#32 = 0
  simp [Ideal.ofBits, Ideal.ieee]

theorem word_one : (FloatOps.ofBits .f32 1065353216#32 : Ideal .f32) = 1 := by
  show Ideal.ofBits .f32 1065353216#32 = 1
  exact Ideal.ofBits_one_f32

/-- One except at the first point, where it is nothing. -/
theorem later_at (t : Fin cfg0.N) : k0_pay5 (F := Ideal) (grid0.coords t) = if t.val = 0 then (0 : EReal) else 1 := by
  have h : (grid0.coords t 0).val = t.val := (idx t).2.2.2.2.2.2.1
  have h16 : t.val < 16 := (idx t).2.2.2.2.2.2.2
  have hb : ∀ n : Fin 16, Scalar.cmpi .sgt (BitVec.ofNat 32 n.val) 0#32 = if n.val = 0 then 0#1 else 1#1 := by decide
  have e := hb ⟨t.val, h16⟩
  unfold k0_pay5
  dsimp only
  rw [h, e]
  by_cases h0 : t.val = 0
  · rw [if_pos h0, if_pos h0]
    exact word_zero
  · rw [if_neg h0, if_neg h0]
    exact word_one

theorem rows_at (c : Dev nD) (t : Fin cfg0.N) (k r : ℕ) (hk : k < 31) (hr : r < 256) (q : Fin 512) :
    rows (grid0.coords t) (iblk m c 7 t) (iblk m c 8 t) (iblk m c 9 t) (iblk m c 10 t) (k + 2 + r) q
      = before 30 (gatedAll (m ((c : Thread nD τ).loc main_arg0))) (k + (256 * t.val + r)) q := by
  have h16 : t.val < 16 := (idx t).2.2.2.2.2.2.2
  unfold rows gated before
  rw [later_at]
  by_cases h : k + 2 + r < 32
  · rw [dif_pos h]
    by_cases h0 : t.val = 0
    · rw [if_pos h0, mul_zero, dif_neg (by omega)]
    · rw [if_neg h0, mul_one, dif_pos (by omega)]
      unfold gatedAll gate
      blk_point [iblk, V, idx t]
  · rw [dif_neg h, dif_pos (by omega), dif_pos (by omega)]
    unfold gatedAll gate
    blk_point [iblk, V, idx t]

/-- The convolution's array after the run. -/
theorem conv_final (c : Dev nD) : (dats m 0 c).arrAt 24 cfg0.N = val_main_v417 (F := Ideal) (m ((c : Thread nD τ).loc main_arg0)) (m ((c : Thread nD τ).loc main_arg4)) := by
  refine (dats m 0 c).arrAt_eq_of_covers 24 _ (by decide +kernel) fun t hf y => ?_
  blk_simp
  rw [after0_24]
  unfold outsAt0 out0_A_24 kernelRun0_A
  dsimp only
  rw [View.read_writes_junk_eq_canon]
  refine (conv_out _ _ _ _ _ _ _ _ _ _ _ _ _ _ _ _ _ _ y).trans ?_
  have h16 : t.val < 16 := (idx t).2.2.2.2.2.2.2
  have h0 : (y 0).val < 256 := (y 0).isLt
  have hi : 256 * t.val + (y 0).val < 4096 := by omega
  refine Eq.trans ?_ ((conv_ref (m ((c : Thread nD τ).loc main_arg0)) (m ((c : Thread nD τ).loc main_arg4)) ⟨256 * t.val + (y 0).val, hi⟩ (y 1)).symm.trans ?_)
  · unfold conv
    refine congrArg sum31 (funext fun k => ?_)
    by_cases hk : k < 31
    · rw [dif_pos hk, dif_pos hk]
      refine congrArg₂ (· * ·) ?_ (rows_at m c t k (y 0).val hk h0 (y 1))
      blk_point [iblk, V, idx t]
    · rw [dif_neg hk, dif_neg hk, zero_mul, zero_mul]
  · blk_point [idx t]

end Cert.Kernel14Ideal.Mix
-- ==== Proof.MixPlanes.lean ====
/- Two of the four mixed arrays, point by point: the gated short convolution, and the normalised and gated long one. -/
module

public import proofs.«01_k».proof.Proof.ConvForward

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

/-- A row taken to mean nothing and variance one, scaled and shifted: one of its entries. -/
def lnorm (f : Fin 512 → EReal) (g b : EReal) (q : Fin 512) : EReal :=
  (f q - Ideal.div (∑ x, f x) (Ideal.ofBits FTy.f32 1140850688#32)) *
          Ideal.rsqrt
            (Ideal.div
                (∑ x,
                  (f x - Ideal.div (∑ x, f x) (Ideal.ofBits FTy.f32 1140850688#32)) *
                    (f x - Ideal.div (∑ x, f x) (Ideal.ofBits FTy.f32 1140850688#32)))
                (Ideal.ofBits FTy.f32 1140850688#32) +
              Ideal.ofBits FTy.f32 897988541#32) *
        g + b

theorem norm_at (v : Vec Ideal S256x512 .f32) (g b : Vec Ideal S1x512 .f32) (r : Fin 256) (q : Fin 512) :
    k0_pay100 (F := Ideal) v g b (ix2 r q) = lnorm (fun x => v (ix2 r x)) (g (ix2 0 q)) (b (ix2 0 q)) q := by
  unfold lnorm
  pointwise [k0_pay100]

theorem silu_at (v : Vec Ideal S256x512 .f32) (g b : Vec Ideal S1x512 .f32) (z : Fin 1) (r : Fin 256) (q : Fin 512) :
    k0_pay102 (F := Ideal) (k0_pay100 v g b) (k0_pay101 v g b) (ix3 z r q) = gate (lnorm (fun x => v (ix2 r x)) (g (ix2 0 q)) (b (ix2 0 q)) q) (lnorm (fun x => v (ix2 r x)) (g (ix2 0 q)) (b (ix2 0 q)) q) := by
  rw [← norm_at]
  unfold gate
  pointwise [k0_pay102, k0_pay101]

theorem norm_ref (p : FVec Ideal Cert.Reference14Ideal.S8x4096x1024 .f32) (w : FVec Ideal Cert.Reference14Ideal.S31x512 .f32) (g b : FVec Ideal Cert.Reference14Ideal.S1x512 .f32) (t : Fin 4096) (q : Fin 512) :
    val_main_v439 (F := Ideal) p w g b (ix2 t q) = lnorm (fun x => (val_main_v417 (F := Ideal) p w (ix2 t x))) (g (ix2 0 q)) (b (ix2 0 q)) q := by
  unfold lnorm
  pointwise [val_main_v418, val_main_v419, val_main_v420, val_main_v421, val_main_v422, val_main_v423, val_main_v424, val_main_v425, val_main_v426, val_main_v427, val_main_v428, val_main_v429, val_main_v430, val_main_v431, val_main_v432, val_main_v433, val_main_v434, val_main_v435, val_main_v436, val_main_v437, val_main_v438, val_main_v439, val_main_cst_25, val_main_cst_26, val_main_cst_27, val_main_cst_28, val_main_cst_29]

theorem silu_ref (p : FVec Ideal Cert.Reference14Ideal.S8x4096x1024 .f32) (w : FVec Ideal Cert.Reference14Ideal.S31x512 .f32) (g b : FVec Ideal Cert.Reference14Ideal.S1x512 .f32) (t : Fin 4096) (q : Fin 512) :
    val_main_v440 (F := Ideal) p w g b (ix2 t q) = gate (lnorm (fun x => (val_main_v417 (F := Ideal) p w (ix2 t x))) (g (ix2 0 q)) (b (ix2 0 q)) q) (lnorm (fun x => (val_main_v417 (F := Ideal) p w (ix2 t x))) (g (ix2 0 q)) (b (ix2 0 q)) q) := by
  rw [← norm_ref]
  unfold gate
  pointwise [val_main_v440, val_main_call3_v0, val_main_call3_v1, val_main_call3_v2, val_main_call3_v3, val_main_call3_v4, val_main_call3_v5, val_main_call3_cst, val_main_call3_cst_0]
  rw [zero_sub]

/-- The plane of the normalised convolution: what the point writes, from the convolution's rows. -/
theorem plane2 (v : Vec Ideal S256x512 .f32) (gb bb : Vec Ideal S1x512 .f32) (p : FVec Ideal Cert.Reference14Ideal.S8x4096x1024 .f32) (w : FVec Ideal Cert.Reference14Ideal.S31x512 .f32) (g b : FVec Ideal Cert.Reference14Ideal.S1x512 .f32) (z : Fin 1) (r : Fin 256) (q : Fin 512) (T : Fin 4096)
    (hv : ∀ x, v (ix2 r x) = val_main_v417 (F := Ideal) p w (ix2 T x)) (hg : gb (ix2 0 q) = g (ix2 0 q)) (hb : bb (ix2 0 q) = b (ix2 0 q)) :
    k0_pay102 (F := Ideal) (k0_pay100 v gb bb) (k0_pay101 v gb bb) (ix3 z r q) = val_main_v440 (F := Ideal) p w g b (ix2 T q) := by
  rw [silu_at, silu_ref, hg, hb, funext hv]

/-- The product of two of the projected arrays. -/
def prodAll (p : FVec Ideal Cert.Reference14Ideal.S8x4096x1024 .f32) (t : Fin 4096) (q : Fin 512) : EReal :=
  p (ix3 1 t ⟨512 + q.val, by omega⟩) * p (ix3 0 t ⟨512 + q.val, by omega⟩)

theorem prod_ref (p : FVec Ideal Cert.Reference14Ideal.S8x4096x1024 .f32) (t : Fin 4096) (q : Fin 512) : val_main_v167 (F := Ideal) p (ix2 t q) = prodAll p t q := by
  unfold prodAll
  pointwise [val_main_v167, val_main_v0, val_main_v1, val_main_v2, val_main_v3, val_main_v4, val_main_v5, val_main_v6, val_main_v7]

theorem before_shift (L : ℕ) (hL : L ≤ 32) (g : Fin 4096 → Fin 512 → EReal) (n : ℕ) (q : Fin 512) : before L g n q = before 32 g (n + (32 - L)) q := by
  unfold before
  by_cases h : L ≤ n ∧ n - L < 4096
  · rw [dif_pos h, dif_pos (by omega)]
    exact congrArg (fun k => g k q) (Fin.ext (by show n - L = n + (32 - L) - 32; omega))
  · rw [dif_neg h, dif_neg (by omega)]

theorem padded2_ref (p : FVec Ideal Cert.Reference14Ideal.S8x4096x1024 .f32) (n : Fin 4098) (q : Fin 512) :
    val_main_v168 (F := Ideal) p (ix2 n q) = before 32 (prodAll p) (n.val + 30) q := by
  unfold val_main_v168
  refine ((pad_at 2 4098 _ _ (fun i => ?_) _ _ n q).trans ?_).trans (before_shift 2 (by decide) _ _ _)
  · pointwise! [val_main_call1_v0, val_main_c_19]
    exact zero_word
  · refine congrArg (fun g => before 2 g n.val q) (funext fun t => funext fun q => prod_ref p t q)

/-- The plane of the short convolution, from the loads of the scratch. -/
theorem plane1 (w0 w1 w2 : Vec Ideal S1x512 .f32) (v0 v1 v2 : Vec Ideal S256x512 .f32) (a : Vec Ideal S1x256x512 .f32)
    (p : FVec Ideal Cert.Reference14Ideal.S8x4096x1024 .f32) (w : FVec Ideal Cert.Reference14Ideal.S3x512 .f32) (z : Fin 1) (r : Fin 256) (q : Fin 512) (T : Fin 4096)
    (h0 : v0 (ix2 r q) = before 32 (prodAll p) (T.val + 30) q) (h1 : v1 (ix2 r q) = before 32 (prodAll p) (1 + T.val + 30) q) (h2 : v2 (ix2 r q) = before 32 (prodAll p) (2 + T.val + 30) q)
    (k0 : w0 (ix2 0 q) = w (ix2 0 q)) (k1 : w1 (ix2 0 q) = w (ix2 1 q)) (k2 : w2 (ix2 0 q) = w (ix2 2 q)) (ha : a (ix3 0 r q) = p (ix3 1 T ⟨q.val, by omega⟩)) :
    k0_pay21 (F := Ideal) (k0_pay20 w0 v0 w1 v1 w2 v2 a) (ix3 z r q) = val_main_v191 (F := Ideal) p w (ix2 T q) := by
  pointwise [k0_pay21, k0_pay20, val_main_v8, val_main_v9, val_main_v0, val_main_v1, val_main_v2, val_main_v3, val_main_v4, val_main_v5, val_main_v6, val_main_v7, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_cst_20]
  rw [h0, h1, h2, k0, k1, k2, ha, padded2_ref, padded2_ref, padded2_ref]

/-- Rows written below thirty-two others. -/
def stacked (fb : Vec Ideal S32x512 .f32) (fm : Vec Ideal S256x512 .f32) : Vec Ideal S288x512 .f32 := fun j =>
  if h : (j 0).val < 32 then fb (ix2 ⟨(j 0).val, h⟩ (j 1)) else fm (ix2 ⟨(j 0).val - 32, by have h' : (j 0).val < 288 := (j 0).isLt; omega⟩ (j 1))

theorem stacked_main (fb : Vec Ideal S32x512 .f32) (fm : Vec Ideal S256x512 .f32) (j : S288x512.Idx) (n : Fin 256) (q : Fin 512) (h0 : (j 0).val = 32 + n.val) (h1 : (j 1).val = q.val) :
    stacked fb fm j = fm (ix2 n q) := by
  unfold stacked
  rw [dif_neg (by omega)]
  exact congrArg fm (congrArg₂ ix2 (Fin.ext (by show (j 0).val - 32 = n.val; omega)) (Fin.ext h1))

theorem stacked_back (fb : Vec Ideal S32x512 .f32) (fm : Vec Ideal S256x512 .f32) (j : S288x512.Idx) (n : Fin 32) (q : Fin 512) (h0 : (j 0).val = n.val) (h1 : (j 1).val = q.val) :
    stacked fb fm j = fb (ix2 n q) := by
  have h := n.isLt
  unfold stacked
  rw [dif_pos (by omega)]
  exact congrArg fb (congrArg₂ ix2 (Fin.ext h0) (Fin.ext h1))

theorem stacked_pieces (fb : Vec Ideal S32x512 .f32) (fm : Vec Ideal S256x512 .f32) (im : ∀ a, (![32, 0] : Fin 2 → ℕ) a + S256x512.size a ≤ S288x512.size a) (ib : ∀ a, (![0, 0] : Fin 2 → ℕ) a + S32x512.size a ≤ S288x512.size a) :
    View.PiecesOf (e := .f32) (Val := Elt Ideal) (stacked fb fm) [⟨Rect.unit (s := S288x512) ![32, 0] S256x512.size im, fm⟩, ⟨Rect.unit (s := S288x512) ![0, 0] S32x512.size ib, fb⟩] := by
  refine ⟨fun x => ?_, fun x => ?_, trivial⟩
  · refine Eq.trans ?_ (stacked_main fb fm _ (x 0) (x 1) (ValueKit.rect_emb_unit_val _ _ im x 0) ((ValueKit.rect_emb_unit_val _ _ im x 1).trans (Nat.zero_add _))).symm
    refine congrArg fm (funext fun a => ?_)
    match a with
    | ⟨0, _⟩ => rfl
    | ⟨1, _⟩ => rfl
  · refine Eq.trans ?_ (stacked_back fb fm _ (x 0) (x 1) ((ValueKit.rect_emb_unit_val _ _ ib x 0).trans (Nat.zero_add _)) ((ValueKit.rect_emb_unit_val _ _ ib x 1).trans (Nat.zero_add _))).symm
    refine congrArg fb (funext fun a => ?_)
    match a with
    | ⟨0, _⟩ => rfl
    | ⟨1, _⟩ => rfl

theorem mem_stacked (o k : ℕ) (inb : ∀ a, (![o, 0] : Fin 2 → ℕ) a + (![k, 512] : Fin 2 → ℕ) a ≤ S288x512.size a) (z : S288x512.Idx)
    (h1 : o ≤ (z 0).val) (h2 : (z 0).val < o + k) : z ∈ (Rect.unit (s := S288x512) ![o, 0] ![k, 512] inb).set := by
  have h3 : (z 1).val < 512 := (z 1).isLt
  refine Rect.mem_set_unit.2 fun a => ?_
  match a with
  | ⟨0, _⟩ => exact ⟨h1, h2⟩
  | ⟨1, _⟩ => exact ⟨Nat.zero_le _, (Nat.zero_add 512).symm ▸ h3⟩

/-- A load of the scratch, by the row and lane it starts at. -/
theorem read_stacked (fb : Vec Ideal S32x512 .f32) (fm : Vec Ideal S256x512 .f32) (im : ∀ a, (![32, 0] : Fin 2 → ℕ) a + S256x512.size a ≤ S288x512.size a) (ib : ∀ a, (![0, 0] : Fin 2 → ℕ) a + S32x512.size a ≤ S288x512.size a)
    (v : View sig .tc .vmem S288x512 .f32) (o l w : ℕ) (inb : ∀ a, (![o, l] : Fin 2 → ℕ) a + (![256, w] : Fin 2 → ℕ) a ≤ S288x512.size a)
    (f : Fin 4096 → Fin 512 → EReal) (t : ℕ) (hb : ∀ n q, fb (ix2 n q) = before 32 f (256 * t + n.val) q) (hm : ∀ n q, fm (ix2 n q) = before 32 f (256 * t + (32 + n.val)) q)
    (x : (Rect.unit (s := S288x512) ![o, l] ![256, w] inb).shape.Idx) (N : ℕ) (Q : Fin 512) (hN : N = 256 * t + (o + (x 0).val)) (hQ : Q.val = l + (x 1).val) :
    v.readCov (e := .f32) (Val := Elt Ideal) [⟨Rect.unit (s := S288x512) ![32, 0] S256x512.size im, fm⟩, ⟨Rect.unit (s := S288x512) ![0, 0] S32x512.size ib, fb⟩] (Rect.unit (s := S288x512) ![o, l] ![256, w] inb).toLoadRect x = before 32 f N Q := by
  have e0 : ((Rect.unit (s := S288x512) ![o, l] ![256, w] inb).toLoadRect.idx x 0).val = o + (x 0).val := ValueKit.rect_emb_unit_val _ _ inb x 0
  have e1 : ((Rect.unit (s := S288x512) ![o, l] ![256, w] inb).toLoadRect.idx x 1).val = l + (x 1).val := ValueKit.rect_emb_unit_val _ _ inb x 1
  have h0 : (x 0).val < 256 := (x 0).isLt
  have i0 : o + 256 ≤ 288 := inb 0
  refine (read_part _ _ (stacked_pieces fb fm im ib) v _ x ?_).trans ?_
  · by_cases h : o + (x 0).val < 32
    · exact ⟨_, List.mem_cons_of_mem _ (List.mem_cons_self ..), mem_stacked 0 32 ib _ (by omega) (by omega)⟩
    · exact ⟨_, List.mem_cons_self .., mem_stacked 32 256 im _ (by omega) (by omega)⟩
  · by_cases h : o + (x 0).val < 32
    · refine (stacked_back fb fm _ ⟨o + (x 0).val, h⟩ Q e0 (e1.trans hQ.symm)).trans ((hb _ _).trans ?_)
      exact congrArg (fun n => before 32 f n Q) hN.symm
    · refine (stacked_main fb fm _ ⟨o + (x 0).val - 32, by omega⟩ Q (e0.trans (by show o + (x 0).val = 32 + (o + (x 0).val - 32); omega)) (e1.trans hQ.symm)).trans ((hm _ _).trans ?_)
      exact congrArg (fun n => before 32 f n Q) (by show 256 * t + (32 + (o + (x 0).val - 32)) = N; omega)

end Cert.Kernel14Ideal.Mix
-- ==== Proof.MixGating.lean ====
/- The spatial gating, point by point: the halves' gate, the normalised values, the masked weights and one tile's product. -/
module

public import proofs.«01_k».proof.Proof.MixPlanes

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

/-- The number of the half a row lies in, as the kernel and the reference find it. -/
theorem half_eq : ∀ n : Fin 128, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32))
    = (Scalar.select
        (IntOp.andi
          (IntOp.cmpi CmpIPredicate.ne
            ((if BitVec.ofNat 32 n.val = 0 then 0 else if (BitVec.ofNat 32 n.val).msb = true then -1 else 1) : BitVec 32)
            (if id (constantI Cert.Reference14Ideal.S_ 32 64#32) ix0 = 0 then 0
            else if BitVec.msb (id (constantI Cert.Reference14Ideal.S_ 32 64#32) ix0) = true then -1 else 1))
          (IntOp.cmpi CmpIPredicate.ne
            (IntOp.remsi ArithUnit.host (BitVec.ofNat 32 n.val) (id (constantI Cert.Reference14Ideal.S_ 32 64#32) ix0)) 0#32))
        (IntOp.subi (IntOp.divsi ArithUnit.host (BitVec.ofNat 32 n.val) (id (constantI Cert.Reference14Ideal.S_ 32 64#32) ix0))
          1#32)
        (IntOp.divsi ArithUnit.host (BitVec.ofNat 32 n.val) (id (constantI Cert.Reference14Ideal.S_ 32 64#32) ix0))) := by
  decide +kernel

theorem mask_eq (r q : Fin 128) : k0_pay109 k0_pay106 k0_pay107 k0_pay108 (ix2 r q) = val_main_v471 (F := Ideal) (ix2 r q) := by
  refine Eq.trans ?_ ((congrArg₂ (IntOp.cmpi CmpIPredicate.sle) (half_eq q) (half_eq r)).trans ?_)
  · pointwise [k0_pay109, k0_pay106, k0_pay107, k0_pay108]
  · pointwise [val_main_v471, val_main_v470, val_main_v469, val_main_v468, val_main_v467, val_main_v466, val_main_v465, val_main_v464, val_main_c_35, val_main_c_36, val_main_call4_v0, val_main_call4_v1, val_main_call4_v2, val_main_call4_v3, val_main_call4_v4, val_main_call4_v5, val_main_call4_v6, val_main_call4_v7, val_main_call4_v8, val_main_call4_v9, val_main_call4_v10, val_main_call4_v11, val_main_call4_v12, val_main_call4_v13, val_main_call5_v0, val_main_call5_v1, val_main_call5_v2, val_main_call5_v3, val_main_call5_v4, val_main_call5_v5, val_main_call5_v6, val_main_call5_v7, val_main_call5_v8, val_main_call5_v9, val_main_call5_v10, val_main_call5_v11, val_main_call5_v12, val_main_call5_v13, val_main_call4_c, val_main_call4_c_0, val_main_call5_c, val_main_call5_c_0]

/-- The smooth rectifier as the kernel writes it. -/
def gelu (x : EReal) : EReal :=
  Ideal.ofBits FTy.f32 1056964608#32 * x * (1 + Ideal.tanh (Ideal.ofBits FTy.f32 1061962282#32 * (x + Ideal.ofBits FTy.f32 1027024659#32 * (x * x * x))))

theorem gelu_u_at (v : Vec Ideal S1x256x512 .f32) (r : Fin 256) (q : Fin 512) : k0_pay103 (F := Ideal) v (ix2 r q) = gelu (v (ix3 0 r q)) := by
  unfold gelu
  pointwise [k0_pay103]

theorem gelu_v_at (v : Vec Ideal S1x256x512 .f32) (r : Fin 256) (q : Fin 512) : k0_pay104 (F := Ideal) v (ix2 r q) = gelu (v (ix3 0 r q)) := by
  unfold gelu
  pointwise [k0_pay104]

theorem gelu_u_ref (p : FVec Ideal Cert.Reference14Ideal.S8x4096x1024 .f32) (t : Fin 4096) (q : Fin 512) : val_main_v26 (F := Ideal) p (ix2 t q) = gelu (p (ix3 3 t ⟨q.val, by omega⟩)) := by
  unfold gelu
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]
  rw [← mul_assoc, mul_comm (p _) (Ideal.ofBits FTy.f32 1056964608#32)]

theorem gelu_v_ref (p : FVec Ideal Cert.Reference14Ideal.S8x4096x1024 .f32) (t : Fin 4096) (q : Fin 512) : val_main_v41 (F := Ideal) p (ix2 t q) = gelu (p (ix3 3 t ⟨512 + q.val, by omega⟩)) := by
  unfold gelu
  pointwise [val_main_v27, val_main_v28, val_main_v29, val_main_v30, val_main_v31, val_main_v32, val_main_v33, val_main_v34, val_main_v35, val_main_v36, val_main_v37, val_main_v38, val_main_v39, val_main_v40, val_main_v41, val_main_cst_3, val_main_cst_4, val_main_cst_5, val_main_cst_6]
  rw [← mul_assoc, mul_comm (p _) (Ideal.ofBits FTy.f32 1056964608#32)]

theorem norm_v_at (v : Vec Ideal S256x512 .f32) (g b : Vec Ideal S1x512 .f32) (r : Fin 256) (q : Fin 512) :
    k0_pay105 (F := Ideal) v g b (ix2 r q) = lnorm (fun x => v (ix2 r x)) (g (ix2 0 q)) (b (ix2 0 q)) q := by
  unfold lnorm
  pointwise [k0_pay105]

theorem norm_v_ref (p : FVec Ideal Cert.Reference14Ideal.S8x4096x1024 .f32) (g b : FVec Ideal Cert.Reference14Ideal.S1x512 .f32) (t : Fin 4096) (q : Fin 512) :
    val_main_v462 (F := Ideal) p g b (ix2 t q) = lnorm (fun x => (val_main_v41 (F := Ideal) p (ix2 t x))) (g (ix2 0 q)) (b (ix2 0 q)) q := by
  unfold lnorm
  pointwise [val_main_v441, val_main_v442, val_main_v443, val_main_v444, val_main_v445, val_main_v446, val_main_v447, val_main_v448, val_main_v449, val_main_v450, val_main_v451, val_main_v452, val_main_v453, val_main_v454, val_main_v455, val_main_v456, val_main_v457, val_main_v458, val_main_v459, val_main_v460, val_main_v461, val_main_v462, val_main_cst_30, val_main_cst_31, val_main_cst_32, val_main_cst_33, val_main_cst_34]

theorem masked_ref (w : FVec Ideal Cert.Reference14Ideal.S4x128x128 .f32) (h : Fin 4) (r q : Fin 128) :
    val_main_v473 (F := Ideal) w (ix3 h r q) = Scalar.select (k0_pay109 k0_pay106 k0_pay107 k0_pay108 (ix2 r q)) (w (ix3 h r q)) 0 := by
  rw [mask_eq]
  pointwise [val_main_call6_v0,val_main_call6_v1,val_main_call6_v2,val_main_v473,val_main_v472,val_main_cst_37]
  refine congrArg (Scalar.select _ _) ?_
  exact word_zero

/-- A tile of the mixing over positions: a masked product, a shift and a product with the other half. -/
theorem tile_ref (p : FVec Ideal Cert.Reference14Ideal.S8x4096x1024 .f32) (g b : FVec Ideal Cert.Reference14Ideal.S1x512 .f32) (w : FVec Ideal Cert.Reference14Ideal.S4x128x128 .f32) (e : FVec Ideal Cert.Reference14Ideal.S4x128 .f32)
    (n : Fin 32) (r : Fin 128) (h : Fin 4) (T : Fin 4096) (Q : Fin 512) (hT : T.val = 128 * n.val + r.val) (hQ : Q.val / 128 = h.val)
    (U B : EReal) (V W : Fin 128 → EReal) (hU : U = val_main_v26 (F := Ideal) p (ix2 T Q))
    (hV : ∀ x : Fin 128, V x = val_main_v462 (F := Ideal) p g b (ix2 ⟨128 * n.val + x.val, by omega⟩ Q)) (hW : ∀ x, W x = w (ix3 h r x)) (hB : B = e (ix2 h r)) :
    U * (∑ x, Scalar.select (k0_pay109 k0_pay106 k0_pay107 k0_pay108 (ix2 r x)) (W x * V x) 0 + B) = val_main_v481 (F := Ideal) p g b w e (ix2 T Q) := by
  have hr := r.isLt
  have e0 : (⟨T.val / 128, by omega⟩ : Fin 32) = n := Fin.ext (by show T.val / 128 = n.val; omega)
  have e1 : (⟨T.val % 128, by omega⟩ : Fin 128) = r := Fin.ext (by show T.val % 128 = r.val; omega)
  have e2 : (⟨Q.val / 128, by omega⟩ : Fin 4) = h := Fin.ext hQ
  pointwise [val_main_v474, val_main_v475, val_main_v476, val_main_v477, val_main_v478, val_main_v479, val_main_v480, val_main_v481]
  rw [e0, e1, e2, hU, hB]
  refine congrArg (fun s => _ * (s + _)) (Finset.sum_congr rfl fun x _ => ?_)
  rw [masked_ref, hW, hV]
  have e3 : val_main_v463 (F := Ideal) p g b (ix4 n x h ⟨Q.val % 128, by omega⟩) = val_main_v462 (F := Ideal) p g b (ix2 ⟨128 * n.val + x.val, by omega⟩ Q) := by
    pointwise [val_main_v463]
    refine congrArg (val_main_v462 (F := Ideal) p g b) (congrArg₂ ix2 (Fin.ext ?_) (Fin.ext ?_))
    · show n.val * 128 + x.val = 128 * n.val + x.val
      omega
    · show h.val * 128 + Q.val % 128 = Q.val
      omega
  rw [e3]
  unfold Scalar.select
  split
  · exact mul_comm _ _
  · exact (mul_zero _).symm
end Cert.Kernel14Ideal.Mix
-- ==== Proof.MixPool.lean ====
/- The pooling mixer, point by point: means over the last 2, 4, 8 and 16 rows, their product with a weight and a scale. -/
module

public import proofs.«01_k».proof.Proof.MixPlanes

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

/-- The projected array that is averaged. -/
def poolAll (p : FVec Ideal Cert.Reference14Ideal.S8x4096x1024 .f32) (t : Fin 4096) (q : Fin 512) : EReal := p (ix3 0 t ⟨q.val, by omega⟩)

theorem pool_ref (p : FVec Ideal Cert.Reference14Ideal.S8x4096x1024 .f32) (t : Fin 4096) (q : Fin 512) : val_main_v1 (F := Ideal) p (ix2 t q) = poolAll p t q := by
  unfold poolAll
  pointwise [val_main_v0, val_main_v1]

theorem padded15_ref (p : FVec Ideal Cert.Reference14Ideal.S8x4096x1024 .f32) (n : Fin 4111) (q : Fin 512) :
    val_main_v43 (F := Ideal) p (ix2 n q) = before 32 (poolAll p) (n.val + 17) q := by
  unfold val_main_v43
  refine ((pad_at 15 4111 _ _ (fun i => ?_) _ _ n q).trans ?_).trans (before_shift 15 (by decide) _ _ _)
  · pointwise! [val_main_call0_v0, val_main_c]
    exact zero_word
  · refine congrArg (fun g => before 15 g n.val q) (funext fun t => funext fun q => pool_ref p t q)

theorem count_at (i : grid0.Coords) (T : ℕ) (r : Fin 256) (z : Fin 1) (hT : T = 256 * (i 0).val + r.val) : k0_pay6 i (ix2 r z) = BitVec.ofNat 32 T := by
  pointwise [k0_pay6]
  show BitVec.ofNat 32 (i 0).val * 256#32 + BitVec.ofNat 32 r.val = BitVec.ofNat 32 T
  rw [hT, Nat.mul_comm, BitVec.ofNat_add, BitVec.ofNat_mul]

/-- The averages of group 0: what the point writes, from the loads of the scratch. -/
theorem pool0 (i : grid0.Coords) (v0 v1 : Vec Ideal S256x128 .f32) (w : Vec Ideal S1x128x128 .f32) (s : Vec Ideal S1x128 .f32)
    (p : FVec Ideal Cert.Reference14Ideal.S8x4096x1024 .f32) (W : FVec Ideal Cert.Reference14Ideal.S4x128x128 .f32) (S : FVec Ideal Cert.Reference14Ideal.S1x512 .f32) (z : Fin 1) (r : Fin 256) (q : Fin 128) (T : Fin 4096) (Q : Fin 512)
    (hT : T.val = 256 * (i 0).val + r.val) (hQ : Q.val = 0 + q.val)
    (h0 : ∀ x : Fin 128, v0 (ix2 r x) = before 32 (poolAll p) (15 + T.val + 17) ⟨x.val, by omega⟩)
    (h1 : ∀ x : Fin 128, v1 (ix2 r x) = before 32 (poolAll p) (14 + T.val + 17) ⟨x.val, by omega⟩)
    (hw : ∀ x, w (ix3 0 x q) = W (ix3 0 x q)) (hs : s (ix2 0 q) = S (ix2 0 Q)) :
    k0_pay10 (F := Ideal) (k0_pay9 i v0 v1 v0) w s (ix3 z r q) = val_main_v166 (F := Ideal) p W S (ix2 T Q) := by
  have hq := q.isLt
  have e : val_main_v166 (F := Ideal) p W S (ix2 T Q) = val_main_v62 (F := Ideal) p W (ix2 T q) * S (ix2 0 Q) := by
    pointwise [val_main_v166, val_main_v165, val_main_v164]
    refine congrArg (· * _) ?_
    rw [dif_pos (by omega)]
    refine congrArg (val_main_v62 (F := Ideal) p W) (congrArg (ix2 T) (Fin.ext ?_))
    show Q.val = q.val
    omega
  rw [e, ← hs]
  have hc := count_at i T.val r 0 hT
  pointwise [k0_pay10, k0_pay9, val_main_v44, val_main_c_7, val_main_v45, val_main_v46, val_main_c_8, val_main_v47, val_main_v48, val_main_v49, val_main_v50, val_main_v51, val_main_cst_9, val_main_v52, val_main_v53, val_main_v54, val_main_v55, val_main_v56, val_main_v57, val_main_v58, val_main_v59, val_main_v60, val_main_v61, val_main_v62, val_main_v42]
  refine congrArg (· * _) (Finset.sum_congr rfl fun x _ => ?_)
  rw [hc, hw]
  simp only [h0, h1, padded15_ref]

/-- The averages of group 1: what the point writes, from the loads of the scratch. -/
theorem pool1 (i : grid0.Coords) (v0 v1 v2 v3 : Vec Ideal S256x128 .f32) (w : Vec Ideal S1x128x128 .f32) (s : Vec Ideal S1x128 .f32)
    (p : FVec Ideal Cert.Reference14Ideal.S8x4096x1024 .f32) (W : FVec Ideal Cert.Reference14Ideal.S4x128x128 .f32) (S : FVec Ideal Cert.Reference14Ideal.S1x512 .f32) (z : Fin 1) (r : Fin 256) (q : Fin 128) (T : Fin 4096) (Q : Fin 512)
    (hT : T.val = 256 * (i 0).val + r.val) (hQ : Q.val = 128 + q.val)
    (h0 : ∀ x : Fin 128, v0 (ix2 r x) = before 32 (poolAll p) (15 + T.val + 17) ⟨128 + x.val, by omega⟩)
    (h1 : ∀ x : Fin 128, v1 (ix2 r x) = before 32 (poolAll p) (14 + T.val + 17) ⟨128 + x.val, by omega⟩)
    (h2 : ∀ x : Fin 128, v2 (ix2 r x) = before 32 (poolAll p) (13 + T.val + 17) ⟨128 + x.val, by omega⟩)
    (h3 : ∀ x : Fin 128, v3 (ix2 r x) = before 32 (poolAll p) (12 + T.val + 17) ⟨128 + x.val, by omega⟩)
    (hw : ∀ x, w (ix3 0 x q) = W (ix3 1 x q)) (hs : s (ix2 0 q) = S (ix2 0 Q)) :
    k0_pay12 (F := Ideal) (k0_pay11 (k0_pay6 i) v0 v1 v2 v3 v0 w s) (ix3 z r q) = val_main_v166 (F := Ideal) p W S (ix2 T Q) := by
  have hq := q.isLt
  have e : val_main_v166 (F := Ideal) p W S (ix2 T Q) = val_main_v85 (F := Ideal) p W (ix2 T q) * S (ix2 0 Q) := by
    pointwise [val_main_v166, val_main_v165, val_main_v164]
    refine congrArg (· * _) ?_
    rw [dif_neg (by omega)]
    rw [dif_pos (by omega)]
    refine congrArg (val_main_v85 (F := Ideal) p W) (congrArg (ix2 T) (Fin.ext ?_))
    show Q.val - 128 = q.val
    omega
  rw [e, ← hs]
  have hc := count_at i T.val r 0 hT
  pointwise [k0_pay12, k0_pay11, val_main_v63, val_main_c_10, val_main_v64, val_main_v65, val_main_c_11, val_main_v66, val_main_v67, val_main_v68, val_main_v69, val_main_v70, val_main_cst_12, val_main_v71, val_main_v72, val_main_v73, val_main_v74, val_main_v75, val_main_v76, val_main_v77, val_main_v78, val_main_v79, val_main_v80, val_main_v81, val_main_v82, val_main_v83, val_main_v84, val_main_v85, val_main_v42]
  refine congrArg (· * _) (Finset.sum_congr rfl fun x _ => ?_)
  rw [hc, hw]
  simp only [h0, h1, h2, h3, padded15_ref]

/-- The averages of group 2: what the point writes, from the loads of the scratch. -/
theorem pool2 (i : grid0.Coords) (v0 v1 v2 v3 v4 v5 v6 v7 : Vec Ideal S256x128 .f32) (w : Vec Ideal S1x128x128 .f32) (s : Vec Ideal S1x128 .f32)
    (p : FVec Ideal Cert.Reference14Ideal.S8x4096x1024 .f32) (W : FVec Ideal Cert.Reference14Ideal.S4x128x128 .f32) (S : FVec Ideal Cert.Reference14Ideal.S1x512 .f32) (z : Fin 1) (r : Fin 256) (q : Fin 128) (T : Fin 4096) (Q : Fin 512)
    (hT : T.val = 256 * (i 0).val + r.val) (hQ : Q.val = 256 + q.val)
    (h0 : ∀ x : Fin 128, v0 (ix2 r x) = before 32 (poolAll p) (15 + T.val + 17) ⟨256 + x.val, by omega⟩)
    (h1 : ∀ x : Fin 128, v1 (ix2 r x) = before 32 (poolAll p) (14 + T.val + 17) ⟨256 + x.val, by omega⟩)
    (h2 : ∀ x : Fin 128, v2 (ix2 r x) = before 32 (poolAll p) (13 + T.val + 17) ⟨256 + x.val, by omega⟩)
    (h3 : ∀ x : Fin 128, v3 (ix2 r x) = before 32 (poolAll p) (12 + T.val + 17) ⟨256 + x.val, by omega⟩)
    (h4 : ∀ x : Fin 128, v4 (ix2 r x) = before 32 (poolAll p) (11 + T.val + 17) ⟨256 + x.val, by omega⟩)
    (h5 : ∀ x : Fin 128, v5 (ix2 r x) = before 32 (poolAll p) (10 + T.val + 17) ⟨256 + x.val, by omega⟩)
    (h6 : ∀ x : Fin 128, v6 (ix2 r x) = before 32 (poolAll p) (9 + T.val + 17) ⟨256 + x.val, by omega⟩)
    (h7 : ∀ x : Fin 128, v7 (ix2 r x) = before 32 (poolAll p) (8 + T.val + 17) ⟨256 + x.val, by omega⟩)
    (hw : ∀ x, w (ix3 0 x q) = W (ix3 2 x q)) (hs : s (ix2 0 q) = S (ix2 0 Q)) :
    k0_pay14 (F := Ideal) (k0_pay13 (k0_pay6 i) v0 v1 v2 v3 v4 v5 v6 v7 v0 w) s (ix3 z r q) = val_main_v166 (F := Ideal) p W S (ix2 T Q) := by
  have hq := q.isLt
  have e : val_main_v166 (F := Ideal) p W S (ix2 T Q) = val_main_v116 (F := Ideal) p W (ix2 T q) * S (ix2 0 Q) := by
    pointwise [val_main_v166, val_main_v165, val_main_v164]
    refine congrArg (· * _) ?_
    rw [dif_neg (by omega)]
    rw [dif_neg (by omega)]
    rw [dif_pos (by omega)]
    refine congrArg (val_main_v116 (F := Ideal) p W) (congrArg (ix2 T) (Fin.ext ?_))
    show Q.val - 128 - 128 = q.val
    omega
  rw [e, ← hs]
  have hc := count_at i T.val r 0 hT
  pointwise [k0_pay14, k0_pay13, val_main_v86, val_main_c_13, val_main_v87, val_main_v88, val_main_c_14, val_main_v89, val_main_v90, val_main_v91, val_main_v92, val_main_v93, val_main_cst_15, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v42]
  refine congrArg (· * _) (Finset.sum_congr rfl fun x _ => ?_)
  rw [hc, hw]
  simp only [h0, h1, h2, h3, h4, h5, h6, h7, padded15_ref]

/-- The averages of group 3: what the point writes, from the loads of the scratch. -/
theorem pool3 (i : grid0.Coords) (v0 v1 v2 v3 v4 v5 v6 v7 v8 v9 v10 v11 v12 v13 v14 v15 : Vec Ideal S256x128 .f32) (w : Vec Ideal S1x128x128 .f32) (s : Vec Ideal S1x128 .f32)
    (p : FVec Ideal Cert.Reference14Ideal.S8x4096x1024 .f32) (W : FVec Ideal Cert.Reference14Ideal.S4x128x128 .f32) (S : FVec Ideal Cert.Reference14Ideal.S1x512 .f32) (z : Fin 1) (r : Fin 256) (q : Fin 128) (T : Fin 4096) (Q : Fin 512)
    (hT : T.val = 256 * (i 0).val + r.val) (hQ : Q.val = 384 + q.val)
    (h0 : ∀ x : Fin 128, v0 (ix2 r x) = before 32 (poolAll p) (15 + T.val + 17) ⟨384 + x.val, by omega⟩)
    (h1 : ∀ x : Fin 128, v1 (ix2 r x) = before 32 (poolAll p) (14 + T.val + 17) ⟨384 + x.val, by omega⟩)
    (h2 : ∀ x : Fin 128, v2 (ix2 r x) = before 32 (poolAll p) (13 + T.val + 17) ⟨384 + x.val, by omega⟩)
    (h3 : ∀ x : Fin 128, v3 (ix2 r x) = before 32 (poolAll p) (12 + T.val + 17) ⟨384 + x.val, by omega⟩)
    (h4 : ∀ x : Fin 128, v4 (ix2 r x) = before 32 (poolAll p) (11 + T.val + 17) ⟨384 + x.val, by omega⟩)
    (h5 : ∀ x : Fin 128, v5 (ix2 r x) = before 32 (poolAll p) (10 + T.val + 17) ⟨384 + x.val, by omega⟩)
    (h6 : ∀ x : Fin 128, v6 (ix2 r x) = before 32 (poolAll p) (9 + T.val + 17) ⟨384 + x.val, by omega⟩)
    (h7 : ∀ x : Fin 128, v7 (ix2 r x) = before 32 (poolAll p) (8 + T.val + 17) ⟨384 + x.val, by omega⟩)
    (h8 : ∀ x : Fin 128, v8 (ix2 r x) = before 32 (poolAll p) (7 + T.val + 17) ⟨384 + x.val, by omega⟩)
    (h9 : ∀ x : Fin 128, v9 (ix2 r x) = before 32 (poolAll p) (6 + T.val + 17) ⟨384 + x.val, by omega⟩)
    (h10 : ∀ x : Fin 128, v10 (ix2 r x) = before 32 (poolAll p) (5 + T.val + 17) ⟨384 + x.val, by omega⟩)
    (h11 : ∀ x : Fin 128, v11 (ix2 r x) = before 32 (poolAll p) (4 + T.val + 17) ⟨384 + x.val, by omega⟩)
    (h12 : ∀ x : Fin 128, v12 (ix2 r x) = before 32 (poolAll p) (3 + T.val + 17) ⟨384 + x.val, by omega⟩)
    (h13 : ∀ x : Fin 128, v13 (ix2 r x) = before 32 (poolAll p) (2 + T.val + 17) ⟨384 + x.val, by omega⟩)
    (h14 : ∀ x : Fin 128, v14 (ix2 r x) = before 32 (poolAll p) (1 + T.val + 17) ⟨384 + x.val, by omega⟩)
    (h15 : ∀ x : Fin 128, v15 (ix2 r x) = before 32 (poolAll p) (T.val + 17) ⟨384 + x.val, by omega⟩)
    (hw : ∀ x, w (ix3 0 x q) = W (ix3 3 x q)) (hs : s (ix2 0 q) = S (ix2 0 Q)) :
    k0_pay16 (F := Ideal) (k0_pay6 i) (k0_pay15 v0 v1 v2 v3 v4 v5 v6 v7 v8 v9 v10 v11) v12 v13 v14 v15 v0 w s (ix3 z r q) = val_main_v166 (F := Ideal) p W S (ix2 T Q) := by
  have hq := q.isLt
  have e : val_main_v166 (F := Ideal) p W S (ix2 T Q) = val_main_v163 (F := Ideal) p W (ix2 T q) * S (ix2 0 Q) := by
    pointwise [val_main_v166, val_main_v165, val_main_v164]
    refine congrArg (· * _) ?_
    rw [dif_neg (by omega)]
    rw [dif_neg (by omega)]
    rw [dif_neg (by omega)]

    refine congrArg (val_main_v163 (F := Ideal) p W) (congrArg (ix2 T) (Fin.ext ?_))
    show Q.val - 128 - 128 - 128 = q.val
    omega
  rw [e, ← hs]
  have hc := count_at i T.val r 0 hT
  pointwise [k0_pay16, k0_pay15, val_main_v117, val_main_c_16, val_main_v118, val_main_v119, val_main_c_17, val_main_v120, val_main_v121, val_main_v122, val_main_v123, val_main_v124, val_main_cst_18, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v42]
  refine congrArg (· * _) (Finset.sum_congr rfl fun x _ => ?_)
  rw [hc, hw]
  simp only [h0, h1, h2, h3, h4, h5, h6, h7, h8, h9, h10, h11, h12, h13, h14, h15, padded15_ref]

end Cert.Kernel14Ideal.Mix
-- ==== Proof.MixBlocks.lean ====
/- What a grid point loads and computes, at the rows of the whole arrays. -/
module

public import proofs.«01_k».proof.Proof.MixGating
public import proofs.«01_k».proof.Proof.MixPool

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

variable (m : (ℓ : Loc nD τ sig) → Buf (Elt Ideal) ℓ)

theorem idx' : ∀ t : Fin cfg0.N, win0_0.index t = ![0, t.val, 0] ∧ win0_1.index t = ![0, 8 * t.val - 1, 0] ∧ win0_2.index t = ![0, t.val, 1]
    ∧ win0_3.index t = ![0, 8 * t.val - 1, 1] ∧ win0_4.index t = ![1, t.val, 0] ∧ win0_5.index t = ![1, t.val, 1] ∧ win0_6.index t = ![1, 8 * t.val - 1, 1]
    ∧ win0_11.index t = ![3, t.val, 0] ∧ win0_12.index t = ![3, t.val, 1] :=
  (by decide +kernel : ∀ t : Fin grid0.N, _)

theorem idx'' : ∀ t : Fin cfg0.N, win0_13.index t = ![0, 0, 0] ∧ win0_14.index t = ![0, 0] ∧ win0_15.index t = ![0, 0] ∧ win0_17.index t = ![0, 0] ∧ win0_18.index t = ![0, 0]
    ∧ win0_19.index t = ![0, 0] ∧ win0_20.index t = ![0, 0] ∧ win0_21.index t = ![0, 0, 0] ∧ win0_22.index t = ![0, 0, 0] ∧ win0_23.index t = ![0, t.val, 0] :=
  (by decide +kernel : ∀ t : Fin grid0.N, _)

/-- A load of one of four square blocks of a whole buffer. -/
theorem load3 (a : Memref sig .tc .vmem S4x128x128 .f32) (h : a.IsWhole) (X : Vec Ideal S4x128x128 .f32) (g : ℕ) (inb : ∀ a, (![g, 0, 0] : Fin 3 → ℕ) a + S1x128x128.size a ≤ S4x128x128.size a)
    (hg : g < 4) (z : Fin 1) (r q : Fin 128) :
    View.readAt (Elt Ideal) a.view (Rect.unit (s := S4x128x128) ![g, 0, 0] S1x128x128.size inb).toLoadRect (h.unread X) (ix3 z r q : S1x128x128.Idx) = X (ix3 ⟨g, hg⟩ r q) := by
  rw [Memref.IsWhole.readAt_unread]
  have hz := z.isLt
  refine congrArg X (funext fun a => Fin.ext ?_)
  match a with
  | ⟨0, _⟩ =>
    have e : ((Rect.unit (s := S4x128x128) ![g, 0, 0] S1x128x128.size inb).toLoadRect.idx (ix3 z r q : S1x128x128.Idx) 0).val = g + z.val := ValueKit.rect_emb_unit_val _ _ inb _ 0
    exact e.trans (by show g + z.val = g; omega)
  | ⟨1, _⟩ =>
    have e : ((Rect.unit (s := S4x128x128) ![g, 0, 0] S1x128x128.size inb).toLoadRect.idx (ix3 z r q : S1x128x128.Idx) 1).val = 0 + r.val := ValueKit.rect_emb_unit_val _ _ inb _ 1
    exact e.trans (Nat.zero_add _)
  | ⟨2, _⟩ =>
    have e : ((Rect.unit (s := S4x128x128) ![g, 0, 0] S1x128x128.size inb).toLoadRect.idx (ix3 z r q : S1x128x128.Idx) 2).val = 0 + q.val := ValueKit.rect_emb_unit_val _ _ inb _ 2
    exact e.trans (Nat.zero_add _)

/-- A load of some lanes of a row of a whole buffer. -/
theorem load2 (N : ℕ) (a : Memref sig .tc .vmem ⟨2, ![N, 512]⟩ .f32) (h : a.IsWhole) (X : Vec Ideal ⟨2, ![N, 512]⟩ .f32) (g l w : ℕ) (inb : ∀ a, (![g, l] : Fin 2 → ℕ) a + (![1, w] : Fin 2 → ℕ) a ≤ (![N, 512] : Fin 2 → ℕ) a)
    (hg : g < N) (z : Fin 1) (q : Fin w) (Q : Fin 512) (hQ : Q.val = l + q.val) :
    View.readAt (Elt Ideal) a.view (Rect.unit (s := ⟨2, ![N, 512]⟩) ![g, l] ![1, w] inb).toLoadRect (h.unread X) (ix2 z q : (⟨2, ![1, w]⟩ : Shape).Idx) = X (ix2 ⟨g, hg⟩ Q) := by
  rw [Memref.IsWhole.readAt_unread]
  have hz := z.isLt
  refine congrArg X (funext fun a => Fin.ext ?_)
  match a with
  | ⟨0, _⟩ =>
    have e : ((Rect.unit (s := ⟨2, ![N, 512]⟩) ![g, l] ![1, w] inb).toLoadRect.idx (ix2 z q : (⟨2, ![1, w]⟩ : Shape).Idx) 0).val = g + z.val := ValueKit.rect_emb_unit_val _ _ inb _ 0
    exact e.trans (by show g + z.val = g; omega)
  | ⟨1, _⟩ =>
    have e : ((Rect.unit (s := ⟨2, ![N, 512]⟩) ![g, l] ![1, w] inb).toLoadRect.idx (ix2 z q : (⟨2, ![1, w]⟩ : Shape).Idx) 1).val = l + q.val := ValueKit.rect_emb_unit_val _ _ inb _ 1
    exact e.trans hQ.symm

/-- The first scratch: the rows to be averaged. -/
theorem scr0 (c : Dev nD) (t : Fin cfg0.N) (arg1 : Memref sig .tc .vmem S1x256x512 .f32) (harg1 : arg1.IsWhole) (arg2 : Memref sig .tc .vmem S1x32x512 .f32) (harg2 : arg2.IsWhole)
    (v : View sig .tc .vmem S288x512 .f32) (o l : ℕ) (inb : ∀ a, (![o, l] : Fin 2 → ℕ) a + S256x128.size a ≤ S288x512.size a) (r : Fin 256) (x : Fin 128) (N : ℕ) (Q : Fin 512)
    (hN : N = 256 * t.val + (o + r.val)) (hQ : Q.val = l + x.val) :
    v.readCov (kernelRun0_A.sl.HS0_2 (F := Ideal) c (grid0.coords t) arg1 harg1 arg2 harg2 (iblk m c 0 t) (iblk m c 1 t)) (Rect.unit (s := S288x512) ![o, l] S256x128.size inb).toLoadRect (ix2 r x : S256x128.Idx)
      = before 32 (poolAll (m ((c : Thread nD τ).loc main_arg0))) N Q := by
  have h16 : t.val < 16 := (idx t).2.2.2.2.2.2.2
  unfold kernelRun0_A.sl.HS0_2
  refine read_stacked _ _ _ _ v o l 128 inb (poolAll (m ((c : Thread nD τ).loc main_arg0))) t.val (fun n q => ?_) (fun n q => ?_) (ix2 r x : S256x128.Idx) N Q hN hQ
  · have hn := n.isLt
    pointwise [k0_pay7, Memref.IsWhole.readAt_unread]
    rw [later_at]
    unfold before
    by_cases h0 : t.val = 0
    · rw [if_pos h0, mul_zero, dif_neg (by omega)]
    · rw [if_neg h0, mul_one, dif_pos (by omega)]
      unfold poolAll
      blk_point [iblk, V, idx' t]
  · have hn := n.isLt
    pointwise [k0_pay8, Memref.IsWhole.readAt_unread]
    unfold before
    rw [dif_pos (by omega)]
    unfold poolAll
    blk_point [iblk, V, idx' t]

/-- The second scratch: the rows of the short convolution. -/
theorem scr1 (c : Dev nD) (t : Fin cfg0.N) (arg3 : Memref sig .tc .vmem S1x256x512 .f32) (harg3 : arg3.IsWhole) (arg4 : Memref sig .tc .vmem S1x32x512 .f32) (harg4 : arg4.IsWhole)
    (arg6 : Memref sig .tc .vmem S1x256x512 .f32) (harg6 : arg6.IsWhole) (arg7 : Memref sig .tc .vmem S1x32x512 .f32) (harg7 : arg7.IsWhole)
    (v : View sig .tc .vmem S288x512 .f32) (o : ℕ) (inb : ∀ a, (![o, 0] : Fin 2 → ℕ) a + S256x512.size a ≤ S288x512.size a) (r : Fin 256) (q : Fin 512) (N : ℕ)
    (hN : N = 256 * t.val + (o + r.val)) :
    v.readCov (kernelRun0_A.sl.HS1_2 (F := Ideal) c (grid0.coords t) arg3 harg3 arg4 harg4 arg6 harg6 arg7 harg7 (iblk m c 2 t) (iblk m c 3 t) (iblk m c 5 t) (iblk m c 6 t)) (Rect.unit (s := S288x512) ![o, 0] S256x512.size inb).toLoadRect (ix2 r q : S256x512.Idx)
      = before 32 (prodAll (m ((c : Thread nD τ).loc main_arg0))) N q := by
  have h16 : t.val < 16 := (idx t).2.2.2.2.2.2.2
  unfold kernelRun0_A.sl.HS1_2
  refine read_stacked _ _ _ _ v o 0 512 inb (prodAll (m ((c : Thread nD τ).loc main_arg0))) t.val (fun n q => ?_) (fun n q => ?_) (ix2 r q : S256x512.Idx) N q hN (Nat.zero_add _).symm
  · have hn := n.isLt
    unfold kernelRun0_A.sl.r_5 kernelRun0_A.sl.r_6
    pointwise [k0_pay18, k0_pay17, Memref.IsWhole.readAt_unread]
    rw [later_at]
    unfold before
    by_cases h0 : t.val = 0
    · rw [if_pos h0, mul_zero, dif_neg (by omega)]
    · rw [if_neg h0, mul_one, dif_pos (by omega)]
      unfold prodAll
      blk_point [iblk, V, idx' t]
  · have hn := n.isLt
    pointwise [k0_pay19, Memref.IsWhole.readAt_unread]
    unfold before
    rw [dif_pos (by omega)]
    unfold prodAll
    blk_point [iblk, V, idx' t]

theorem row_in (t : Fin cfg0.N) (r : Fin 256) : 256 * t.val + r.val < 4096 := by
  have h16 : t.val < 16 := (idx t).2.2.2.2.2.2.2
  omega

/-- The convolution's block is the block of the whole array's. -/
theorem conv_blk (c : Dev nD) (t : Fin cfg0.N) (r : Fin 256) (q : Fin 512) :
    conv (rows (grid0.coords t) (iblk m c 7 t) (iblk m c 8 t) (iblk m c 9 t) (iblk m c 10 t)) (iblk m c 16 t) (ix2 r q) = val_main_v417 (F := Ideal) (m ((c : Thread nD τ).loc main_arg0)) (m ((c : Thread nD τ).loc main_arg4)) (ix2 ⟨256 * t.val + r.val, row_in t r⟩ q) := by
  refine Eq.trans ?_ (conv_ref (m ((c : Thread nD τ).loc main_arg0)) (m ((c : Thread nD τ).loc main_arg4)) ⟨256 * t.val + r.val, row_in t r⟩ q).symm
  unfold conv
  refine congrArg sum31 (funext fun k => ?_)
  by_cases hk : k < 31
  · rw [dif_pos hk, dif_pos hk]
    refine congrArg₂ (· * ·) ?_ (rows_at m c t k r.val hk r.isLt q)
    blk_point [iblk, V, idx t]
  · rw [dif_neg hk, dif_neg hk, zero_mul, zero_mul]

theorem gelu_u_blk (c : Dev nD) (t : Fin cfg0.N) (a : Memref sig .tc .vmem S1x256x512 .f32) (h : a.IsWhole) (r : Fin 256) (q : Fin 512) :
    kernelRun0_A.sl.r_89 (F := Ideal) c a h (iblk m c 11 t) (ix2 r q) = val_main_v26 (F := Ideal) (m ((c : Thread nD τ).loc main_arg0)) (ix2 ⟨256 * t.val + r.val, row_in t r⟩ q) := by
  unfold kernelRun0_A.sl.r_89
  refine (gelu_u_at _ r q).trans ((congrArg gelu ?_).trans (gelu_u_ref _ _ _).symm)
  pointwise [Memref.IsWhole.readAt_unread]
  blk_point [iblk, V, idx' t]

theorem norm_v_blk (c : Dev nD) (t : Fin cfg0.N) (a : Memref sig .tc .vmem S1x256x512 .f32) (h : a.IsWhole) (a' : Memref sig .tc .vmem S1x512 .f32) (h' : a'.IsWhole) (a'' : Memref sig .tc .vmem S1x512 .f32) (h'' : a''.IsWhole) (r : Fin 256) (q : Fin 512) :
    kernelRun0_A.sl.r_91 (F := Ideal) c a h a' h' a'' h'' (iblk m c 12 t) (iblk m c 19 t) (iblk m c 20 t) (ix2 r q) = val_main_v462 (F := Ideal) (m ((c : Thread nD τ).loc main_arg0)) (m ((c : Thread nD τ).loc main_arg7)) (m ((c : Thread nD τ).loc main_arg8)) (ix2 ⟨256 * t.val + r.val, row_in t r⟩ q) := by
  unfold kernelRun0_A.sl.r_91
  refine (norm_v_at _ _ _ r q).trans (Eq.trans ?_ (norm_v_ref _ _ _ _ _).symm)
  have e : (fun x => kernelRun0_A.sl.r_90 (F := Ideal) c a h (iblk m c 12 t) (ix2 r x)) = fun x => (val_main_v41 (F := Ideal) (m ((c : Thread nD τ).loc main_arg0)) (ix2 ⟨256 * t.val + r.val, row_in t r⟩ x)) := by
    funext x
    unfold kernelRun0_A.sl.r_90
    refine (gelu_v_at _ r x).trans ((congrArg gelu ?_).trans (gelu_v_ref _ _ _).symm)
    pointwise [Memref.IsWhole.readAt_unread]
    blk_point [iblk, V, idx' t]
  rw [e]
  refine congrArg₂ (fun g b => lnorm _ g b q) ?_ ?_
  · pointwise [Memref.IsWhole.readAt_unread]
    blk_point [iblk, V, idx'' t]
  · pointwise [Memref.IsWhole.readAt_unread]
    blk_point [iblk, V, idx'' t]

theorem pool_w_blk (c : Dev nD) (t : Fin cfg0.N) (g : Fin 4) (r q : Fin 128) : (iblk m c 13 t : Vec Ideal S4x128x128 .f32) (ix3 g r q) = (m ((c : Thread nD τ).loc main_arg1)) (ix3 g r q) := by
  blk_point [iblk, V, idx'' t]

theorem scale_blk (c : Dev nD) (t : Fin cfg0.N) (g : Fin 1) (q : Fin 512) : (iblk m c 14 t : Vec Ideal S1x512 .f32) (ix2 g q) = (m ((c : Thread nD τ).loc main_arg2)) (ix2 0 q) := by
  blk_point [iblk, V, idx'' t]

theorem short_w_blk (c : Dev nD) (t : Fin cfg0.N) (g : Fin 3) (q : Fin 512) : (iblk m c 15 t : Vec Ideal S3x512 .f32) (ix2 g q) = (m ((c : Thread nD τ).loc main_arg3)) (ix2 g q) := by
  blk_point [iblk, V, idx'' t]

theorem mix_w_blk (c : Dev nD) (t : Fin cfg0.N) (g : Fin 4) (r q : Fin 128) : (iblk m c 21 t : Vec Ideal S4x128x128 .f32) (ix3 g r q) = (m ((c : Thread nD τ).loc main_arg9)) (ix3 g r q) := by
  blk_point [iblk, V, idx'' t]

theorem mix_b_blk (c : Dev nD) (t : Fin cfg0.N) (g : Fin 4) (r q : Fin 128) : (iblk m c 22 t : Vec Ideal S4x128x128 .f32) (ix3 g r q) = (m ((c : Thread nD τ).loc main_arg10)) (ix2 g r) := by
  blk_point [iblk, V, idx'' t]

theorem tile_a0 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (0 + r.val)) (hQ : Q.val = 0 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 0 i j)) (hb : b (ix3 0 r q) = e (ix2 0 r)) :
    k0_pay112 (F := Ideal) (k0_pay111 u v k0_pay106 k0_pay107 k0_pay108 w b) (ix3 z r q) = val_main_v481 (F := Ideal) p g s W e (ix2 T Q) := by
  have hr := r.isLt
  have hq := q.isLt
  have eQ : (⟨q.val, by omega⟩ : Fin 512) = Q := Fin.ext (by show q.val = Q.val; omega)
  pointwise [k0_pay112, k0_pay111, k0_pay110]
  refine tile_ref p g s W e ⟨2 * t.val + 0, by omega⟩ r 0 T Q (by show T.val = 128 * (2 * t.val + 0) + r.val; omega) (by show Q.val / 128 = 0; omega) _ _ _ _ ?_ (fun x => ?_) (fun x => hw r x) hb
  · rw [hu, eQ]
    exact congrArg (fun k => val_main_v26 (F := Ideal) p (ix2 k Q)) (Fin.ext (by show 256 * t.val + (r.val) = T.val; omega))
  · rw [hv, eQ]
    exact congrArg (fun k => val_main_v462 (F := Ideal) p g s (ix2 k Q)) (Fin.ext (by show 256 * t.val + (x.val) = 128 * (2 * t.val + 0) + x.val; omega))

theorem tile_b0 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (128 + r.val)) (hQ : Q.val = 0 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 0 i j)) (hb : b (ix3 0 r q) = e (ix2 0 r)) :
    k0_pay113 (F := Ideal) u v (k0_pay110 k0_pay106 k0_pay107 k0_pay108 w) b (ix3 z r q) = val_main_v481 (F := Ideal) p g s W e (ix2 T Q) := by
  have hr := r.isLt
  have hq := q.isLt
  have eQ : (⟨q.val, by omega⟩ : Fin 512) = Q := Fin.ext (by show q.val = Q.val; omega)
  pointwise [k0_pay113, k0_pay110]
  refine tile_ref p g s W e ⟨2 * t.val + 1, by omega⟩ r 0 T Q (by show T.val = 128 * (2 * t.val + 1) + r.val; omega) (by show Q.val / 128 = 0; omega) _ _ _ _ ?_ (fun x => ?_) (fun x => hw r x) hb
  · rw [hu, eQ]
    exact congrArg (fun k => val_main_v26 (F := Ideal) p (ix2 k Q)) (Fin.ext (by show 256 * t.val + (128 + r.val) = T.val; omega))
  · rw [hv, eQ]
    exact congrArg (fun k => val_main_v462 (F := Ideal) p g s (ix2 k Q)) (Fin.ext (by show 256 * t.val + (128 + x.val) = 128 * (2 * t.val + 1) + x.val; omega))

theorem tile_a1 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (0 + r.val)) (hQ : Q.val = 128 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 1 i j)) (hb : b (ix3 0 r q) = e (ix2 1 r)) :
    k0_pay115 (F := Ideal) u v (k0_pay109 k0_pay106 k0_pay107 k0_pay108) w b (ix3 z r q) = val_main_v481 (F := Ideal) p g s W e (ix2 T Q) := by
  have hr := r.isLt
  have hq := q.isLt
  have eQ : (⟨128 + q.val, by omega⟩ : Fin 512) = Q := Fin.ext (by show 128 + q.val = Q.val; omega)
  pointwise [k0_pay115, k0_pay114]
  refine tile_ref p g s W e ⟨2 * t.val + 0, by omega⟩ r 1 T Q (by show T.val = 128 * (2 * t.val + 0) + r.val; omega) (by show Q.val / 128 = 1; omega) _ _ _ _ ?_ (fun x => ?_) (fun x => hw r x) hb
  · rw [hu, eQ]
    exact congrArg (fun k => val_main_v26 (F := Ideal) p (ix2 k Q)) (Fin.ext (by show 256 * t.val + (r.val) = T.val; omega))
  · rw [hv, eQ]
    exact congrArg (fun k => val_main_v462 (F := Ideal) p g s (ix2 k Q)) (Fin.ext (by show 256 * t.val + (x.val) = 128 * (2 * t.val + 0) + x.val; omega))

theorem tile_b1 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (128 + r.val)) (hQ : Q.val = 128 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 1 i j)) (hb : b (ix3 0 r q) = e (ix2 1 r)) :
    k0_pay117 (F := Ideal) u (k0_pay116 v (k0_pay109 k0_pay106 k0_pay107 k0_pay108) w) b (ix3 z r q) = val_main_v481 (F := Ideal) p g s W e (ix2 T Q) := by
  have hr := r.isLt
  have hq := q.isLt
  have eQ : (⟨128 + q.val, by omega⟩ : Fin 512) = Q := Fin.ext (by show 128 + q.val = Q.val; omega)
  pointwise [k0_pay117, k0_pay116, k0_pay114]
  refine tile_ref p g s W e ⟨2 * t.val + 1, by omega⟩ r 1 T Q (by show T.val = 128 * (2 * t.val + 1) + r.val; omega) (by show Q.val / 128 = 1; omega) _ _ _ _ ?_ (fun x => ?_) (fun x => hw r x) hb
  · rw [hu, eQ]
    exact congrArg (fun k => val_main_v26 (F := Ideal) p (ix2 k Q)) (Fin.ext (by show 256 * t.val + (128 + r.val) = T.val; omega))
  · rw [hv, eQ]
    exact congrArg (fun k => val_main_v462 (F := Ideal) p g s (ix2 k Q)) (Fin.ext (by show 256 * t.val + (128 + x.val) = 128 * (2 * t.val + 1) + x.val; omega))

theorem tile_a2 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (0 + r.val)) (hQ : Q.val = 256 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 2 i j)) (hb : b (ix3 0 r q) = e (ix2 2 r)) :
    k0_pay119 (F := Ideal) u v (k0_pay109 k0_pay106 k0_pay107 k0_pay108) w b (ix3 z r q) = val_main_v481 (F := Ideal) p g s W e (ix2 T Q) := by
  have hr := r.isLt
  have hq := q.isLt
  have eQ : (⟨256 + q.val, by omega⟩ : Fin 512) = Q := Fin.ext (by show 256 + q.val = Q.val; omega)
  pointwise [k0_pay119, k0_pay118]
  refine tile_ref p g s W e ⟨2 * t.val + 0, by omega⟩ r 2 T Q (by show T.val = 128 * (2 * t.val + 0) + r.val; omega) (by show Q.val / 128 = 2; omega) _ _ _ _ ?_ (fun x => ?_) (fun x => hw r x) hb
  · rw [hu, eQ]
    exact congrArg (fun k => val_main_v26 (F := Ideal) p (ix2 k Q)) (Fin.ext (by show 256 * t.val + (r.val) = T.val; omega))
  · rw [hv, eQ]
    exact congrArg (fun k => val_main_v462 (F := Ideal) p g s (ix2 k Q)) (Fin.ext (by show 256 * t.val + (x.val) = 128 * (2 * t.val + 0) + x.val; omega))

theorem tile_b2 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (128 + r.val)) (hQ : Q.val = 256 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 2 i j)) (hb : b (ix3 0 r q) = e (ix2 2 r)) :
    k0_pay1 (F := Ideal) (k0_pay120 u v (k0_pay109 k0_pay106 k0_pay107 k0_pay108) w b) (ix3 z r q) = val_main_v481 (F := Ideal) p g s W e (ix2 T Q) := by
  have hr := r.isLt
  have hq := q.isLt
  have eQ : (⟨256 + q.val, by omega⟩ : Fin 512) = Q := Fin.ext (by show 256 + q.val = Q.val; omega)
  pointwise [k0_pay1, k0_pay120, k0_pay118]
  refine tile_ref p g s W e ⟨2 * t.val + 1, by omega⟩ r 2 T Q (by show T.val = 128 * (2 * t.val + 1) + r.val; omega) (by show Q.val / 128 = 2; omega) _ _ _ _ ?_ (fun x => ?_) (fun x => hw r x) hb
  · rw [hu, eQ]
    exact congrArg (fun k => val_main_v26 (F := Ideal) p (ix2 k Q)) (Fin.ext (by show 256 * t.val + (128 + r.val) = T.val; omega))
  · rw [hv, eQ]
    exact congrArg (fun k => val_main_v462 (F := Ideal) p g s (ix2 k Q)) (Fin.ext (by show 256 * t.val + (128 + x.val) = 128 * (2 * t.val + 1) + x.val; omega))

theorem tile_a3 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (0 + r.val)) (hQ : Q.val = 384 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 3 i j)) (hb : b (ix3 0 r q) = e (ix2 3 r)) :
    k0_pay3 (F := Ideal) u v (k0_pay109 k0_pay106 k0_pay107 k0_pay108) w b (ix3 z r q) = val_main_v481 (F := Ideal) p g s W e (ix2 T Q) := by
  have hr := r.isLt
  have hq := q.isLt
  have eQ : (⟨384 + q.val, by omega⟩ : Fin 512) = Q := Fin.ext (by show 384 + q.val = Q.val; omega)
  pointwise [k0_pay3, k0_pay2]
  refine tile_ref p g s W e ⟨2 * t.val + 0, by omega⟩ r 3 T Q (by show T.val = 128 * (2 * t.val + 0) + r.val; omega) (by show Q.val / 128 = 3; omega) _ _ _ _ ?_ (fun x => ?_) (fun x => hw r x) hb
  · rw [hu, eQ]
    exact congrArg (fun k => val_main_v26 (F := Ideal) p (ix2 k Q)) (Fin.ext (by show 256 * t.val + (r.val) = T.val; omega))
  · rw [hv, eQ]
    exact congrArg (fun k => val_main_v462 (F := Ideal) p g s (ix2 k Q)) (Fin.ext (by show 256 * t.val + (x.val) = 128 * (2 * t.val + 0) + x.val; omega))

theorem tile_b3 (u v : FVec Ideal S256x512 .f32) (w b : Vec Ideal S1x128x128 .f32) (p : FVec Ideal Cert.Reference14Ideal.S8x4096x1024 .f32) (g s : FVec Ideal Cert.Reference14Ideal.S1x512 .f32)
    (W : FVec Ideal Cert.Reference14Ideal.S4x128x128 .f32) (e : FVec Ideal Cert.Reference14Ideal.S4x128 .f32) (t : Fin 16) (z : Fin 1) (r q : Fin 128) (T : Fin 4096) (Q : Fin 512)
    (hT : T.val = 256 * t.val + (128 + r.val)) (hQ : Q.val = 384 + q.val)
    (hu : ∀ (R : Fin 256) (C : Fin 512), u (ix2 R C) = val_main_v26 (F := Ideal) p (ix2 ⟨256 * t.val + R.val, by omega⟩ C))
    (hv : ∀ (R : Fin 256) (C : Fin 512), v (ix2 R C) = val_main_v462 (F := Ideal) p g s (ix2 ⟨256 * t.val + R.val, by omega⟩ C))
    (hw : ∀ i j : Fin 128, w (ix3 0 i j) = W (ix3 3 i j)) (hb : b (ix3 0 r q) = e (ix2 3 r)) :
    k0_pay4 (F := Ideal) u v (k0_pay109 k0_pay106 k0_pay107 k0_pay108) w b (ix3 z r q) = val_main_v481 (F := Ideal) p g s W e (ix2 T Q) := by
  have hr := r.isLt
  have hq := q.isLt
  have eQ : (⟨384 + q.val, by omega⟩ : Fin 512) = Q := Fin.ext (by show 384 + q.val = Q.val; omega)
  pointwise [k0_pay4, k0_pay2]
  refine tile_ref p g s W e ⟨2 * t.val + 1, by omega⟩ r 3 T Q (by show T.val = 128 * (2 * t.val + 1) + r.val; omega) (by show Q.val / 128 = 3; omega) _ _ _ _ ?_ (fun x => ?_) (fun x => hw r x) hb
  · rw [hu, eQ]
    exact congrArg (fun k => val_main_v26 (F := Ideal) p (ix2 k Q)) (Fin.ext (by show 256 * t.val + (128 + r.val) = T.val; omega))
  · rw [hv, eQ]
    exact congrArg (fun k => val_main_v462 (F := Ideal) p g s (ix2 k Q)) (Fin.ext (by show 256 * t.val + (128 + x.val) = 128 * (2 * t.val + 1) + x.val; omega))

end Cert.Kernel14Ideal.Mix
-- ==== Proof.MixForward.lean ====
/- The mixers' whole result: the four arrays laid on one another, every grid point writing 256 rows of each. -/
module

public import proofs.«01_k».proof.Proof.MixBlocks

@[expose] public section

set_option maxRecDepth 16384

noncomputable section

open Idealize.ShloMosaic Idealize.ShloMosaic.TcCoe Idealize.SL.Sem
open Idealize.ShloMosaic.Pipeline (Dat)

namespace Cert.Kernel14Ideal.Mix
open Cert.Kernel14Ideal Cert.Kernel14Ideal.Gen Cert.Reference14Ideal.Read

/-- The four arrays laid on one another, read in the first. -/
theorem ref0 (p : FVec Ideal Cert.Reference14Ideal.S8x4096x1024 .f32) (pw : FVec Ideal Cert.Reference14Ideal.S4x128x128 .f32) (ps : FVec Ideal Cert.Reference14Ideal.S1x512 .f32) (sw : FVec Ideal Cert.Reference14Ideal.S3x512 .f32)
    (cw : FVec Ideal Cert.Reference14Ideal.S31x512 .f32) (cg : FVec Ideal Cert.Reference14Ideal.S1x512 .f32) (cb : FVec Ideal Cert.Reference14Ideal.S1x512 .f32) (sg : FVec Ideal Cert.Reference14Ideal.S1x512 .f32)
    (sb : FVec Ideal Cert.Reference14Ideal.S1x512 .f32) (gw : FVec Ideal Cert.Reference14Ideal.S4x128x128 .f32) (gb : FVec Ideal Cert.Reference14Ideal.S4x128 .f32) (T : Fin 4096) (Q : Fin 512) :
    val_main_v487 (F := Ideal) p pw ps sw cw cg cb sg sb gw gb (ix3 0 T Q) = val_main_v166 (F := Ideal) p pw ps (ix2 T Q) := by
  pointwise [val_main_v487, val_main_v486, val_main_v485, val_main_v484, val_main_v483, val_main_v482]

/-- Read in the second. -/
theorem ref1 (p : FVec Ideal Cert.Reference14Ideal.S8x4096x1024 .f32) (pw : FVec Ideal Cert.Reference14Ideal.S4x128x128 .f32) (ps : FVec Ideal Cert.Reference14Ideal.S1x512 .f32) (sw : FVec Ideal Cert.Reference14Ideal.S3x512 .f32)
    (cw : FVec Ideal Cert.Reference14Ideal.S31x512 .f32) (cg : FVec Ideal Cert.Reference14Ideal.S1x512 .f32) (cb : FVec Ideal Cert.Reference14Ideal.S1x512 .f32) (sg : FVec Ideal Cert.Reference14Ideal.S1x512 .f32)
    (sb : FVec Ideal Cert.Reference14Ideal.S1x512 .f32) (gw : FVec Ideal Cert.Reference14Ideal.S4x128x128 .f32) (gb : FVec Ideal Cert.Reference14Ideal.S4x128 .f32) (T : Fin 4096) (Q : Fin 512) :
    val_main_v487 (F := Ideal) p pw ps sw cw cg cb sg sb gw gb (ix3 1 T Q) = val_main_v191 (F := Ideal) p sw (ix2 T Q) := by
  pointwise [val_main_v487, val_main_v486, val_main_v485, val_main_v484, val_main_v483, val_main_v482]

/-- Read in the third. -/
theorem ref2 (p : FVec Ideal Cert.Reference14Ideal.S8x4096x1024 .f32) (pw : FVec Ideal Cert.Reference14Ideal.S4x128x128 .f32) (ps : FVec Ideal Cert.Reference14Ideal.S1x512 .f32) (sw : FVec Ideal Cert.Reference14Ideal.S3x512 .f32)
    (cw : FVec Ideal Cert.Reference14Ideal.S31x512 .f32) (cg : FVec Ideal Cert.Reference14Ideal.S1x512 .f32) (cb : FVec Ideal Cert.Reference14Ideal.S1x512 .f32) (sg : FVec Ideal Cert.Reference14Ideal.S1x512 .f32)
    (sb : FVec Ideal Cert.Reference14Ideal.S1x512 .f32) (gw : FVec Ideal Cert.Reference14Ideal.S4x128x128 .f32) (gb : FVec Ideal Cert.Reference14Ideal.S4x128 .f32) (T : Fin 4096) (Q : Fin 512) :
    val_main_v487 (F := Ideal) p pw ps sw cw cg cb sg sb gw gb (ix3 2 T Q) = val_main_v440 (F := Ideal) p cw cg cb (ix2 T Q) := by
  pointwise [val_main_v487, val_main_v486, val_main_v485, val_main_v484, val_main_v483, val_main_v482]

/-- Read in the fourth. -/
theorem ref3 (p : FVec Ideal Cert.Reference14Ideal.S8x4096x1024 .f32) (pw : FVec Ideal Cert.Reference14Ideal.S4x128x128 .f32) (ps : FVec Ideal Cert.Reference14Ideal.S1x512 .f32) (sw : FVec Ideal Cert.Reference14Ideal.S3x512 .f32)
    (cw : FVec Ideal Cert.Reference14Ideal.S31x512 .f32) (cg : FVec Ideal Cert.Reference14Ideal.S1x512 .f32) (cb : FVec Ideal Cert.Reference14Ideal.S1x512 .f32) (sg : FVec Ideal Cert.Reference14Ideal.S1x512 .f32)
    (sb : FVec Ideal Cert.Reference14Ideal.S1x512 .f32) (gw : FVec Ideal Cert.Reference14Ideal.S4x128x128 .f32) (gb : FVec Ideal Cert.Reference14Ideal.S4x128 .f32) (T : Fin 4096) (Q : Fin 512) :
    val_main_v487 (F := Ideal) p pw ps sw cw cg cb sg sb gw gb (ix3 3 T Q) = val_main_v481 (F := Ideal) p sg sb gw gb (ix2 T Q) := by
  pointwise [val_main_v487, val_main_v486, val_main_v485, val_main_v484, val_main_v483, val_main_v482]

variable (m : (ℓ : Loc nD τ sig) → Buf (Elt Ideal) ℓ)

/-- The reference's result of the kernel's own arguments. -/
def refAll (c : Dev nD) : FVec Ideal Cert.Reference14Ideal.S4x4096x512 .bf16 := val_main_v487 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The rows of it that a grid point writes. -/
def block (c : Dev nD) (t : Fin cfg0.N) : Vec Ideal S4x256x512 .bf16 := fun y => refAll m c (ix3 (y 0) ⟨256 * t.val + (y 1).val, row_in t (y 1)⟩ (y 2))

/-- One piece of a point's writes, from its values at the rows and lanes of the whole result. -/
theorem piece_of (c : Dev nD) (t : Fin cfg0.N) (K o l n w : ℕ) (inb : ∀ a, (![K, o, l] : Fin 3 → ℕ) a + (![1, n, w] : Fin 3 → ℕ) a ≤ S4x256x512.size a) (hK : K < 4)
    (f : Vec Ideal ⟨3, ![1, n, w]⟩ .bf16)
    (h : ∀ (z : Fin 1) (r : Fin n) (q : Fin w) (T : Fin 4096) (Q : Fin 512), T.val = 256 * t.val + (o + r.val) → Q.val = l + q.val → f (ix3 z r q) = refAll m c (ix3 ⟨K, hK⟩ T Q))
    (x : (Rect.unit (s := S4x256x512) ![K, o, l] ![1, n, w] inb).shape.Idx) :
    f x = block m c t ((Rect.unit (s := S4x256x512) ![K, o, l] ![1, n, w] inb).emb x) := by
  have e0 : ((Rect.unit (s := S4x256x512) ![K, o, l] ![1, n, w] inb).emb x 0).val = K + (x 0).val := ValueKit.rect_emb_unit_val _ _ inb x 0
  have e1 : ((Rect.unit (s := S4x256x512) ![K, o, l] ![1, n, w] inb).emb x 1).val = o + (x 1).val := ValueKit.rect_emb_unit_val _ _ inb x 1
  have e2 : ((Rect.unit (s := S4x256x512) ![K, o, l] ![1, n, w] inb).emb x 2).val = l + (x 2).val := ValueKit.rect_emb_unit_val _ _ inb x 2
  have h0 : (x 0).val < 1 := (x 0).isLt
  have hx : x = (ix3 (x 0) (x 1) (x 2) : (⟨3, ![1, n, w]⟩ : Shape).Idx) := by
    funext a
    match a with
    | ⟨0, _⟩ => rfl
    | ⟨1, _⟩ => rfl
    | ⟨2, _⟩ => rfl
  have hT : 256 * t.val + (o + (x 1).val) < 4096 := e1 ▸ row_in t ((Rect.unit (s := S4x256x512) ![K, o, l] ![1, n, w] inb).emb x 1)
  have hQ : l + (x 2).val < 512 := e2 ▸ ((Rect.unit (s := S4x256x512) ![K, o, l] ![1, n, w] inb).emb x 2).isLt
  refine (congrArg f hx).trans ((h (x 0) (x 1) (x 2) ⟨_, hT⟩ ⟨_, hQ⟩ rfl rfl).trans ?_)
  refine congrArg (refAll m c) (funext fun a => Fin.ext ?_)
  match a with
  | ⟨0, _⟩ => exact (show K = K + (x 0).val by omega).trans e0.symm
  | ⟨1, _⟩ => exact congrArg (256 * t.val + ·) e1.symm
  | ⟨2, _⟩ => exact e2.symm

theorem mem_piece (K o l n w : ℕ) (inb : ∀ a, (![K, o, l] : Fin 3 → ℕ) a + (![1, n, w] : Fin 3 → ℕ) a ≤ S4x256x512.size a) (y : S4x256x512.Idx)
    (h0 : (y 0).val = K) (h1 : o ≤ (y 1).val) (h1' : (y 1).val < o + n) (h2 : l ≤ (y 2).val) (h2' : (y 2).val < l + w) : y ∈ (Rect.unit (s := S4x256x512) ![K, o, l] ![1, n, w] inb).set := by
  refine Rect.mem_set_unit.2 fun a => ?_
  match a with
  | ⟨0, _⟩ => exact ⟨h0.ge, (show (y 0).val < K + 1 by omega)⟩
  | ⟨1, _⟩ => exact ⟨h1, h1'⟩
  | ⟨2, _⟩ => exact ⟨h2, h2'⟩

/-- The convolution read back by the point that has just written it. -/
theorem conv_read (c : Dev nD) (t : Fin cfg0.N) (arg8 : Memref sig .tc .vmem S1x256x512 .f32) (harg8 : arg8.IsWhole) (arg9 : Memref sig .tc .vmem S1x32x512 .f32) (harg9 : arg9.IsWhole)
    (arg10 : Memref sig .tc .vmem S1x256x512 .f32) (harg10 : arg10.IsWhole) (arg11 : Memref sig .tc .vmem S1x32x512 .f32) (harg11 : arg11.IsWhole) (arg17 : Memref sig .tc .vmem S31x512 .f32) (harg17 : arg17.IsWhole)
    (arg25 : Memref sig .tc .vmem S256x512 .f32) (arg28 : Memref sig .tc .vmem S8x288x512 .f32) (r : Fin 256) (q : Fin 512) (T : Fin 4096) (hT : T.val = 256 * t.val + r.val) :
    kernelRun0_A.sl.v1752 (F := Ideal) c (grid0.coords t) arg8 harg8 arg9 harg9 arg10 harg10 arg11 harg11 arg17 harg17 arg25 arg28 (iblk m c 7 t) (iblk m c 8 t) (iblk m c 9 t) (iblk m c 10 t) (iblk m c 16 t) (ix2 r q)
      = val_main_v417 (F := Ideal) (m ((c : Thread nD τ).loc main_arg0)) (m ((c : Thread nD τ).loc main_arg4)) (ix2 T q) := by
  have e : T = ⟨256 * t.val + r.val, row_in t r⟩ := Fin.ext hT
  unfold kernelRun0_A.sl.v1752
  rw [e, View.readCov_eq_canon']
  have e0 : ((Rect.unit (s := S256x512) ![0, 0] S256x512.size inb_S256x512_S256x512_0_0).toLoadRect.idx (ix2 r q : S256x512.Idx) 0).val = 0 + r.val := ValueKit.rect_emb_unit_val _ _ _ _ 0
  have e1 : ((Rect.unit (s := S256x512) ![0, 0] S256x512.size inb_S256x512_S256x512_0_0).toLoadRect.idx (ix2 r q : S256x512.Idx) 1).val = 0 + q.val := ValueKit.rect_emb_unit_val _ _ _ _ 1
  refine (conv_out _ _ _ _ _ _ _ _ _ _ _ _ _ _ _ _ _ _ _).trans (Eq.trans (congrArg (conv _ _) ?_) (conv_blk m c t r q))
  funext a
  match a with
  | ⟨0, _⟩ => exact Fin.ext (e0.trans (Nat.zero_add _))
  | ⟨1, _⟩ => exact Fin.ext (e1.trans (Nat.zero_add _))

theorem cln_g_blk (c : Dev nD) (t : Fin cfg0.N) (q : Fin 512) : (iblk m c 17 t : Vec Ideal S1x512 .f32) (ix2 0 q) = (m ((c : Thread nD τ).loc main_arg5)) (ix2 0 q) := by
  blk_point [iblk, V, idx'' t]

theorem cln_b_blk (c : Dev nD) (t : Fin cfg0.N) (q : Fin 512) : (iblk m c 18 t : Vec Ideal S1x512 .f32) (ix2 0 q) = (m ((c : Thread nD τ).loc main_arg6)) (ix2 0 q) := by
  blk_point [iblk, V, idx'' t]

theorem gate_blk (c : Dev nD) (t : Fin cfg0.N) (a : Memref sig .tc .vmem S1x256x512 .f32) (h : a.IsWhole) (r : Fin 256) (q : Fin 512) (T : Fin 4096) (hT : T.val = 256 * t.val + r.val) :
    View.readAt (Elt Ideal) a.view (Rect.unit (s := S1x256x512) ![0, 0, 0] S1x256x512.size inb_S1x256x512_S1x256x512_0_0_0).toLoadRect (h.unread (iblk m c 4 t)) (ix3 0 r q : S1x256x512.Idx)
      = (m ((c : Thread nD τ).loc main_arg0)) (ix3 1 T ⟨q.val, by omega⟩) := by
  have e : T = ⟨256 * t.val + r.val, row_in t r⟩ := Fin.ext hT
  rw [e]
  pointwise [Memref.IsWhole.readAt_unread]
  blk_point [iblk, V, idx' t]

/-- A point's pieces, when they are pieces of one array and one of them holds the index. -/
theorem canon_whole (G : Vec Ideal S4x256x512 .bf16) (L : List (View.Piece (Elt Ideal) S4x256x512 .bf16)) (y : S4x256x512.Idx) (hp : View.PiecesOf G L) (hc : ∃ p ∈ L, y ∈ p.1.set) :
    View.canon L y = G y := by
  have h := View.canon_append_of_piecesOf G [] L hp y hc
  rwa [List.append_nil] at h

set_option maxHeartbeats 4000000 in
/-- The result of the four mixers, laid on one another: every grid point writes its rows of it. -/
theorem final23 (c : Dev nD) : (dats m 0 c).arrAt 23 cfg0.N = refAll m c := by
  refine (dats m 0 c).arrAt_eq_of_covers 23 _ (by decide +kernel) fun t hf y => ?_
  have h16 : t.val < 16 := (idx t).2.2.2.2.2.2.2
  blk_simp
  rw [after0_23]
  unfold outsAt0 out0_A_23 kernelRun0_A
  dsimp only
  rw [View.read_writes_junk_eq_canon]
  refine (canon_whole (block m c t) _ y ?_ ?_).trans ?_
  · refine ⟨piece_of m c t 3 128 384 128 128 (by decide) (by decide) _ (fun z r q T Q hT hQ => ?p0),
    piece_of m c t 3 0 384 128 128 (by decide) (by decide) _ (fun z r q T Q hT hQ => ?p1),
    piece_of m c t 3 128 256 128 128 (by decide) (by decide) _ (fun z r q T Q hT hQ => ?p2),
    piece_of m c t 3 0 256 128 128 (by decide) (by decide) _ (fun z r q T Q hT hQ => ?p3),
    piece_of m c t 3 128 128 128 128 (by decide) (by decide) _ (fun z r q T Q hT hQ => ?p4),
    piece_of m c t 3 0 128 128 128 (by decide) (by decide) _ (fun z r q T Q hT hQ => ?p5),
    piece_of m c t 3 128 0 128 128 (by decide) (by decide) _ (fun z r q T Q hT hQ => ?p6),
    piece_of m c t 3 0 0 128 128 (by decide) (by decide) _ (fun z r q T Q hT hQ => ?p7),
    piece_of m c t 2 0 0 256 512 (by decide) (by decide) _ (fun z r q T Q hT hQ => ?p8),
    piece_of m c t 1 0 0 256 512 (by decide) (by decide) _ (fun z r q T Q hT hQ => ?p9),
    piece_of m c t 0 0 384 256 128 (by decide) (by decide) _ (fun z r q T Q hT hQ => ?p10),
    piece_of m c t 0 0 256 256 128 (by decide) (by decide) _ (fun z r q T Q hT hQ => ?p11),
    piece_of m c t 0 0 128 256 128 (by decide) (by decide) _ (fun z r q T Q hT hQ => ?p12),
    piece_of m c t 0 0 0 256 128 (by decide) (by decide) _ (fun z r q T Q hT hQ => ?p13), trivial⟩
    · exact (tile_b3 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 3 (by decide) (by decide) 0 i j).trans (mix_w_blk m c t 3 i j))
      ((load3 _ _ _ 3 (by decide) (by decide) 0 r q).trans (mix_b_blk m c t 3 r q))).trans (ref3 _ _ _ _ _ _ _ _ _ _ _ T Q).symm
    · exact (tile_a3 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 3 (by decide) (by decide) 0 i j).trans (mix_w_blk m c t 3 i j))
      ((load3 _ _ _ 3 (by decide) (by decide) 0 r q).trans (mix_b_blk m c t 3 r q))).trans (ref3 _ _ _ _ _ _ _ _ _ _ _ T Q).symm
    · exact (tile_b2 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 2 (by decide) (by decide) 0 i j).trans (mix_w_blk m c t 2 i j))
      ((load3 _ _ _ 2 (by decide) (by decide) 0 r q).trans (mix_b_blk m c t 2 r q))).trans (ref3 _ _ _ _ _ _ _ _ _ _ _ T Q).symm
    · exact (tile_a2 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 2 (by decide) (by decide) 0 i j).trans (mix_w_blk m c t 2 i j))
      ((load3 _ _ _ 2 (by decide) (by decide) 0 r q).trans (mix_b_blk m c t 2 r q))).trans (ref3 _ _ _ _ _ _ _ _ _ _ _ T Q).symm
    · exact (tile_b1 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 1 (by decide) (by decide) 0 i j).trans (mix_w_blk m c t 1 i j))
      ((load3 _ _ _ 1 (by decide) (by decide) 0 r q).trans (mix_b_blk m c t 1 r q))).trans (ref3 _ _ _ _ _ _ _ _ _ _ _ T Q).symm
    · exact (tile_a1 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 1 (by decide) (by decide) 0 i j).trans (mix_w_blk m c t 1 i j))
      ((load3 _ _ _ 1 (by decide) (by decide) 0 r q).trans (mix_b_blk m c t 1 r q))).trans (ref3 _ _ _ _ _ _ _ _ _ _ _ T Q).symm
    · exact (tile_b0 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 0 (by decide) (by decide) 0 i j).trans (mix_w_blk m c t 0 i j))
      ((load3 _ _ _ 0 (by decide) (by decide) 0 r q).trans (mix_b_blk m c t 0 r q))).trans (ref3 _ _ _ _ _ _ _ _ _ _ _ T Q).symm
    · exact (tile_a0 _ _ _ _ (m ((c : Thread nD τ).loc main_arg0)) (m ((c : Thread nD τ).loc main_arg7)) (m ((c : Thread nD τ).loc main_arg8)) (m ((c : Thread nD τ).loc main_arg9)) (m ((c : Thread nD τ).loc main_arg10)) ⟨t.val, h16⟩ z r q T Q hT hQ
      (fun R C => gelu_u_blk m c t _ _ R C) (fun R C => norm_v_blk m c t _ _ _ _ _ _ R C) (fun i j => (load3 _ _ _ 0 (by decide) (by decide) 0 i j).trans (mix_w_blk m c t 0 i j))
      ((load3 _ _ _ 0 (by decide) (by decide) 0 r q).trans (mix_b_blk m c t 0 r q))).trans (ref3 _ _ _ _ _ _ _ _ _ _ _ T Q).symm
    · exact (plane2 _ _ _ (m ((c : Thread nD τ).loc main_arg0)) (m ((c : Thread nD τ).loc main_arg4)) (m ((c : Thread nD τ).loc main_arg5)) (m ((c : Thread nD τ).loc main_arg6)) z r q T (fun x => conv_read m c t _ _ _ _ _ _ _ _ _ _ _ _ r x T (by omega))
      ((load2 1 _ _ _ 0 0 512 (by decide) (by decide) 0 q q (Nat.zero_add _).symm).trans (cln_g_blk m c t q)) ((load2 1 _ _ _ 0 0 512 (by decide) (by decide) 0 q q (Nat.zero_add _).symm).trans (cln_b_blk m c t q))).trans ((ref2 _ _ _ _ _ _ _ _ _ _ _ T q).symm.trans (congrArg (fun k => refAll m c (ix3 2 T k)) (Fin.ext (by omega))))
    · exact (plane1 _ _ _ _ _ _ _ (m ((c : Thread nD τ).loc main_arg0)) (m ((c : Thread nD τ).loc main_arg3)) z r q T
      (scr1 m c t _ _ _ _ _ _ _ _ _ 30 (by decide) r q (T.val + 30) (by omega)) (scr1 m c t _ _ _ _ _ _ _ _ _ 31 (by decide) r q (1 + T.val + 30) (by omega)) (scr1 m c t _ _ _ _ _ _ _ _ _ 32 (by decide) r q (2 + T.val + 30) (by omega))
      ((load2 3 _ _ _ 0 0 512 (by decide) (by decide) 0 q q (Nat.zero_add _).symm).trans (short_w_blk m c t 0 q)) ((load2 3 _ _ _ 1 0 512 (by decide) (by decide) 0 q q (Nat.zero_add _).symm).trans (short_w_blk m c t 1 q)) ((load2 3 _ _ _ 2 0 512 (by decide) (by decide) 0 q q (Nat.zero_add _).symm).trans (short_w_blk m c t 2 q))
      (gate_blk m c t _ _ r q T (by omega))).trans ((ref1 _ _ _ _ _ _ _ _ _ _ _ T q).symm.trans (congrArg (fun k => refAll m c (ix3 1 T k)) (Fin.ext (by omega))))
    · exact (pool3 (grid0.coords t) _ _ _ _ _ _ _ _ _ _ _ _ _ _ _ _ _ _ (m ((c : Thread nD τ).loc main_arg0)) (m ((c : Thread nD τ).loc main_arg1)) (m ((c : Thread nD τ).loc main_arg2)) z r q T Q (by rw [(idx t).2.2.2.2.2.2.1]; omega) hQ
      (fun x => scr0 m c t _ _ _ _ _ 32 384 (by decide) r x (15 + T.val + 17) _ (by omega) rfl)
      (fun x => scr0 m c t _ _ _ _ _ 31 384 (by decide) r x (14 + T.val + 17) _ (by omega) rfl)
      (fun x => scr0 m c t _ _ _ _ _ 30 384 (by decide) r x (13 + T.val + 17) _ (by omega) rfl)
      (fun x => scr0 m c t _ _ _ _ _ 29 384 (by decide) r x (12 + T.val + 17) _ (by omega) rfl)
      (fun x => scr0 m c t _ _ _ _ _ 28 384 (by decide) r x (11 + T.val + 17) _ (by omega) rfl)
      (fun x => scr0 m c t _ _ _ _ _ 27 384 (by decide) r x (10 + T.val + 17) _ (by omega) rfl)
      (fun x => scr0 m c t _ _ _ _ _ 26 384 (by decide) r x (9 + T.val + 17) _ (by omega) rfl)
      (fun x => scr0 m c t _ _ _ _ _ 25 384 (by decide) r x (8 + T.val + 17) _ (by omega) rfl)
      (fun x => scr0 m c t _ _ _ _ _ 24 384 (by decide) r x (7 + T.val + 17) _ (by omega) rfl)
      (fun x => scr0 m c t _ _ _ _ _ 23 384 (by decide) r x (6 + T.val + 17) _ (by omega) rfl)
      (fun x => scr0 m c t _ _ _ _ _ 22 384 (by decide) r x (5 + T.val + 17) _ (by omega) rfl)
      (fun x => scr0 m c t _ _ _ _ _ 21 384 (by decide) r x (4 + T.val + 17) _ (by omega) rfl)
      (fun x => scr0 m c t _ _ _ _ _ 20 384 (by decide) r x (3 + T.val + 17) _ (by omega) rfl)
      (fun x => scr0 m c t _ _ _ _ _ 19 384 (by decide) r x (2 + T.val + 17) _ (by omega) rfl)
      (fun x => scr0 m c t _ _ _ _ _ 18 384 (by decide) r x (1 + T.val + 17) _ (by omega) rfl)
      (fun x => scr0 m c t _ _ _ _ _ 17 384 (by decide) r x (T.val + 17) _ (by omega) rfl)
      (fun x => (load3 _ _ _ 3 (by decide) (by decide) 0 x q).trans (pool_w_blk m c t 3 x q)) ((load2 1 _ _ _ 0 384 128 (by decide) (by decide) 0 q Q hQ).trans (scale_blk m c t 0 Q))).trans (ref0 _ _ _ _ _ _ _ _ _ _ _ T Q).symm
    · exact (pool2 (grid0.coords t) _ _ _ _ _ _ _ _ _ _ (m ((c : Thread nD τ).loc main_arg0)) (m ((c : Thread nD τ).loc main_arg1)) (m ((c : Thread nD τ).loc main_arg2)) z r q T Q (by rw [(idx t).2.2.2.2.2.2.1]; omega) hQ
      (fun x => scr0 m c t _ _ _ _ _ 32 256 (by decide) r x (15 + T.val + 17) _ (by omega) rfl)
      (fun x => scr0 m c t _ _ _ _ _ 31 256 (by decide) r x (14 + T.val + 17) _ (by omega) rfl)
      (fun x => scr0 m c t _ _ _ _ _ 30 256 (by decide) r x (13 + T.val + 17) _ (by omega) rfl)
      (fun x => scr0 m c t _ _ _ _ _ 29 256 (by decide) r x (12 + T.val + 17) _ (by omega) rfl)
      (fun x => scr0 m c t _ _ _ _ _ 28 256 (by decide) r x (11 + T.val + 17) _ (by omega) rfl)
      (fun x => scr0 m c t _ _ _ _ _ 27 256 (by decide) r x (10 + T.val + 17) _ (by omega) rfl)
      (fun x => scr0 m c t _ _ _ _ _ 26 256 (by decide) r x (9 + T.val + 17) _ (by omega) rfl)
      (fun x => scr0 m c t _ _ _ _ _ 25 256 (by decide) r x (8 + T.val + 17) _ (by omega) rfl)
      (fun x => (load3 _ _ _ 2 (by decide) (by decide) 0 x q).trans (pool_w_blk m c t 2 x q)) ((load2 1 _ _ _ 0 256 128 (by decide) (by decide) 0 q Q hQ).trans (scale_blk m c t 0 Q))).trans (ref0 _ _ _ _ _ _ _ _ _ _ _ T Q).symm
    · exact (pool1 (grid0.coords t) _ _ _ _ _ _ (m ((c : Thread nD τ).loc main_arg0)) (m ((c : Thread nD τ).loc main_arg1)) (m ((c : Thread nD τ).loc main_arg2)) z r q T Q (by rw [(idx t).2.2.2.2.2.2.1]; omega) hQ
      (fun x => scr0 m c t _ _ _ _ _ 32 128 (by decide) r x (15 + T.val + 17) _ (by omega) rfl)
      (fun x => scr0 m c t _ _ _ _ _ 31 128 (by decide) r x (14 + T.val + 17) _ (by omega) rfl)
      (fun x => scr0 m c t _ _ _ _ _ 30 128 (by decide) r x (13 + T.val + 17) _ (by omega) rfl)
      (fun x => scr0 m c t _ _ _ _ _ 29 128 (by decide) r x (12 + T.val + 17) _ (by omega) rfl)
      (fun x => (load3 _ _ _ 1 (by decide) (by decide) 0 x q).trans (pool_w_blk m c t 1 x q)) ((load2 1 _ _ _ 0 128 128 (by decide) (by decide) 0 q Q hQ).trans (scale_blk m c t 0 Q))).trans (ref0 _ _ _ _ _ _ _ _ _ _ _ T Q).symm
    · exact (pool0 (grid0.coords t) _ _ _ _ (m ((c : Thread nD τ).loc main_arg0)) (m ((c : Thread nD τ).loc main_arg1)) (m ((c : Thread nD τ).loc main_arg2)) z r q T Q (by rw [(idx t).2.2.2.2.2.2.1]; omega) hQ
      (fun x => scr0 m c t _ _ _ _ _ 32 0 (by decide) r x (15 + T.val + 17) _ (by omega) (Nat.zero_add _).symm)
      (fun x => scr0 m c t _ _ _ _ _ 31 0 (by decide) r x (14 + T.val + 17) _ (by omega) (Nat.zero_add _).symm)
      (fun x => (load3 _ _ _ 0 (by decide) (by decide) 0 x q).trans (pool_w_blk m c t 0 x q)) ((load2 1 _ _ _ 0 0 128 (by decide) (by decide) 0 q Q hQ).trans (scale_blk m c t 0 Q))).trans (ref0 _ _ _ _ _ _ _ _ _ _ _ T Q).symm
  · have h0 : (y 0).val < 4 := (y 0).isLt
    have h1 : (y 1).val < 256 := (y 1).isLt
    have h2 : (y 2).val < 512 := (y 2).isLt
    have hc : ((y 0).val = 3 ∧ 128 ≤ (y 1).val ∧ (y 1).val < 256 ∧ 384 ≤ (y 2).val ∧ (y 2).val < 512) ∨ ((y 0).val = 3 ∧ 0 ≤ (y 1).val ∧ (y 1).val < 128 ∧ 384 ≤ (y 2).val ∧ (y 2).val < 512) ∨ ((y 0).val = 3 ∧ 128 ≤ (y 1).val ∧ (y 1).val < 256 ∧ 256 ≤ (y 2).val ∧ (y 2).val < 384) ∨ ((y 0).val = 3 ∧ 0 ≤ (y 1).val ∧ (y 1).val < 128 ∧ 256 ≤ (y 2).val ∧ (y 2).val < 384) ∨ ((y 0).val = 3 ∧ 128 ≤ (y 1).val ∧ (y 1).val < 256 ∧ 128 ≤ (y 2).val ∧ (y 2).val < 256) ∨ ((y 0).val = 3 ∧ 0 ≤ (y 1).val ∧ (y 1).val < 128 ∧ 128 ≤ (y 2).val ∧ (y 2).val < 256) ∨ ((y 0).val = 3 ∧ 128 ≤ (y 1).val ∧ (y 1).val < 256 ∧ 0 ≤ (y 2).val ∧ (y 2).val < 128) ∨ ((y 0).val = 3 ∧ 0 ≤ (y 1).val ∧ (y 1).val < 128 ∧ 0 ≤ (y 2).val ∧ (y 2).val < 128) ∨ ((y 0).val = 2 ∧ 0 ≤ (y 1).val ∧ (y 1).val < 256 ∧ 0 ≤ (y 2).val ∧ (y 2).val < 512) ∨ ((y 0).val = 1 ∧ 0 ≤ (y 1).val ∧ (y 1).val < 256 ∧ 0 ≤ (y 2).val ∧ (y 2).val < 512) ∨ ((y 0).val = 0 ∧ 0 ≤ (y 1).val ∧ (y 1).val < 256 ∧ 384 ≤ (y 2).val ∧ (y 2).val < 512) ∨ ((y 0).val = 0 ∧ 0 ≤ (y 1).val ∧ (y 1).val < 256 ∧ 256 ≤ (y 2).val ∧ (y 2).val < 384) ∨ ((y 0).val = 0 ∧ 0 ≤ (y 1).val ∧ (y 1).val < 256 ∧ 128 ≤ (y 2).val ∧ (y 2).val < 256) ∨ ((y 0).val = 0 ∧ 0 ≤ (y 1).val ∧ (y 1).val < 256 ∧ 0 ≤ (y 2).val ∧ (y 2).val < 128) := by omega
    rcases hc with ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩ | ⟨a, b, b', d, d'⟩
    · exact ⟨_, List.mem_cons_self .., mem_piece 3 128 384 128 128 (by decide) y a b b' d d'⟩
    · exact ⟨_, List.mem_cons_of_mem _ (List.mem_cons_self ..), mem_piece 3 0 384 128 128 (by decide) y a b b' d d'⟩
    · exact ⟨_, List.mem_cons_of_mem _ (List.mem_cons_of_mem _ (List.mem_cons_self ..)), mem_piece 3 128 256 128 128 (by decide) y a b b' d d'⟩
    · exact ⟨_, List.mem_cons_of_mem _ (List.mem_cons_of_mem _ (List.mem_cons_of_mem _ (List.mem_cons_self ..))), mem_piece 3 0 256 128 128 (by decide) y a b b' d d'⟩
    · exact ⟨_, List.mem_cons_of_mem _ (List.mem_cons_of_mem _ (List.mem_cons_of_mem _ (List.mem_cons_of_mem _ (List.mem_cons_self ..)))), mem_piece 3 128 128 128 128 (by decide) y a b b' d d'⟩
    · exact ⟨_, List.mem_cons_of_mem _ (List.mem_cons_of_mem _ (List.mem_cons_of_mem _ (List.mem_cons_of_mem _ (List.mem_cons_of_mem _ (List.mem_cons_self ..))))), mem_piece 3 0 128 128 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_self ..)))))), mem_piece 3 128 0 128 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_piece 3 0 0 128 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_piece 2 0 0 256 512 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_piece 1 0 0 256 512 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_piece 0 0 384 256 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_piece 0 0 256 256 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), mem_piece 0 0 128 256 128 (by decide) y a b b' d d'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), mem_piece 0 0 0 256 128 (by decide) y a b b' d d'⟩
  · unfold block
    blk_point [idx'' t]

end Cert.Kernel14Ideal.Mix
-- ==== Proof.lean ====
module

public import proofs.«01_k».proof.Defs
public import proofs.«01_k».proof.Proof.Gen.On_written
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.MergeValue
public import proofs.«01_k».proof.Proof.UpValue
public import proofs.«01_k».proof.Proof.OutValue
public import proofs.«01_k».proof.Proof.HiddenValue
public import proofs.«01_k».proof.Proof.InValue
public import proofs.«01_k».proof.Proof.DownValue
public import proofs.«01_k».proof.Proof.WideValue
public import proofs.«01_k».proof.Proof.ProjBack
public import proofs.«01_k».proof.Proof.UpBack
public import proofs.«01_k».proof.Proof.MergeForward
public import proofs.«01_k».proof.Proof.ProjForward
public import proofs.«01_k».proof.Proof.WideForward
public import proofs.«01_k».proof.Proof.DownForward
public import proofs.«01_k».proof.Proof.ConvForward
public import proofs.«01_k».proof.Proof.MixForward
public import Idealize.ShloMosaic.Adequacy
public import Idealize.ShloMosaic.Init

@[expose] public section

noncomputable section

namespace Cert.Proof

open Idealize.ShloMosaic Idealize.ShloMosaic.TcCoe Idealize.SL.Sem

/-- The gradient of the gated merge. -/
theorem merge : Cert.algebraic_KernelIdeal_ReferenceIdeal_on_written := by
  intro m g m' g' _ ha
  refine ⟨fun c => Cert.ReferenceIdeal.Read.val_main_v25 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg2)) (m ((c : Thread Cert.KernelIdeal.nD Cert.KernelIdeal.τ).loc Cert.KernelIdeal.main_arg4)),
    fun c => Cert.ReferenceIdeal.Read.val_main_v26 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4)),
    fun c => Cert.ReferenceIdeal.Read.val_main_v22 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run _ _ _).mono (fun r h c => ?_) (Cert.KernelIdeal.Value.run_blocks m g)
    obtain ⟨h5, h6, h7, hk⟩ := h c
    refine ⟨fun i _ => congrFun (h5.trans (Cert.KernelIdeal.Merge.final5 m c)) i, fun i hi => ?_,
      fun i _ => congrFun (h7.trans (Cert.KernelIdeal.Merge.final7 m c)) i, hk⟩
    refine (congrFun (h6.trans (Cert.KernelIdeal.Merge.final6 m c)) i).trans (if_pos ?_)
    exact Cert.KernelIdeal.Merge.written_ge _ _ _ _ _ i hi
  · refine (θ_run _ _ _).mono (fun r h c => ?_) (Cert.ReferenceIdeal.Value.run m' g')
    obtain ⟨h5, h6, h7, hk⟩ := h c
    obtain ⟨a0, a1, a2, a3, a4⟩ := ha c
    refine ⟨fun i _ => congrFun (h5.trans ?_) i, fun i _ => congrFun (h6.trans ?_) i, fun i _ => congrFun (h7.trans ?_) i, hk⟩
    · rw [Cert.ReferenceIdeal.Read.val_main_v25_eq, a0, a2, a4]
    · rw [Cert.ReferenceIdeal.Read.val_main_v26_eq, a0, a1, a2, a3, a4]
    · rw [Cert.ReferenceIdeal.Read.val_main_v22_eq, a0, a2, a3, a4]

/-- The gradient of the up projections. -/
theorem up : Cert.algebraic_Kernel2Ideal_Reference2Ideal := by
  intro m g m' g' _ ha
  refine ⟨fun c => Cert.Reference2Ideal.Read.val_main_v6 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1)), ?_, ?_⟩
  · refine (θ_run _ _ _).mono (fun r h c => ?_) (Cert.Kernel2Ideal.Value.run m g)
    exact ⟨(h c).1.trans ((Cert.Kernel2Ideal.Value.final2 m c).symm.trans (Cert.Kernel2Ideal.Up.final m c)), (h c).2⟩
  · refine (θ_run _ _ _).mono (fun r h c => ⟨(h c).1.trans ?_, (h c).2⟩) (Cert.Reference2Ideal.Value.run m' g')
    obtain ⟨a0, a1⟩ := ha c
    rw [Cert.Reference2Ideal.Read.val_main_v6_eq, a0, a1]

/-- The gradient of the output projection. -/
theorem out : Cert.algebraic_Kernel3Ideal_Reference3Ideal := by
  intro m g m' g' _ ha
  refine ⟨fun c => Cert.Reference3Ideal.Read.val_main_v8 (F := Ideal) (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1)), ?_, ?_⟩
  · refine (θ_run _ _ _).mono (fun r h c => ?_) (Cert.Kernel3Ideal.Value.run m g)
    exact ⟨(h c).1.trans ((Cert.Kernel3Ideal.Value.final2 m c).symm.trans (Cert.Kernel3Ideal.Out.final m c)), (h c).2⟩
  · refine (θ_run _ _ _).mono (fun r h c => ⟨(h c).1.trans ?_, (h c).2⟩) (Cert.Reference3Ideal.Value.run m' g')
    obtain ⟨a0, a1⟩ := ha c
    rw [Cert.Reference3Ideal.Read.val_main_v8_eq, a0, a1]

/-- The gradient of the input projections. -/
theorem proj : Cert.algebraic_Kernel5Ideal_Reference5Ideal := by
  intro m g m' g' _ ha
  refine ⟨fun c => Cert.Reference5Ideal.Read.val_main_v9 (F := Ideal) (m ((c : Thread Cert.Kernel5Ideal.nD Cert.Kernel5Ideal.τ).loc Cert.Kernel5Ideal.main_arg0))
        (m ((c : Thread Cert.Kernel5Ideal.nD Cert.Kernel5Ideal.τ).loc Cert.Kernel5Ideal.main_arg1)), ?_, ?_⟩
  · refine (θ_run _ _ _).mono (fun r h c => ?_) (Cert.Kernel5Ideal.Value.run_blocks m g)
    exact ⟨(h c).1.trans (Cert.Kernel5Ideal.In.final m c), (h c).2⟩
  · refine (θ_run _ _ _).mono (fun r h c => ⟨(h c).1.trans ?_, (h c).2⟩) (Cert.Reference5Ideal.Value.run m' g')
    obtain ⟨a0, a1⟩ := ha c
    rw [Cert.Reference5Ideal.Read.val_main_v9_eq, a0, a1]

/-- The gradient of the feed-forward layer's second product. -/
theorem down : Cert.algebraic_Kernel6Ideal_Reference6Ideal := by
  intro m g m' g' _ ha
  refine ⟨fun c => Cert.Reference6Ideal.Read.val_main_v8 (F := Ideal) (m ((c : Thread Cert.Kernel6Ideal.nD Cert.Kernel6Ideal.τ).loc Cert.Kernel6Ideal.main_arg0))
        (m ((c : Thread Cert.Kernel6Ideal.nD Cert.Kernel6Ideal.τ).loc Cert.Kernel6Ideal.main_arg1)), ?_, ?_⟩
  · refine (θ_run _ _ _).mono (fun r h c => ?_) (Cert.Kernel6Ideal.Value.run_blocks m g)
    exact ⟨(h c).1.trans (Cert.Kernel6Ideal.Down.final m c), (h c).2⟩
  · refine (θ_run _ _ _).mono (fun r h c => ⟨(h c).1.trans ?_, (h c).2⟩) (Cert.Reference6Ideal.Value.run m' g')
    obtain ⟨a0, a1⟩ := ha c
    rw [Cert.Reference6Ideal.Read.val_main_v8_eq, a0, a1]

/-- The gradient of the feed-forward layer's first products. -/
theorem wide : Cert.algebraic_Kernel7Ideal_Reference7Ideal := by
  intro m g m' g' _ ha
  refine ⟨fun c => Cert.Reference7Ideal.Read.val_main_v8 (F := Ideal) (m ((c : Thread Cert.Kernel7Ideal.nD Cert.Kernel7Ideal.τ).loc Cert.Kernel7Ideal.main_arg0))
        (m ((c : Thread Cert.Kernel7Ideal.nD Cert.Kernel7Ideal.τ).loc Cert.Kernel7Ideal.main_arg1)), ?_, ?_⟩
  · refine (θ_run _ _ _).mono (fun r h c => ?_) (Cert.Kernel7Ideal.Value.run_blocks m g)
    exact ⟨(h c).1.trans (Cert.Kernel7Ideal.Wide.final m c), (h c).2⟩
  · refine (θ_run _ _ _).mono (fun r h c => ⟨(h c).1.trans ?_, (h c).2⟩) (Cert.Reference7Ideal.Value.run m' g')
    obtain ⟨a0, a1⟩ := ha c
    rw [Cert.Reference7Ideal.Read.val_main_v8_eq, a0, a1]

/-- The gradient of the feed-forward layer's gated hidden values. -/
theorem hidden : Cert.algebraic_Kernel4Ideal_Reference4Ideal_pre_finite := by
  intro m g m' g' hp ha
  refine ⟨fun c => Cert.Reference4Ideal.Read.val_main_v20 (F := Ideal) (m ((c : Thread Cert.Kernel4Ideal.nD Cert.Kernel4Ideal.τ).loc Cert.Kernel4Ideal.main_arg0))
        (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)),
    fun c => Cert.Reference4Ideal.Read.val_main_v21 (F := Ideal) (m ((c : Thread Cert.Kernel4Ideal.nD Cert.Kernel4Ideal.τ).loc Cert.Kernel4Ideal.main_arg2)), ?_, ?_⟩
  · refine (θ_run _ _ _).mono (fun r h c => ?_) (Cert.Kernel4Ideal.Value.run_blocks m g)
    obtain ⟨h3, h4, hk⟩ := h c
    obtain ⟨p0, p1, p2⟩ := hp c
    exact ⟨h3.trans (Cert.Kernel4Ideal.Hidden.final3 m c (Cert.Kernel4Ideal.Hidden.real_of_pre _ _ _ p0 p1 p2)),
      h4.trans (Cert.Kernel4Ideal.Hidden.final4 m c), hk⟩
  · refine (θ_run _ _ _).mono (fun r h c => ?_) (Cert.Reference4Ideal.Value.run m' g')
    obtain ⟨h3, h4, hk⟩ := h c
    obtain ⟨a0, a1, a2⟩ := ha c
    refine ⟨h3.trans ?_, h4.trans ?_, hk⟩
    · rw [Cert.Reference4Ideal.Read.val_main_v20_eq, a0, a1, a2]
    · rw [Cert.Reference4Ideal.Read.val_main_v21_eq, a2]

/-- The gradient through the input projections and their normalisation. -/
theorem proj_back : Cert.algebraic_Kernel8Ideal_Reference8Ideal := by
  intro m g m' g' _ ha
  refine ⟨fun c => Cert.Reference8Ideal.Read.val_main_v40 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2))
        (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)),
    fun c => Cert.Reference8Ideal.Read.val_main_v23 (F := Ideal) (m ((c : Thread Cert.Kernel8Ideal.nD Cert.Kernel8Ideal.τ).loc Cert.Kernel8Ideal.main_arg0))
        (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)), ?_, ?_⟩
  · refine (θ_run _ _ _).mono (fun r h c => ?_) (Cert.Kernel8Ideal.Value.run_blocks m g)
    obtain ⟨h5, h6, hk⟩ := h c
    exact ⟨h5.trans (Cert.Kernel8Ideal.Proj.final5 m c), h6.trans (Cert.Kernel8Ideal.Proj.final6 m c), hk⟩
  · refine (θ_run _ _ _).mono (fun r h c => ?_) (Cert.Reference8Ideal.Value.run m' g')
    obtain ⟨h5, h6, hk⟩ := h c
    obtain ⟨a0, a1, a2, a3, a4⟩ := ha c
    refine ⟨h5.trans ?_, h6.trans ?_, hk⟩
    · rw [Cert.Reference8Ideal.Read.val_main_v40_eq, a0, a1, a2, a3, a4]
    · rw [Cert.Reference8Ideal.Read.val_main_v23_eq, a0, a1, a2]

/-- The gradient through the feed-forward layer's first products and their normalisation. -/
theorem up_back : Cert.algebraic_Kernel9Ideal_Reference9Ideal := by
  intro m g m' g' _ ha
  refine ⟨fun c => Cert.Reference9Ideal.Read.val_main_v40 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2))
        (m ((c : Thread Cert.Kernel9Ideal.nD Cert.Kernel9Ideal.τ).loc Cert.Kernel9Ideal.main_arg3)) (m ((c : Thread Cert.Kernel9Ideal.nD Cert.Kernel9Ideal.τ).loc Cert.Kernel9Ideal.main_arg4)),
    fun c => Cert.Reference9Ideal.Read.val_main_v23 (F := Ideal) (m ((c : Thread Cert.Kernel9Ideal.nD Cert.Kernel9Ideal.τ).loc Cert.Kernel9Ideal.main_arg0))
        (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)), ?_, ?_⟩
  · refine (θ_run _ _ _).mono (fun r h c => ?_) (Cert.Kernel9Ideal.Value.run_blocks m g)
    obtain ⟨h5, h6, hk⟩ := h c
    exact ⟨h5.trans (Cert.Kernel9Ideal.Up.final5 m c), h6.trans (Cert.Kernel9Ideal.Up.final6 m c), hk⟩
  · refine (θ_run _ _ _).mono (fun r h c => ?_) (Cert.Reference9Ideal.Value.run m' g')
    obtain ⟨h5, h6, hk⟩ := h c
    obtain ⟨a0, a1, a2, a3, a4⟩ := ha c
    refine ⟨h5.trans ?_, h6.trans ?_, hk⟩
    · rw [Cert.Reference9Ideal.Read.val_main_v40_eq, a0, a1, a2, a3, a4]
    · rw [Cert.Reference9Ideal.Read.val_main_v23_eq, a0, a1, a2]

/-- The gated merge going forward. -/
theorem merge_forward : Cert.algebraic_Kernel10Ideal_Reference10Ideal := by
  intro m g m' g' _ ha
  refine ⟨fun c => Cert.Reference10Ideal.Read.val_main_v14 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2))
        (m ((c : Thread Cert.Kernel10Ideal.nD Cert.Kernel10Ideal.τ).loc Cert.Kernel10Ideal.main_arg3)) (m ((c : Thread Cert.Kernel10Ideal.nD Cert.Kernel10Ideal.τ).loc Cert.Kernel10Ideal.main_arg4)),
    fun c => Cert.Reference10Ideal.Read.val_main_v15 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)),
    fun c => Cert.Reference10Ideal.Read.val_main_v28 (F := Ideal) (m ((c : Thread Cert.Kernel10Ideal.nD Cert.Kernel10Ideal.τ).loc Cert.Kernel10Ideal.main_arg0))
        (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2))
        (m ((c : Thread Cert.Kernel10Ideal.nD Cert.Kernel10Ideal.τ).loc Cert.Kernel10Ideal.main_arg3)) (m ((c : Thread Cert.Kernel10Ideal.nD Cert.Kernel10Ideal.τ).loc Cert.Kernel10Ideal.main_arg4))
        (m ((c : Thread Cert.Kernel10Ideal.nD Cert.Kernel10Ideal.τ).loc Cert.Kernel10Ideal.main_arg5)), ?_, ?_⟩
  · refine (θ_run _ _ _).mono (fun r h c => ?_) (Cert.Kernel10Ideal.Value.run_blocks m g)
    obtain ⟨h6, h7, h8, hk⟩ := h c
    exact ⟨h6.trans (Cert.Kernel10Ideal.Merge.final6 m c), h7.trans (Cert.Kernel10Ideal.Merge.final7 m c), h8.trans (Cert.Kernel10Ideal.Merge.final8 m c), hk⟩
  · refine (θ_run _ _ _).mono (fun r h c => ?_) (Cert.Reference10Ideal.Value.run m' g')
    obtain ⟨h6, h7, h8, hk⟩ := h c
    obtain ⟨a0, a1, a2, a3, a4, a5⟩ := ha c
    refine ⟨h6.trans ?_, h7.trans ?_, h8.trans ?_, hk⟩
    · rw [Cert.Reference10Ideal.Read.val_main_v14_eq, a0, a1, a2, a3, a4]
    · rw [Cert.Reference10Ideal.Read.val_main_v15_eq, a0, a1, a2]
    · rw [Cert.Reference10Ideal.Read.val_main_v28_eq, a0, a1, a2, a3, a4, a5]

/-- The input projections. -/
theorem proj_forward : Cert.algebraic_Kernel11Ideal_Reference11Ideal := by
  intro m g m' g' _ ha
  refine ⟨fun c => Cert.Reference11Ideal.Read.val_main_v3 (F := Ideal) (m ((c : Thread Cert.Kernel11Ideal.nD Cert.Kernel11Ideal.τ).loc Cert.Kernel11Ideal.main_arg0))
        (m ((c : Thread Cert.Kernel11Ideal.nD Cert.Kernel11Ideal.τ).loc Cert.Kernel11Ideal.main_arg1)), ?_, ?_⟩
  · refine (θ_run _ _ _).mono (fun r h c => ?_) (Cert.Kernel11Ideal.Value.run_blocks m g)
    obtain ⟨h2, hk⟩ := h c
    exact ⟨h2.trans (Cert.Kernel11Ideal.Proj.final m c), hk⟩
  · refine (θ_run _ _ _).mono (fun r h c => ?_) (Cert.Reference11Ideal.Value.run m' g')
    obtain ⟨h2, hk⟩ := h c
    obtain ⟨a0, a1⟩ := ha c
    refine ⟨h2.trans ?_, hk⟩
    · rw [Cert.Reference11Ideal.Read.val_main_v3_eq, a0, a1]

/-- The feed-forward layer's first products. -/
theorem wide_forward : Cert.algebraic_Kernel12Ideal_Reference12Ideal := by
  intro m g m' g' _ ha
  refine ⟨fun c => Cert.Reference12Ideal.Read.val_main_v4 (F := Ideal) (m ((c : Thread Cert.Kernel12Ideal.nD Cert.Kernel12Ideal.τ).loc Cert.Kernel12Ideal.main_arg0))
        (m ((c : Thread Cert.Kernel12Ideal.nD Cert.Kernel12Ideal.τ).loc Cert.Kernel12Ideal.main_arg1)), ?_, ?_⟩
  · refine (θ_run _ _ _).mono (fun r h c => ?_) (Cert.Kernel12Ideal.Value.run_blocks m g)
    obtain ⟨h2, hk⟩ := h c
    exact ⟨h2.trans (Cert.Kernel12Ideal.Wide.final m c), hk⟩
  · refine (θ_run _ _ _).mono (fun r h c => ?_) (Cert.Reference12Ideal.Value.run m' g')
    obtain ⟨h2, hk⟩ := h c
    obtain ⟨a0, a1⟩ := ha c
    refine ⟨h2.trans ?_, hk⟩
    · rw [Cert.Reference12Ideal.Read.val_main_v4_eq, a0, a1]

/-- The feed-forward layer's second product and the normalisation after it. -/
theorem down_forward : Cert.algebraic_Kernel13Ideal_Reference13Ideal := by
  intro m g m' g' _ ha
  refine ⟨fun c => Cert.Reference13Ideal.Read.val_main_v11 (F := Ideal) (m ((c : Thread Cert.Kernel13Ideal.nD Cert.Kernel13Ideal.τ).loc Cert.Kernel13Ideal.main_arg0))
        (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)),
    fun c => Cert.Reference13Ideal.Read.val_main_v24 (F := Ideal) (m ((c : Thread Cert.Kernel13Ideal.nD Cert.Kernel13Ideal.τ).loc Cert.Kernel13Ideal.main_arg0))
        (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2))
        (m ((c : Thread Cert.Kernel13Ideal.nD Cert.Kernel13Ideal.τ).loc Cert.Kernel13Ideal.main_arg3)), ?_, ?_⟩
  · refine (θ_run _ _ _).mono (fun r h c => ?_) (Cert.Kernel13Ideal.Value.run_blocks m g)
    obtain ⟨h4, h5, hk⟩ := h c
    exact ⟨h4.trans (Cert.Kernel13Ideal.Down.final4 m c), h5.trans (Cert.Kernel13Ideal.Down.final5 m c), hk⟩
  · refine (θ_run _ _ _).mono (fun r h c => ?_) (Cert.Reference13Ideal.Value.run m' g')
    obtain ⟨h4, h5, hk⟩ := h c
    obtain ⟨a0, a1, a2, a3⟩ := ha c
    refine ⟨h4.trans ?_, h5.trans ?_, hk⟩
    · rw [Cert.Reference13Ideal.Read.val_main_v11_eq, a0, a1, a2]
    · rw [Cert.Reference13Ideal.Read.val_main_v24_eq, a0, a1, a2, a3]

/-- The four mixers going forward, and the long convolution kept for the backward pass. -/
theorem mixers_forward : Cert.algebraic_Kernel14Ideal_Reference14Ideal := by
  intro m g m' g' _ ha
  refine ⟨fun c => Cert.Reference14Ideal.Read.val_main_v487 (F := Ideal) (m ((c : Thread Cert.Kernel14Ideal.nD Cert.Kernel14Ideal.τ).loc Cert.Kernel14Ideal.main_arg0))
        (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2))
        (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg4))
        (m ((c : Thread Cert.Kernel14Ideal.nD Cert.Kernel14Ideal.τ).loc Cert.Kernel14Ideal.main_arg5)) (m ((c : Thread Cert.Kernel14Ideal.nD Cert.Kernel14Ideal.τ).loc Cert.Kernel14Ideal.main_arg6))
        (m ((c : Thread Cert.Kernel14Ideal.nD Cert.Kernel14Ideal.τ).loc Cert.Kernel14Ideal.main_arg7)) (m ((c : Thread Cert.Kernel14Ideal.nD Cert.Kernel14Ideal.τ).loc Cert.Kernel14Ideal.main_arg8))
        (m ((c : Thread Cert.Kernel14Ideal.nD Cert.Kernel14Ideal.τ).loc Cert.Kernel14Ideal.main_arg9)) (m ((c : Thread Cert.Kernel14Ideal.nD Cert.Kernel14Ideal.τ).loc Cert.Kernel14Ideal.main_arg10)),
    fun c => Cert.Reference14Ideal.Read.val_main_v417 (F := Ideal) (m ((c : Thread Cert.Kernel14Ideal.nD Cert.Kernel14Ideal.τ).loc Cert.Kernel14Ideal.main_arg0))
        (m ((c : Thread Cert.Kernel14Ideal.nD Cert.Kernel14Ideal.τ).loc Cert.Kernel14Ideal.main_arg4)), ?_, ?_⟩
  · refine (θ_run _ _ _).mono (fun r h c => ?_) (Cert.Kernel14Ideal.Value.run_blocks m g)
    obtain ⟨h23, h24, hk⟩ := h c
    exact ⟨h23.trans (Cert.Kernel14Ideal.Mix.final23 m c), h24.trans (Cert.Kernel14Ideal.Mix.conv_final m c), hk⟩
  · refine (θ_run _ _ _).mono (fun r h c => ?_) (Cert.Reference14Ideal.Value.run m' g')
    obtain ⟨h23, h24, hk⟩ := h c
    obtain ⟨a0, a1, a2, a3, a4, a5, a6, a7, a8, a9, a10⟩ := ha c
    refine ⟨h23.trans ?_, h24.trans ?_, hk⟩
    · rw [Cert.Reference14Ideal.Read.val_main_v487_eq]
      repeat rw [Idealize.ShloMosaic.StableHlo.launchContents_devRef]
      rw [a0, a1, a2, a3, a4, a5, a6, a7, a8, a9, a10]
    · rw [Cert.Reference14Ideal.Read.val_main_v417_eq]
      repeat rw [Idealize.ShloMosaic.StableHlo.launchContents_devRef]
      rw [a0, a4]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts,
    Cert.On_written.Gen.facts,
    fun m ρ _ => Cert.Kernel.Gen.frame m ρ, fun m ρ _ => Cert.KernelIdeal.Gen.frame m ρ,
    fun m ρ _ => (θ_run _ _ _).mono (fun r h => ⟨fun c => (h c).2.2.2, sem_eq_zero_of_no_sems (by decide) _⟩)
      (Cert.ReferenceIdeal.Value.run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) _⟩)
      (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems (by decide) _⟩)
      (Cert.Reference3Ideal.Value.run m ρ),
    fun m ρ _ => Cert.Kernel4.Gen.frame m ρ, fun m ρ _ => Cert.Kernel4Ideal.Gen.frame m ρ, fun m ρ _ => Cert.Kernel4Ideal.Gen.frame m ρ,
    fun m ρ _ => (θ_run _ _ _).mono (fun r h => ⟨fun c => (h c).2.2, sem_eq_zero_of_no_sems (by decide) _⟩)
      (Cert.Reference4Ideal.Value.run m ρ),
    fun m ρ _ => (θ_run _ _ _).mono (fun r h => ⟨fun c => (h c).2.2, sem_eq_zero_of_no_sems (by decide) _⟩)
      (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2, sem_eq_zero_of_no_sems (by decide) _⟩)
      (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2, sem_eq_zero_of_no_sems (by decide) _⟩)
      (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2, sem_eq_zero_of_no_sems (by decide) _⟩)
      (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2.2, sem_eq_zero_of_no_sems (by decide) _⟩)
      (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2.2, sem_eq_zero_of_no_sems (by decide) _⟩)
      (Cert.Reference9Ideal.Value.run m ρ),
    fun m ρ _ => Cert.Kernel10.Gen.frame m ρ, fun m ρ _ => Cert.Kernel10Ideal.Gen.frame m ρ,
    fun m ρ _ => (θ_run _ _ _).mono (fun r h => ⟨fun c => (h c).2.2.2, sem_eq_zero_of_no_sems (by decide) _⟩)
      (Cert.Reference10Ideal.Value.run m ρ),
    fun m ρ _ => Cert.Kernel11.Gen.frame m ρ, fun m ρ _ => Cert.Kernel11Ideal.Gen.frame m ρ,
    fun m ρ _ => (θ_run _ _ _).mono (fun r h => ⟨fun c => (h c).2, sem_eq_zero_of_no_sems (by decide) _⟩)
      (Cert.Reference11Ideal.Value.run m ρ),
    fun m ρ _ => Cert.Kernel12.Gen.frame m ρ, fun m ρ _ => Cert.Kernel12Ideal.Gen.frame m ρ,
    fun m ρ _ => (θ_run _ _ _).mono (fun r h => ⟨fun c => (h c).2, sem_eq_zero_of_no_sems (by decide) _⟩)
      (Cert.Reference12Ideal.Value.run m ρ),
    fun m ρ _ => Cert.Kernel13.Gen.frame m ρ, fun m ρ _ => Cert.Kernel13Ideal.Gen.frame m ρ,
    fun m ρ _ => (θ_run _ _ _).mono (fun r h => ⟨fun c => (h c).2.2, sem_eq_zero_of_no_sems (by decide) _⟩)
      (Cert.Reference13Ideal.Value.run m ρ),
    fun m ρ _ => Cert.Kernel14.Gen.frame m ρ, fun m ρ _ => Cert.Kernel14Ideal.Gen.frame m ρ,
    fun m ρ _ => (θ_run _ _ _).mono (fun r h => ⟨fun c => (h c).2.2, sem_eq_zero_of_no_sems (by decide) _⟩)
      (Cert.Reference14Ideal.Value.run m ρ),
    trivial, merge, trivial, up, trivial, out, trivial, hidden, trivial, proj, trivial, down, trivial, wide, trivial, proj_back, trivial, up_back,
    trivial, merge_forward, trivial, proj_forward, trivial, wide_forward, trivial, down_forward, trivial, mixers_forward⟩

end Cert.Proof

end
